-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_search_exact [hPre_search_exact : Cert.Pre_search_exact.Facts] (m : (ℓ : Loc Cert.KernelIdeal.nD Cert.KernelIdeal.τ Cert.KernelIdeal.sig) → Buf (Elt Ideal) ℓ) : Prop :=
  ∀ c : Dev Cert.KernelIdeal.nD,
    (Cert.Pre_search_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_search_exact [hPre_search_exact : Cert.Pre_search_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_search_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_search_exact [hKernelIdeal : Cert.KernelIdeal.Facts] [hPre_search_exact : Cert.Pre_search_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_search_exact m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_search_exact [hReferenceIdeal : Cert.ReferenceIdeal.Facts] [hPre_search_exact : Cert.Pre_search_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_search_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_search_exact [hKernelIdeal : Cert.KernelIdeal.Facts] [hReferenceIdeal : Cert.ReferenceIdeal.Facts] [hPre_search_exact : Cert.Pre_search_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_search_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_cst_3)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_cst_3) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_cst_30) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_rows_named : Cert.Pre_rows_named.Facts) (hPre_search_exact : Cert.Pre_search_exact.Facts),
    quiescent_Kernel (hKernel := hKernel) (hPre_rows_named := hPre_rows_named)
    ∧ quiescent_KernelIdeal (hKernelIdeal := hKernelIdeal) (hPre_rows_named := hPre_rows_named)
    ∧ quiescent_KernelIdeal_pre_search_exact (hKernelIdeal := hKernelIdeal) (hPre_search_exact := hPre_search_exact)
    ∧ quiescent_ReferenceIdeal (hReferenceIdeal := hReferenceIdeal)
    ∧ quiescent_ReferenceIdeal_pre_search_exact (hReferenceIdeal := hReferenceIdeal) (hPre_search_exact := hPre_search_exact)
    ∧ preserves_Kernel_KernelIdeal
    ∧ algebraic_KernelIdeal_ReferenceIdeal_pre_search_exact (hKernelIdeal := hKernelIdeal) (hReferenceIdeal := hReferenceIdeal) (hPre_search_exact := hPre_search_exact)
-- ==== Pre_rows_named.lean ====
abbrev S1024x64 : Shape := ⟨2, ![1024, 64]⟩
abbrev S1024 : Shape := ⟨1, ![1024]⟩
abbrev S64x64 : Shape := ⟨2, ![64, 64]⟩
abbrev S64 : Shape := ⟨1, ![64]⟩
abbrev S100000x64 : Shape := ⟨2, ![100000, 64]⟩
abbrev S16384x16 : Shape := ⟨2, ![16384, 16]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : FVec F S64x64 .f32) (main_arg3 : FVec F S64 .f32) (main_arg4 : FVec F S100000x64 .f32) (main_arg5 : IVec S16384x16 32) (main_arg6 : FVec F S16384x16 .f32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16384#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Pre_search_exact.lean ====
abbrev S1024x64 : Shape := ⟨2, ![1024, 64]⟩
abbrev S1024 : Shape := ⟨1, ![1024]⟩
abbrev S64x64 : Shape := ⟨2, ![64, 64]⟩
abbrev S64 : Shape := ⟨1, ![64]⟩
abbrev S100000x64 : Shape := ⟨2, ![100000, 64]⟩
abbrev S16384x16 : Shape := ⟨2, ![16384, 16]⟩
abbrev S_ : Shape := ⟨0, ![]⟩
abbrev S1x64 : Shape := ⟨2, ![1, 64]⟩
abbrev S1024x1 : Shape := ⟨2, ![1024, 1]⟩
abbrev S64x100000 : Shape := ⟨2, ![64, 100000]⟩
abbrev S1024x100000 : Shape := ⟨2, ![1024, 100000]⟩
abbrev S100000 : Shape := ⟨1, ![100000]⟩
abbrev S1x100000 : Shape := ⟨2, ![1, 100000]⟩
abbrev S1024x17 : Shape := ⟨2, ![1024, 17]⟩
abbrev S1024x16 : Shape := ⟨2, ![1024, 16]⟩
abbrev S1024x16x1 : Shape := ⟨3, ![1024, 16, 1]⟩
abbrev S1024x1x16 : Shape := ⟨3, ![1024, 1, 16]⟩
abbrev S1024x16x16 : Shape := ⟨3, ![1024, 16, 16]⟩

class Facts : Prop where
  bcast_S_S1024 : S_.BroadcastsInDim S1024 (![] : Fin 0 → Fin S1024.rank)
  bcast_S_S100000x64 : S_.BroadcastsInDim S100000x64 (![] : Fin 0 → Fin S100000x64.rank)
  reducesTo_S100000x64_S_d0_1 : S100000x64.ReducesTo [0, 1] S_
  h_S_ : 0 < S_.numel
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  reducesTo_S1024x64_S1024_d1 : S1024x64.ReducesTo [1] S1024
  bcast_S1024_S1024x1_0 : S1024.BroadcastsInDim S1024x1 (![0] : Fin 1 → Fin S1024x1.rank)
  bcast_S_S1024x64 : S_.BroadcastsInDim S1024x64 (![] : Fin 0 → Fin S1024x64.rank)
  transposes_S100000x64_S64x100000_1_0 : S100000x64.Transposes [1, 0] S64x100000
  bcast_S1024x1_S1024x100000_0_1 : S1024x1.BroadcastsInDim S1024x100000 (![0, 1] : Fin 2 → Fin S1024x100000.rank)
  reducesTo_S100000x64_S100000_d1 : S100000x64.ReducesTo [1] S100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  sliceFits_S1024x100000_S1024x17 : S1024x100000.Slices (fun _ => 0) S1024x17
  slices_S1024x17_S1024x16_0_0 : S1024x17.Slices ![0, 0] S1024x16
  slices_S1024x17_S1024x16_0_1 : S1024x17.Slices ![0, 1] S1024x16
  reducesTo_S1024x16_S1024_d1 : S1024x16.ReducesTo [1] S1024
  slices_S1024x17_S1024x1_0_15 : S1024x17.Slices ![0, 15] S1024x1
  shapeCasts_S1024x1_S1024 : S1024x1.ShapeCasts S1024
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  bcast_S1024x16_S1024x1x16_0_2 : S1024x16.BroadcastsInDim S1024x1x16 (![0, 2] : Fin 2 → Fin S1024x1x16.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  natLt_1_32 : 1 < 32
  reducesTo_S1024x16x16_S1024x16_d2 : S1024x16x16.ReducesTo [2] S1024x16
  dot_S1024x64_S64x64_S1024x64_1_0_0_1_n_n_wf : DotDims.WF S1024x64 S64x64 S1024x64 [1] [0] [0] [1] [] []
  dot_S1024x64_S64x100000_S1024x100000_1_0_0_1_n_n_wf : DotDims.WF S1024x64 S64x100000 S1024x100000 [1] [0] [0] [1] [] []

variable [Facts]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn_part3 {F : FTy → Type} [FloatOps F] (main_v4 : IVec S1024 1) (main_v8 : IVec S_ 1) (main_v31 : IVec S1024 1) (main_v42 : IVec S1024 1) (main_v52 : IVec S1024x16x16 1) (main_v55 : IVec S1024x16x16 32) (main_v56 : IVec S1024x16x16 32) : IVec S1024 1 :=
  let main_v57 : IVec S1024x16x16 1 := cmpi .eq main_v55 main_v56
  let main_v58 : IVec S1024x16x16 1 := andi main_v52 main_v57
  let main_v59 : IVec S1024x16x16 32 := (extui 32 · natLt_1_32) main_v52
  let main_c_11 : IVec S_ 32 := constantI S_ 32 0#32
  let main_v60 : IVec S1024x16 32 := (fun x v => Host.reduce IntOp.addi x v reducesTo_S1024x16x16_S1024x16_d2 h_S_) main_v59 main_c_11
  let main_c_12 : IVec S_ 32 := constantI S_ 32 2#32
  let main_v61 : IVec S1024x16 32 := broadcastInDim S1024x16 ![] bcast_S_S1024x16 main_c_12
  let main_v62 : IVec S1024x16 1 := cmpi .sle main_v60 main_v61
  let main_c_13 : IVec S_ 1 := constantI S_ 1 1#1
  let main_v63 : IVec S1024 1 := (fun x v => Host.reduce IntOp.andi x v reducesTo_S1024x16_S1024_d1 h_S_) main_v62 main_c_13
  let main_v64 : IVec S1024x16x16 32 := (extui 32 · natLt_1_32) main_v58
  let main_c_14 : IVec S_ 32 := constantI S_ 32 0#32
  let main_v65 : IVec S1024x16 32 := (fun x v => Host.reduce IntOp.addi x v reducesTo_S1024x16x16_S1024x16_d2 h_S_) main_v64 main_c_14
  let main_c_15 : IVec S_ 32 := constantI S_ 32 1#32
  let main_v66 : IVec S1024x16 32 := broadcastInDim S1024x16 ![] bcast_S_S1024x16 main_c_15
  let main_v67 : IVec S1024x16 1 := cmpi .sle main_v65 main_v66
  let main_c_16 : IVec S_ 1 := constantI S_ 1 1#1
  let main_v68 : IVec S1024 1 := (fun x v => Host.reduce IntOp.andi x v reducesTo_S1024x16_S1024_d1 h_S_) main_v67 main_c_16
  let main_v69 : IVec S1024 1 := andi main_v63 main_v68
  let main_v70 : IVec S1024 1 := broadcastInDim S1024 ![] bcast_S_S1024 main_v8
  let main_v71 : IVec S1024 1 := andi main_v4 main_v70
  let main_v72 : IVec S1024 1 := andi main_v71 main_v31
  let main_v73 : IVec S1024 1 := andi main_v72 main_v42
  let main_v74 : IVec S1024 1 := andi main_v73 main_v69
  main_v74

def fn_part2 {F : FTy → Type} [FloatOps F] (main_v4 : IVec S1024 1) (main_v8 : IVec S_ 1) (main_indices : IVec S1024x17 32) (main_v31 : IVec S1024 1) (main_v34 : FVec F S1024 .f32) (main_v36 : FVec F S1024x64 .f32) : IVec S1024 1 :=
  let main_v37 : FVec F S1024x64 .f32 := mulf main_v36 main_v36
  let main_cst_7 : FVec F S_ .f32 := constant S_ .f32 0x00000000#32
  let main_v38 : FVec F S1024 .f32 := (fun x v => Host.reduceAdd x v reducesTo_S1024x64_S1024_d1 h_S_) main_v37 main_cst_7
  let main_v39 : IVec S1024 1 := cmpf .olt main_v34 main_v38
  let main_cst_8 : FVec F S_ .f32 := constant S_ .f32 0x7F61B1E6#32
  let main_v40 : FVec F S1024 .f32 := broadcastInDim S1024 ![] bcast_S_S1024 main_cst_8
  let main_v41 : IVec S1024 1 := cmpf .olt main_v34 main_v40
  let main_v42 : IVec S1024 1 := andi main_v39 main_v41
  let main_v43 : IVec S1024x16 32 := (extractStridedSlice S1024x16 ![0, 0] · slices_S1024x17_S1024x16_0_0) main_indices
  let main_c_9 : IVec S_ 32 := constantI S_ 32 127#32
  let main_v44 : IVec S1024x16 32 := broadcastInDim S1024x16 ![] bcast_S_S1024x16 main_c_9
  let main_v45 : IVec S1024x16 32 := andi main_v43 main_v44
  let main_c_10 : IVec S_ 32 := constantI S_ 32 11#32
  let main_v46 : IVec S1024x16 32 := broadcastInDim S1024x16 ![] bcast_S_S1024x16 main_c_10
  let main_v47 : IVec S1024x16 32 := Host.shrui main_v43 main_v46
  let main_v48 : IVec S1024x16x1 32 := broadcastInDim S1024x16x1 ![0, 1] bcast_S1024x16_S1024x16x1_0_1 main_v45
  let main_v49 : IVec S1024x1x16 32 := broadcastInDim S1024x1x16 ![0, 2] bcast_S1024x16_S1024x1x16_0_2 main_v45
  let main_v50 : IVec S1024x16x16 32 := broadcastInDim S1024x16x16 ![0, 1, 2] bcast_S1024x16x1_S1024x16x16_0_1_2 main_v48
  let main_v51 : IVec S1024x16x16 32 := broadcastInDim S1024x16x16 ![0, 1, 2] bcast_S1024x1x16_S1024x16x16_0_1_2 main_v49
  let main_v52 : IVec S1024x16x16 1 := cmpi .eq main_v50 main_v51
  let main_v53 : IVec S1024x16x1 32 := broadcastInDim S1024x16x1 ![0, 1] bcast_S1024x16_S1024x16x1_0_1 main_v47
  let main_v54 : IVec S1024x1x16 32 := broadcastInDim S1024x1x16 ![0, 2] bcast_S1024x16_S1024x1x16_0_2 main_v47
  let main_v55 : IVec S1024x16x16 32 := broadcastInDim S1024x16x16 ![0, 1, 2] bcast_S1024x16x1_S1024x16x16_0_1_2 main_v53
  let main_v56 : IVec S1024x16x16 32 := broadcastInDim S1024x16x16 ![0, 1, 2] bcast_S1024x1x16_S1024x16x16_0_1_2 main_v54
  fn_part3 (F := F) main_v4 main_v8 main_v31 main_v42 main_v52 main_v55 main_v56

def fn_part1 {F : FTy → Type} [FloatOps F] (main_arg4 : FVec F S100000x64 .f32) (main_v4 : IVec S1024 1) (main_v8 : IVec S_ 1) (main_v12 : FVec F S1024x64 .f32) (main_v15 : FVec F S1024x1 .f32) (main_v17 : FVec F S1024x64 .f32) : IVec S1024 1 :=
  let main_v18 : FVec F S64x100000 .f32 := (transpose S64x100000 [1, 0] · transposes_S100000x64_S64x100000_1_0) main_arg4
  let main_v19 : FVec F S1024x100000 .f32 := (fun l r => Host.dotGeneral dot_S1024x64_S64x100000_S1024x100000_1_0_0_1_n_n none l r) main_v17 main_v18
  let main_v20 : FVec F S1024x100000 .f32 := broadcastInDim S1024x100000 ![0, 1] bcast_S1024x1_S1024x100000_0_1 main_v15
  let main_v21 : FVec F S1024x100000 .f32 := subf main_v20 main_v19
  let main_v22 : FVec F S100000x64 .f32 := mulf main_arg4 main_arg4
  let main_cst_4 : FVec F S_ .f32 := constant S_ .f32 0x00000000#32
  let main_v23 : FVec F S100000 .f32 := (fun x v => Host.reduceAdd x v reducesTo_S100000x64_S100000_d1 h_S_) main_v22 main_cst_4
  let main_v24 : FVec F S1x100000 .f32 := broadcastInDim S1x100000 ![1] bcast_S100000_S1x100000_1 main_v23
  let main_v25 : FVec F S1024x100000 .f32 := broadcastInDim S1024x100000 ![0, 1] bcast_S1x100000_S1024x100000_0_1 main_v24
  let main_v26 : FVec F S1024x100000 .f32 := addf main_v21 main_v25
  let main_v27 : FVec F S1024x100000 .f32 := Host.negf main_v26
  let main_values : FVec F S1024x17 .f32 := (fun x => (Host.topK S1024x17 1 (FloatOps.cmpfTotal .gt) x sliceFits_S1024x100000_S1024x17).1) main_v27
  let main_indices : IVec S1024x17 32 := (fun x => (Host.topK S1024x17 1 (FloatOps.cmpfTotal .gt) x sliceFits_S1024x100000_S1024x17).2) main_v27
  let main_v28 : FVec F S1024x16 .f32 := (extractStridedSlice S1024x16 ![0, 0] · slices_S1024x17_S1024x16_0_0) main_values
  let main_v29 : FVec F S1024x16 .f32 := (extractStridedSlice S1024x16 ![0, 1] · slices_S1024x17_S1024x16_0_1) main_values
  let main_v30 : IVec S1024x16 1 := cmpf .ogt main_v28 main_v29
  let main_c_5 : IVec S_ 1 := constantI S_ 1 1#1
  let main_v31 : IVec S1024 1 := (fun x v => Host.reduce IntOp.andi x v reducesTo_S1024x16_S1024_d1 h_S_) main_v30 main_c_5
  let main_v32 : FVec F S1024x1 .f32 := (extractStridedSlice S1024x1 ![0, 15] · slices_S1024x17_S1024x1_0_15) main_values
  let main_v33 : FVec F S1024 .f32 := shapeCast S1024 main_v32 shapeCasts_S1024x1_S1024
  let main_v34 : FVec F S1024 .f32 := Host.negf main_v33
  let main_cst_6 : FVec F S_ .f32 := constant S_ .f32 0x447A0000#32
  let main_v35 : FVec F S1024x64 .f32 := broadcastInDim S1024x64 ![] bcast_S_S1024x64 main_cst_6
  let main_v36 : FVec F S1024x64 .f32 := subf main_v12 main_v35
  fn_part2 (F := F) main_v4 main_v8 main_indices main_v31 main_v34 main_v36

def fn {F : FTy → Type} [FloatOps F] (main_arg0 : FVec F S1024x64 .f32) (main_arg1 : IVec S1024 32) (main_arg2 : FVec F S64x64 .f32) (main_arg3 : FVec F S64 .f32) (main_arg4 : FVec F S100000x64 .f32) (main_arg5 : IVec S16384x16 32) (main_arg6 : FVec F S16384x16 .f32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 16384#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : FVec F S100000x64 .f32 := Host.absf main_arg4
  let main_cst : FVec F S_ .f32 := constant S_ .f32 0x7F800000#32
  let main_v6 : FVec F S100000x64 .f32 := broadcastInDim S100000x64 ![] bcast_S_S100000x64 main_cst
  let main_v7 : IVec S100000x64 1 := cmpf .olt main_v5 main_v6
  let main_c_1 : IVec S_ 1 := constantI S_ 1 1#1
  let main_v8 : IVec S_ 1 := (fun x v => Host.reduce IntOp.andi x v reducesTo_S100000x64_S_d0_1 h_S_) main_v7 main_c_1
  let main_v9 : FVec F S1024x64 .f32 := (fun l r => Host.dotGeneral dot_S1024x64_S64x64_S1024x64_1_0_0_1_n_n none l r) main_arg0 main_arg2
  let main_v10 : FVec F S1x64 .f32 := broadcastInDim S1x64 ![1] bcast_S64_S1x64_1 main_arg3
  let main_v11 : FVec F S1024x64 .f32 := broadcastInDim S1024x64 ![0, 1] bcast_S1x64_S1024x64_0_1 main_v10
  let main_v12 : FVec F S1024x64 .f32 := addf main_v9 main_v11
  let main_v13 : FVec F S1024x64 .f32 := mulf main_v12 main_v12
  let main_cst_2 : FVec F S_ .f32 := constant S_ .f32 0x00000000#32
  let main_v14 : FVec F S1024 .f32 := (fun x v => Host.reduceAdd x v reducesTo_S1024x64_S1024_d1 h_S_) main_v13 main_cst_2
  let main_v15 : FVec F S1024x1 .f32 := broadcastInDim S1024x1 ![0] bcast_S1024_S1024x1_0 main_v14
  let main_cst_3 : FVec F S_ .f32 := constant S_ .f32 0x40000000#32
  let main_v16 : FVec F S1024x64 .f32 := broadcastInDim S1024x64 ![] bcast_S_S1024x64 main_cst_3
  let main_v17 : FVec F S1024x64 .f32 := mulf main_v16 main_v12
  fn_part1 (F := F) main_arg4 main_v4 main_v8 main_v12 main_v15 main_v17
-- ==== Kernel.lean ====
abbrev S1024x64 : Shape := ⟨2, ![1024, 64]⟩
abbrev S1024 : Shape := ⟨1, ![1024]⟩
abbrev S64x64 : Shape := ⟨2, ![64, 64]⟩
abbrev S64 : Shape := ⟨1, ![64]⟩
abbrev S100000x64 : Shape := ⟨2, ![100000, 64]⟩
abbrev S16384x16 : Shape := ⟨2, ![16384, 16]⟩
abbrev S1024x16 : Shape := ⟨2, ![1024, 16]⟩
abbrev S32 : Shape := ⟨1, ![32]⟩
abbrev S32x16 : Shape := ⟨2, ![32, 16]⟩
abbrev S_ : Shape := ⟨0, ![]⟩
abbrev S1x64 : Shape := ⟨2, ![1, 64]⟩
abbrev S100352x64 : Shape := ⟨2, ![100352, 64]⟩
abbrev S64x100352 : Shape := ⟨2, ![64, 100352]⟩
abbrev S1x2 : Shape := ⟨2, ![1, 2]⟩
abbrev S64x2048 : Shape := ⟨2, ![64, 2048]⟩
abbrev S1024x128 : Shape := ⟨2, ![1024, 128]⟩
abbrev S1x1 : Shape := ⟨2, ![1, 1]⟩
abbrev S1x64x64 : Shape := ⟨3, ![1, 64, 64]⟩
abbrev S1 : Shape := ⟨1, ![1]⟩
abbrev S1x1x1 : Shape := ⟨3, ![1, 1, 1]⟩
abbrev S1x1x64 : Shape := ⟨3, ![1, 1, 64]⟩
abbrev S1x2048 : Shape := ⟨2, ![1, 2048]⟩
abbrev S1024x2048 : Shape := ⟨2, ![1024, 2048]⟩
abbrev S1024x1024 : Shape := ⟨2, ![1024, 1024]⟩
abbrev S1024x512 : Shape := ⟨2, ![1024, 512]⟩
abbrev S1024x256 : Shape := ⟨2, ![1024, 256]⟩
abbrev S1024x1 : Shape := ⟨2, ![1024, 1]⟩
abbrev S1x1024x1 : Shape := ⟨3, ![1, 1024, 1]⟩

abbrev nBuf : Table → Nat
  | .hbm => 28
  | .local .tc .vmem => 15
  | .local .tc .smem => 1
  | .local .scVector .vmem => 3
  | _ => 0

abbrev bufTy : (tb : Table) → Fin (nBuf tb) → BufTy
  | .hbm, ⟨0, _⟩ => ⟨S1024x64, .f32⟩
  | .hbm, ⟨1, _⟩ => ⟨S1024, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S16384x16, .i32⟩
  | .hbm, ⟨6, _⟩ => ⟨S16384x16, .f32⟩
  | .hbm, ⟨7, _⟩ => ⟨S1024x16, .i32⟩
  | .hbm, ⟨8, _⟩ => ⟨S1024x16, .f32⟩
  | .hbm, ⟨9, _⟩ => ⟨S1x64, .f32⟩
  | .hbm, ⟨10, _⟩ => ⟨S100000x64, .bf16⟩
  | .hbm, ⟨11, _⟩ => ⟨S_, .f32⟩
  | .hbm, ⟨12, _⟩ => ⟨S_, .bf16⟩
  | .hbm, ⟨13, _⟩ => ⟨S100352x64, .bf16⟩
  | .hbm, ⟨14, _⟩ => ⟨S64x100352, .bf16⟩
  | .hbm, ⟨15, _⟩ => ⟨S1x2, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local .tc .vmem, ⟨0, _⟩ => ⟨S1024x64, .f32⟩
  | .local .tc .vmem, ⟨1, _⟩ => ⟨S64x64, .f32⟩
  | .local .tc .vmem, ⟨2, _⟩ => ⟨S1x64, .f32⟩
  | .local .tc .vmem, ⟨3, _⟩ => ⟨S64x2048, .bf16⟩
  | .local .tc .vmem, ⟨4, _⟩ => ⟨S64x2048, .bf16⟩
  | .local .tc .vmem, ⟨5, _⟩ => ⟨S1024x16, .i32⟩
  | .local .tc .vmem, ⟨6, _⟩ => ⟨S1024x16, .f32⟩
  | .local .tc .vmem, ⟨7, _⟩ => ⟨S1024x64, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .i32⟩
  | .local .tc .vmem, ⟨11, _⟩ => ⟨S1024x128, .i32⟩
  | .local .tc .vmem, ⟨12, _⟩ => ⟨S1024x16, .f32⟩
  | .local .tc .vmem, ⟨13, _⟩ => ⟨S1024x16, .i32⟩
  | .local .tc .vmem, ⟨14, _⟩ => ⟨S1024x16, .f32⟩
  | .local .tc .smem, ⟨0, _⟩ => ⟨S1x2, .f32⟩
  | .local .scVector .vmem, ⟨0, _⟩ => ⟨S32, .i32⟩
  | .local .scVector .vmem, ⟨1, _⟩ => ⟨S32x16, .i32⟩
  | .local .scVector .vmem, ⟨2, _⟩ => ⟨S32x16, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_arg5_scv : Ref sig .scVector := ⟨.hbm, 5, rfl⟩
abbrev main_arg6_scv : Ref sig .scVector := ⟨.hbm, 6, rfl⟩
abbrev main_arg1_scv : Ref sig .scVector := ⟨.hbm, 1, rfl⟩
abbrev main_v0_0_scv : Ref sig .scVector := ⟨.hbm, 7, rfl⟩
abbrev main_v0_1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg5_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc1_scratch3 : Ref sig .tc := ⟨.vmem, 10, rfl⟩
abbrev cc1_scratch4 : Ref sig .tc := ⟨.vmem, 11, rfl⟩
abbrev cc1_scratch5 : Ref sig .tc := ⟨.vmem, 12, rfl⟩
abbrev cc1_scratch6 : Ref sig .tc := ⟨.vmem, 13, rfl⟩
abbrev cc1_scratch7 : Ref sig .tc := ⟨.vmem, 14, rfl⟩
abbrev cc1_stg6_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r1 : BitVec 32 := 0#32
  ![v2.toNat, 0]
abbrev grid1 : Pipeline.Grid := ⟨2, ![1, 49], ![false, false]⟩

def k1_cond3 (i : grid1.Coords) : BitVec 1 :=
  let arg1 : BitVec 32 := BitVec.ofNat 32 (i 1).val
  let c48_i32 : BitVec 32 := 48#32
  let v85 : BitVec 1 := Scalar.cmpi .eq arg1 c48_i32
  let v86 : BitVec 32 := Scalar.extui v85
  let c0_i32_26 : BitVec 32 := 0#32
  let v87 : BitVec 1 := Scalar.cmpi .ne v86 c0_i32_26
  v87

@[reducible] def k1_t1_loop : Scf.Loop 32 :=
  let c0_i32_29 : BitVec 32 := 0#32
  let c16_i32 : BitVec 32 := 16#32
  let v92 : BitVec 32 := Scalar.addi c0_i32_29 c16_i32
  let c1_i32 : BitVec 32 := 1#32
  ⟨c0_i32_29, v92, c1_i32⟩
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x16 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1024x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .smem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64 : Shape := ⟨2, ![1024, 64]⟩
abbrev S1024 : Shape := ⟨1, ![1024]⟩
abbrev S64x64 : Shape := ⟨2, ![64, 64]⟩
abbrev S64 : Shape := ⟨1, ![64]⟩
abbrev S100000x64 : Shape := ⟨2, ![100000, 64]⟩
abbrev S16384x16 : Shape := ⟨2, ![16384, 16]⟩
abbrev S1x64 : Shape := ⟨2, ![1, 64]⟩
abbrev S_ : Shape := ⟨0, ![]⟩
abbrev S1024x1 : Shape := ⟨2, ![1024, 1]⟩
abbrev S64x100000 : Shape := ⟨2, ![64, 100000]⟩
abbrev S1024x100000 : Shape := ⟨2, ![1024, 100000]⟩
abbrev S100000 : Shape := ⟨1, ![100000]⟩
abbrev S1x100000 : Shape := ⟨2, ![1, 100000]⟩
abbrev S1024x16 : Shape := ⟨2, ![1024, 16]⟩
abbrev S1024x16x1 : Shape := ⟨3, ![1024, 16, 1]⟩
abbrev S1024x16x64 : Shape := ⟨3, ![1024, 16, 64]⟩
abbrev S1024x1x64 : Shape := ⟨3, ![1024, 1, 64]⟩
abbrev S1024x1x16 : Shape := ⟨3, ![1024, 1, 16]⟩
abbrev S1024x16x16 : Shape := ⟨3, ![1024, 16, 16]⟩
abbrev S1024x32 : Shape := ⟨2, ![1024, 32]⟩

abbrev nBuf : Space → Nat
  | .hbm => 155
  | .vmem => 0
  | .smem => 0
  | _ => 0

abbrev hbmTy0_0 (i : Nat) : BufTy := match i % 128 with
  | 0 => ⟨S1024x64, .f32⟩
  | 1 => ⟨S1024, .i32⟩
  | 2 => ⟨S64x64, .f32⟩
  | 3 => ⟨S64, .f32⟩
  | 4 => ⟨S100000x64, .f32⟩
  | 5 => ⟨S16384x16, .i32⟩
  | 6 => ⟨S16384x16, .f32⟩
  | 7 => ⟨S1024x64, .f32⟩
  | 8 => ⟨S1x64, .f32⟩
  | 9 => ⟨S1024x64, .f32⟩
  | 10 => ⟨S1024x64, .f32⟩
  | 11 => ⟨S1024x64, .f32⟩
  | 12 => ⟨S_, .f32⟩
  | 13 => ⟨S1024, .f32⟩
  | 14 => ⟨S1024x1, .f32⟩
  | 15 => ⟨S_, .f32⟩
  | 16 => ⟨S1024x64, .f32⟩
  | 17 => ⟨S1024x64, .f32⟩
  | 18 => ⟨S64x100000, .f32⟩
  | 19 => ⟨S1024x100000, .f32⟩
  | 20 => ⟨S1024x100000, .f32⟩
  | 21 => ⟨S1024x100000, .f32⟩
  | 22 => ⟨S100000x64, .f32⟩
  | 23 => ⟨S_, .f32⟩
  | 24 => ⟨S100000, .f32⟩
  | 25 => ⟨S1x100000, .f32⟩
  | 26 => ⟨S1024x100000, .f32⟩
  | 27 => ⟨S1024x100000, .f32⟩
  | 28 => ⟨S1024x100000, .f32⟩
  | 29 => ⟨S1024x16, .f32⟩
  | 30 => ⟨S1024x16, .i32⟩
  | 31 => ⟨S_, .i32⟩
  | 32 => ⟨S1024x16, .i32⟩
  | 33 => ⟨S1024x16, .i1⟩
  | 34 => ⟨S_, .i32⟩
  | 35 => ⟨S1024x16, .i32⟩
  | 36 => ⟨S1024x16, .i32⟩
  | 37 => ⟨S1024x16, .i32⟩
  | 38 => ⟨S1024x16x1, .i32⟩
  | 39 => ⟨S1024x16x64, .f32⟩
  | 40 => ⟨S1024x1x64, .f32⟩
  | 41 => ⟨S1024x16x64, .f32⟩
  | 42 => ⟨S1024x16x64, .f32⟩
  | 43 => ⟨S1024x16x64, .f32⟩
  | 44 => ⟨S_, .f32⟩
  | 45 => ⟨S1024x16, .f32⟩
  | 46 => ⟨S1024x16, .f32⟩
  | 47 => ⟨S_, .f32⟩
  | 48 => ⟨S1024x16, .f32⟩
  | 49 => ⟨S1024x16, .f32⟩
  | 50 => ⟨S_, .f32⟩
  | 51 => ⟨S1024, .f32⟩
  | 52 => ⟨S_, .f32⟩
  | 53 => ⟨S1024, .f32⟩
  | 54 => ⟨S1024, .f32⟩
  | 55 => ⟨S1024x1, .f32⟩
  | 56 => ⟨S1024x16, .f32⟩
  | 57 => ⟨S1024x16, .f32⟩
  | 58 => ⟨S1024x16, .f32⟩
  | 59 => ⟨S_, .f32⟩
  | 60 => ⟨S1024, .f32⟩
  | 61 => ⟨S1024x1, .f32⟩
  | 62 => ⟨S1024x16, .f32⟩
  | 63 => ⟨S1024x16, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x16, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1024x16, .f32⟩
  | 82 => ⟨S1024x16x1, .i32⟩
  | 83 => ⟨S1024x1x16, .i32⟩
  | 84 => ⟨S1024x16x16, .i32⟩
  | 85 => ⟨S1024x16x16, .i32⟩
  | 86 => ⟨S1024x16x16, .i1⟩
  | 87 => ⟨S_, .i1⟩
  | 88 => ⟨S1024x16, .i1⟩
  | 89 => ⟨S_, .i1⟩
  | 90 => ⟨S1024x16, .i1⟩
  | 91 => ⟨S1024x16, .i1⟩
  | 92 => ⟨S1024x32, .i1⟩
  | 93 => ⟨S_, .f32⟩
  | 94 => ⟨S1024x16, .f32⟩
  | 95 => ⟨S1024x32, .f32⟩
  | 96 => ⟨S1024x16x16, .f32⟩
  | 97 => ⟨S1024x16, .f32⟩
  | 98 => ⟨S1024x32, .f32⟩
  | 99 => ⟨S1024x32, .f32⟩
  | 100 => ⟨S_, .f32⟩
  | 101 => ⟨S1024x32, .f32⟩
  | 102 => ⟨S1024x32, .f32⟩
  | 103 => ⟨S1024x32, .f32⟩
  | 104 => ⟨S_, .f32⟩
  | 105 => ⟨S1024x32, .f32⟩
  | 106 => ⟨S1024x32, .f32⟩
  | 107 => ⟨S1024x32, .f32⟩
  | 108 => ⟨S_, .f32⟩
  | 109 => ⟨S1024, .f32⟩
  | 110 => ⟨S1024x1, .f32⟩
  | 111 => ⟨S1024x32, .f32⟩
  | 112 => ⟨S1024x32, .f32⟩
  | 113 => ⟨S_, .f32⟩
  | 114 => ⟨S1024, .f32⟩
  | 115 => ⟨S1024x1, .f32⟩
  | 116 => ⟨S1024x32, .f32⟩
  | 117 => ⟨S1024x32, .f32⟩
  | 118 => ⟨S_, .f32⟩
  | 119 => ⟨S_, .f32⟩
  | 120 => ⟨S1024x32, .f32⟩
  | 121 => ⟨S1024x32, .f32⟩
  | 122 => ⟨S_, .f32⟩
  | 123 => ⟨S_, .f32⟩
  | 124 => ⟨S1024x32, .f32⟩
  | 125 => ⟨S1024x32, .f32⟩
  | 126 => ⟨S1024x32, .f32⟩
  | 127 => ⟨S1024x32, .f32⟩
  | _ => ⟨S1024x64, .f32⟩

abbrev hbmTy0_1 (i : Nat) : BufTy := match i % 128 with
  | 0 => ⟨S1024x32, .f32⟩
  | 1 => ⟨S1024x32, .f32⟩
  | 2 => ⟨S_, .f32⟩
  | 3 => ⟨S_, .f32⟩
  | 4 => ⟨S1024x32, .f32⟩
  | 5 => ⟨S1024x32, .f32⟩
  | 6 => ⟨S_, .f32⟩
  | 7 => ⟨S1024, .f32⟩
  | 8 => ⟨S_, .f32⟩
  | 9 => ⟨S_, .f32⟩
  | 10 => ⟨S_, .f32⟩
  | 11 => ⟨S_, .f32⟩
  | 12 => ⟨S64x64, .f32⟩
  | 13 => ⟨S_, .f32⟩
  | 14 => ⟨S_, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_call0_v0 : Ref sig .tc := ⟨.hbm, 119, rfl⟩
abbrev main_call0_v1 : Ref sig .tc := ⟨.hbm, 120, rfl⟩
abbrev main_v88 : Ref sig .tc := ⟨.hbm, 121, rfl⟩
abbrev main_cst_20 : Ref sig .tc := ⟨.hbm, 122, rfl⟩
abbrev main_call1_v0 : Ref sig .tc := ⟨.hbm, 123, rfl⟩
abbrev main_call1_v1 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_call2_v0 : Ref sig .tc := ⟨.hbm, 131, rfl⟩
abbrev main_call2_v1 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_cst_24 : Ref sig .tc := ⟨.hbm, 138, rfl⟩
abbrev main_v97 : Ref sig .tc := ⟨.hbm, 139, rfl⟩
abbrev main_v98 : Ref sig .tc := ⟨.hbm, 140, rfl⟩
abbrev main_cst_25 : Ref sig .tc := ⟨.hbm, 141, rfl⟩
abbrev main_v99 : Ref sig .tc := ⟨.hbm, 142, rfl⟩
abbrev main_v100 : Ref sig .tc := ⟨.hbm, 143, rfl⟩
abbrev main_cst_26 : Ref sig .tc := ⟨.hbm, 144, rfl⟩
abbrev main_v101 : Ref sig .tc := ⟨.hbm, 145, rfl⟩
abbrev main_v102 : Ref sig .tc := ⟨.hbm, 146, rfl⟩
abbrev main_cst_27 : Ref sig .tc := ⟨.hbm, 147, rfl⟩
abbrev main_v103 : Ref sig .tc := ⟨.hbm, 148, rfl⟩
abbrev main_cst_28 : Ref sig .tc := ⟨.hbm, 149, rfl⟩
abbrev main_v104 : Ref sig .tc := ⟨.hbm, 150, rfl⟩
abbrev main_cst_29 : Ref sig .tc := ⟨.hbm, 151, rfl⟩
abbrev main_v105 : Ref sig .tc := ⟨.hbm, 152, rfl⟩
abbrev main_v106 : Ref sig .tc := ⟨.hbm, 153, rfl⟩
abbrev main_cst_30 : Ref sig .tc := ⟨.hbm, 154, rfl⟩

abbrev nD : Nat := 1
abbrev τ : Topo := Topo.v7x

variable {F : FTy → Type} [FloatOps F]
-- ==== Proof.PreFacts.lean ====
/-
  The shape facts `search_exact` states, each decided.
-/
module

public import proofs.«01_k».proof.Pre_search_exact
public import Idealize.ShloMosaic.Lib.Decide
public import Idealize.ShloMosaic.Lib.Affine

@[expose] public section

namespace Cert.Proof.PreFacts

open Idealize.ShloMosaic Cert.Pre_search_exact

instance facts : Cert.Pre_search_exact.Facts where
  bcast_S_S1024 := by decide
  bcast_S_S1024x64 := by decide
  reducesTo_S1024x64_S1024_d1 := by decide
  h_S_ := by decide
  bcast_S_S100000x64 := by decide
  reducesTo_S100000x64_S_d0_1 := by decide
  bcast_S64_S1x64_1 := by decide
  bcast_S1x64_S1024x64_0_1 := by decide
  bcast_S1024_S1024x1_0 := by decide
  transposes_S100000x64_S64x100000_1_0 := by decide
  bcast_S1024x1_S1024x100000_0_1 := by decide
  reducesTo_S100000x64_S100000_d1 := by decide
  bcast_S100000_S1x100000_1 := by decide
  bcast_S1x100000_S1024x100000_0_1 := by decide
  sliceFits_S1024x100000_S1024x17 := by decide
  slices_S1024x17_S1024x16_0_0 := by decide
  slices_S1024x17_S1024x16_0_1 := by decide
  reducesTo_S1024x16_S1024_d1 := by decide
  slices_S1024x17_S1024x1_0_15 := by decide
  shapeCasts_S1024x1_S1024 := by decide
  bcast_S_S1024x16 := by decide
  bcast_S1024x16_S1024x16x1_0_1 := by decide
  bcast_S1024x16_S1024x1x16_0_2 := by decide
  bcast_S1024x16x1_S1024x16x16_0_1_2 := by decide
  bcast_S1024x1x16_S1024x16x16_0_1_2 := by decide
  natLt_1_32 := by decide
  reducesTo_S1024x16x16_S1024x16_d2 := by decide
  dot_S1024x64_S64x64_S1024x64_1_0_0_1_n_n_wf := by decide
  dot_S1024x64_S64x100000_S1024x100000_1_0_0_1_n_n_wf := by decide

end Cert.Proof.PreFacts
-- ==== Proof.RefRun.lean ====
/-
  The reference's run (`run_main`): @main's operations in eleven stretches, each stretch's result named as a function
  of what it reads.
-/
module

public import proofs.«01_k».proof.Defs
public import Idealize.ShloMosaic.Lib.StableHlo.Run
public import Idealize.ShloMosaic.Lib.StableHlo.RunHlo
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The mapped queries. -/
def mapped (q : FVec F S1024x64 .f32) (W : FVec F S64x64 .f32) (b : FVec F S64 .f32) : FVec F S1024x64 .f32 :=
  addf (Host.dotGeneral dot_S1024x64_S64x64_S1024x64_1_0_0_1_n_n none q W)
    (broadcastInDim S1024x64 ![0, 1] bcast_S1x64_S1024x64_0_1 (broadcastInDim S1x64 ![1] bcast_S64_S1x64_1 b))

/-- The squared distances of each mapped query to each of `X`'s rows, negated. -/
def negDist (T : FVec F S1024x64 .f32) (X : FVec F S100000x64 .f32) : FVec F S1024x100000 .f32 :=
  Host.negf (addf
    (subf
      (broadcastInDim S1024x100000 ![0, 1] bcast_S1024x1_S1024x100000_0_1 (broadcastInDim S1024x1 ![0] bcast_S1024_S1024x1_0
        (Host.reduceAdd (mulf T T) (constant S_ .f32 0x00000000#32) reducesTo_S1024x64_S1024_d1 h_S_)))
      (Host.dotGeneral dot_S1024x64_S64x100000_S1024x100000_1_0_0_1_n_n none
        (mulf (broadcastInDim S1024x64 ![] bcast_S_S1024x64 (constant S_ .f32 0x40000000#32)) T)
        (transpose S64x100000 [1, 0] X transposes_S100000x64_S64x100000_1_0)))
    (broadcastInDim S1024x100000 ![0, 1] bcast_S1x100000_S1024x100000_0_1 (broadcastInDim S1x100000 ![1] bcast_S100000_S1x100000_1
      (Host.reduceAdd (mulf X X) (constant S_ .f32 0x00000000#32) reducesTo_S100000x64_S100000_d1 h_S_))))

/-- The sixteen nearest rows' numbers. -/
def nearest (D : FVec F S1024x100000 .f32) : IVec S1024x16 32 :=
  (Host.topK S1024x16 1 (FloatOps.cmpfTotal .gt) D sliceFits_S1024x100000_S1024x16).2

/-- The squared distances of each mapped query to the rows named. -/
def rowDist (T : FVec F S1024x64 .f32) (X : FVec F S100000x64 .f32) (I : IVec S1024x16 32) : FVec F S1024x16 .f32 :=
  let D := subf
    (broadcastInDim S1024x16x64 ![0, 1, 2] bcast_S1024x1x64_S1024x16x64_0_1_2
      (broadcastInDim S1024x1x64 ![0, 2] bcast_S1024x64_S1024x1x64_0_2 T))
    (Host.gather gather_S100000x64_S1024x16x1_S1024x16x64_2_0_n_n_0_2_164 X
      (broadcastInDim S1024x16x1 ![0, 1] bcast_S1024x16_S1024x16x1_0_1
        (select (cmpi .slt I (broadcastInDim S1024x16 ![] bcast_S_S1024x16 (constantI S_ 32 0#32)))
          (addi I (broadcastInDim S1024x16 ![] bcast_S_S1024x16 (constantI S_ 32 100000#32))) I)))
  Host.reduceAdd (mulf D D) (constant S_ .f32 0x00000000#32) reducesTo_S1024x16x64_S1024x16_d2 h_S_

/-- The distances over the temperature, negated. -/
def scaled (l2 : FVec F S1024x16 .f32) : FVec F S1024x16 .f32 :=
  Host.divf (Host.negf l2) (broadcastInDim S1024x16 ![] bcast_S_S1024x16 (constant S_ .f32 0x3DCCCCCD#32))

/-- The exponentials of a row less its maximum. -/
def expOf (z : FVec F S1024x16 .f32) : FVec F S1024x16 .f32 :=
  Host.exp (subf z
    (broadcastInDim S1024x16 ![0, 1] bcast_S1024x1_S1024x16_0_1 (broadcastInDim S1024x1 ![0] bcast_S1024_S1024x1_0
      (maximumf (broadcastInDim S1024 ![] bcast_S_S1024 (constant S_ .f32 0xFF800000#32))
        (Host.reduce FloatOps.maximumf z (constant S_ .f32 0xFF800000#32) reducesTo_S1024x16_S1024_d1 h_S_)))))

/-- A row over its sum. -/
def overSum (e : FVec F S1024x16 .f32) : FVec F S1024x16 .f32 :=
  Host.divf e (broadcastInDim S1024x16 ![0, 1] bcast_S1024x1_S1024x16_0_1 (broadcastInDim S1024x1 ![0] bcast_S1024_S1024x1_0
    (Host.reduceAdd e (constant S_ .f32 0x00000000#32) reducesTo_S1024x16_S1024_d1 h_S_)))

/-- The row numbers as the reference makes them: a negative one counted from the table's end. -/
def wrapped (q : IVec S1024 32) : IVec S1024x1 32 :=
  broadcastInDim S1024x1 ![0] bcast_S1024_S1024x1_0
    (select (cmpi .slt q (broadcastInDim S1024 ![] bcast_S_S1024 (constantI S_ 32 0#32)))
      (addi q (broadcastInDim S1024 ![] bcast_S_S1024 (constantI S_ 32 16384#32))) q)

/-- Which of the earlier neighbours (second axis) is which of the nearest (third). -/
def same (pi I : IVec S1024x16 32) : IVec S1024x16x16 1 :=
  cmpi .eq
    (broadcastInDim S1024x16x16 ![0, 1, 2] bcast_S1024x16x1_S1024x16x16_0_1_2 (broadcastInDim S1024x16x1 ![0, 1] bcast_S1024x16_S1024x16x1_0_1 pi))
    (broadcastInDim S1024x16x16 ![0, 1, 2] bcast_S1024x1x16_S1024x16x16_0_1_2 (broadcastInDim S1024x1x16 ![0, 2] bcast_S1024x16_S1024x1x16_0_2 I))

/-- The members of the union: every earlier neighbour, and the nearest that are none of them. -/
def members (M : IVec S1024x16x16 1) : IVec S1024x32 1 :=
  concatenate S1024x32 1 [⟨S1024x16, broadcastInDim S1024x16 ![] bcast_S_S1024x16 (constantI S_ 1 1#1)⟩,
    ⟨S1024x16, noti (Host.reduce IntOp.ori M (constantI S_ 1 0#1) reducesTo_S1024x16x16_S1024x16_d1 h_S_)⟩]
    concatenates_S1024x16_S1024x16_S1024x32_d1

/-- Two tables side by side, no entry under the least probability, entries outside the union zero. -/
def clipped (V : IVec S1024x32 1) (a b : FVec F S1024x16 .f32) : FVec F S1024x32 .f32 :=
  mulf (maximumf (concatenate S1024x32 1 [⟨S1024x16, a⟩, ⟨S1024x16, b⟩] concatenates_S1024x16_S1024x16_S1024x32_d1)
      (broadcastInDim S1024x32 ![] bcast_S_S1024x32 (constant S_ .f32 0x322BCC77#32)))
    (uitofp .f32 V)

/-- The earlier probabilities over the union. -/
def earlier (V : IVec S1024x32 1) (pw : FVec F S1024x16 .f32) : FVec F S1024x32 .f32 :=
  clipped V pw (broadcastInDim S1024x16 ![] bcast_S_S1024x16 (constant S_ .f32 0x00000000#32))

/-- The new probabilities over the union. -/
def later (V : IVec S1024x32 1) (M : IVec S1024x16x16 1) (post : FVec F S1024x16 .f32) : FVec F S1024x32 .f32 :=
  clipped V (Host.dotGeneral dot_S1024x16x16_S1024x16_S1024x16_2_1_1_n_0_0 none (uitofp .f32 M) post) post

/-- A row over its sum, entries outside the union one. -/
def normed (V : IVec S1024x32 1) (p : FVec F S1024x32 .f32) : FVec F S1024x32 .f32 :=
  select V (Host.divf p (broadcastInDim S1024x32 ![0, 1] bcast_S1024x1_S1024x32_0_1 (broadcastInDim S1024x1 ![0] bcast_S1024_S1024x1_0
      (Host.reduceAdd p (constant S_ .f32 0x00000000#32) reducesTo_S1024x32_S1024_d1 h_S_))))
    (broadcastInDim S1024x32 ![] bcast_S_S1024x32 (constant S_ .f32 0x3F800000#32))

/-- The rows' divergences. -/
def rowLoss (V : IVec S1024x32 1) (P Q : FVec F S1024x32 .f32) : FVec F S1024 .f32 :=
  Host.reduceAdd (select V (mulf P (subf (Host.log P) (Host.log Q)))
      (broadcastInDim S1024x32 ![] bcast_S_S1024x32 (constant S_ .f32 0x00000000#32)))
    (constant S_ .f32 0x00000000#32) reducesTo_S1024x32_S1024_d1 h_S_

/-- Their mean. -/
def meanLoss (l : FVec F S1024 .f32) : FVec F S_ .f32 :=
  Host.divf (Host.reduceAdd l (constant S_ .f32 0x00000000#32) reducesTo_S1024_S_d0 h_S_) (constant S_ .f32 0x44800000#32)

/-- Half the squared weights' sum. -/
def regLoss (W : FVec F S64x64 .f32) (b : FVec F S64 .f32) : FVec F S_ .f32 :=
  Host.divf (addf (Host.reduceAdd (mulf W W) (constant S_ .f32 0x00000000#32) reducesTo_S64x64_S_d0_1 h_S_)
      (Host.reduceAdd (mulf b b) (constant S_ .f32 0x00000000#32) reducesTo_S64_S_d0 h_S_))
    (constant S_ .f32 0x40000000#32)

/-- The weighted sum of the two. -/
def total (knn reg : FVec F S_ .f32) : FVec F S_ .f32 :=
  addf (mulf (constant S_ .f32 0x3F800000#32) knn) (mulf (constant S_ .f32 0x38D1B717#32) reg)

/-! ## The operations -/

/-- Operations of @main, in order. -/
def opsA : List (HloOp τ sig (Elt F)) :=
  [ binary main_arg0 main_arg2 main_v0 ((fun l r => Host.dotGeneral dot_S1024x64_S64x64_S1024x64_1_0_0_1_n_n none l r)),
    unary main_arg3 main_v1 (broadcastInDim S1x64 ![1] bcast_S64_S1x64_1),
    unary main_v1 main_v2 (broadcastInDim S1024x64 ![0, 1] bcast_S1x64_S1024x64_0_1),
    binary main_v0 main_v2 main_v3 (addf) ]

/-- Operations of @main, in order. -/
def opsB : List (HloOp τ sig (Elt F)) :=
  [ binary main_v3 main_v3 main_v4 (mulf),
    nullary main_cst (constant S_ .f32 0x00000000#32),
    binary main_v4 main_cst main_v5 ((fun x v => Host.reduceAdd x v reducesTo_S1024x64_S1024_d1 h_S_)),
    unary main_v5 main_v6 (broadcastInDim S1024x1 ![0] bcast_S1024_S1024x1_0),
    nullary main_cst_0 (constant S_ .f32 0x40000000#32),
    unary main_cst_0 main_v7 (broadcastInDim S1024x64 ![] bcast_S_S1024x64),
    binary main_v7 main_v3 main_v8 (mulf),
    unary main_arg4 main_v9 ((transpose S64x100000 [1, 0] · transposes_S100000x64_S64x100000_1_0)),
    binary main_v8 main_v9 main_v10 ((fun l r => Host.dotGeneral dot_S1024x64_S64x100000_S1024x100000_1_0_0_1_n_n none l r)),
    unary main_v6 main_v11 (broadcastInDim S1024x100000 ![0, 1] bcast_S1024x1_S1024x100000_0_1),
    binary main_v11 main_v10 main_v12 (subf),
    binary main_arg4 main_arg4 main_v13 (mulf),
    nullary main_cst_1 (constant S_ .f32 0x00000000#32),
    binary main_v13 main_cst_1 main_v14 ((fun x v => Host.reduceAdd x v reducesTo_S100000x64_S100000_d1 h_S_)),
    unary main_v14 main_v15 (broadcastInDim S1x100000 ![1] bcast_S100000_S1x100000_1),
    unary main_v15 main_v16 (broadcastInDim S1024x100000 ![0, 1] bcast_S1x100000_S1024x100000_0_1),
    binary main_v12 main_v16 main_v17 (addf),
    unary main_v17 main_v18 (Host.negf) ]

/-- Operations of @main, in order. -/
def opsC : List (HloOp τ sig (Elt F)) :=
  [ unary main_v18 main_values ((fun x => (Host.topK S1024x16 1 (FloatOps.cmpfTotal .gt) x sliceFits_S1024x100000_S1024x16).1)),
    unary main_v18 main_indices ((fun x => (Host.topK S1024x16 1 (FloatOps.cmpfTotal .gt) x sliceFits_S1024x100000_S1024x16).2)) ]

/-- Operations of @main, in order. -/
def opsD : List (HloOp τ sig (Elt F)) :=
  [ nullary main_c (constantI S_ 32 0#32),
    unary main_c main_v19 (broadcastInDim S1024x16 ![] bcast_S_S1024x16),
    binary main_indices main_v19 main_v20 (cmpi .slt),
    nullary main_c_2 (constantI S_ 32 100000#32),
    unary main_c_2 main_v21 (broadcastInDim S1024x16 ![] bcast_S_S1024x16),
    binary main_indices main_v21 main_v22 (addi),
    ternary main_v20 main_v22 main_indices main_v23 (select),
    unary main_v23 main_v24 (broadcastInDim S1024x16x1 ![0, 1] bcast_S1024x16_S1024x16x1_0_1),
    binary main_arg4 main_v24 main_v25 ((fun x i => Host.gather gather_S100000x64_S1024x16x1_S1024x16x64_2_0_n_n_0_2_164 x i)),
    unary main_v3 main_v26 (broadcastInDim S1024x1x64 ![0, 2] bcast_S1024x64_S1024x1x64_0_2),
    unary main_v26 main_v27 (broadcastInDim S1024x16x64 ![0, 1, 2] bcast_S1024x1x64_S1024x16x64_0_1_2),
    binary main_v27 main_v25 main_v28 (subf),
    binary main_v28 main_v28 main_v29 (mulf),
    nullary main_cst_3 (constant S_ .f32 0x00000000#32),
    binary main_v29 main_cst_3 main_v30 ((fun x v => Host.reduceAdd x v reducesTo_S1024x16x64_S1024x16_d2 h_S_)) ]

/-- Operations of @main, in order. -/
def opsE : List (HloOp τ sig (Elt F)) :=
  [ unary main_v30 main_v31 (Host.negf),
    nullary main_cst_4 (constant S_ .f32 0x3DCCCCCD#32),
    unary main_cst_4 main_v32 (broadcastInDim S1024x16 ![] bcast_S_S1024x16),
    binary main_v31 main_v32 main_v33 (Host.divf),
    nullary main_cst_5 (constant S_ .f32 0xFF800000#32),
    binary main_v33 main_cst_5 main_v34 ((fun x v => Host.reduce FloatOps.maximumf x v reducesTo_S1024x16_S1024_d1 h_S_)),
    nullary main_cst_6 (constant S_ .f32 0xFF800000#32),
    unary main_cst_6 main_v35 (broadcastInDim S1024 ![] bcast_S_S1024),
    binary main_v35 main_v34 main_v36 (maximumf),
    unary main_v36 main_v37 (broadcastInDim S1024x1 ![0] bcast_S1024_S1024x1_0),
    unary main_v37 main_v38 (broadcastInDim S1024x16 ![0, 1] bcast_S1024x1_S1024x16_0_1),
    binary main_v33 main_v38 main_v39 (subf),
    unary main_v39 main_v40 (Host.exp),
    nullary main_cst_7 (constant S_ .f32 0x00000000#32),
    binary main_v40 main_cst_7 main_v41 ((fun x v => Host.reduceAdd x v reducesTo_S1024x16_S1024_d1 h_S_)),
    unary main_v41 main_v42 (broadcastInDim S1024x1 ![0] bcast_S1024_S1024x1_0),
    unary main_v42 main_v43 (broadcastInDim S1024x16 ![0, 1] bcast_S1024x1_S1024x16_0_1),
    binary main_v40 main_v43 main_v44 (Host.divf) ]

/-- Operations of @main, in order. -/
def opsG : List (HloOp τ sig (Elt F)) :=
  [ nullary main_c_8 (constantI S_ 32 0#32),
    unary main_c_8 main_v45 (broadcastInDim S1024 ![] bcast_S_S1024),
    binary main_arg1 main_v45 main_v46 (cmpi .slt),
    nullary main_c_9 (constantI S_ 32 16384#32),
    unary main_c_9 main_v47 (broadcastInDim S1024 ![] bcast_S_S1024),
    binary main_arg1 main_v47 main_v48 (addi),
    ternary main_v46 main_v48 main_arg1 main_v49 (select),
    unary main_v49 main_v50 (broadcastInDim S1024x1 ![0] bcast_S1024_S1024x1_0),
    binary main_arg5 main_v50 main_v51 ((fun x i => Host.gather gather_S16384x16_S1024x1_S1024x16_1_0_n_n_0_1_116 x i)),
    nullary main_c_10 (constantI S_ 32 0#32),
    unary main_c_10 main_v52 (broadcastInDim S1024 ![] bcast_S_S1024),
    binary main_arg1 main_v52 main_v53 (cmpi .slt),
    nullary main_c_11 (constantI S_ 32 16384#32),
    unary main_c_11 main_v54 (broadcastInDim S1024 ![] bcast_S_S1024),
    binary main_arg1 main_v54 main_v55 (addi),
    ternary main_v53 main_v55 main_arg1 main_v56 (select),
    unary main_v56 main_v57 (broadcastInDim S1024x1 ![0] bcast_S1024_S1024x1_0),
    binary main_arg6 main_v57 main_v58 ((fun x i => Host.gather gather_S16384x16_S1024x1_S1024x16_1_0_n_n_0_1_116 x i)) ]

/-- Operations of @main, in order. -/
def opsH : List (HloOp τ sig (Elt F)) :=
  [ unary main_v51 main_v59 (broadcastInDim S1024x16x1 ![0, 1] bcast_S1024x16_S1024x16x1_0_1),
    unary main_indices main_v60 (broadcastInDim S1024x1x16 ![0, 2] bcast_S1024x16_S1024x1x16_0_2),
    unary main_v59 main_v61 (broadcastInDim S1024x16x16 ![0, 1, 2] bcast_S1024x16x1_S1024x16x16_0_1_2),
    unary main_v60 main_v62 (broadcastInDim S1024x16x16 ![0, 1, 2] bcast_S1024x1x16_S1024x16x16_0_1_2),
    binary main_v61 main_v62 main_v63 (cmpi .eq),
    nullary main_c_12 (constantI S_ 1 0#1),
    binary main_v63 main_c_12 main_v64 ((fun x v => Host.reduce IntOp.ori x v reducesTo_S1024x16x16_S1024x16_d1 h_S_)),
    nullary main_c_13 (constantI S_ 1 1#1),
    unary main_c_13 main_v65 (broadcastInDim S1024x16 ![] bcast_S_S1024x16),
    unary main_v64 main_v66 (noti),
    binary main_v65 main_v66 main_v67 ((fun a b => concatenate S1024x32 1 [⟨S1024x16, a⟩, ⟨S1024x16, b⟩] concatenates_S1024x16_S1024x16_S1024x32_d1)) ]

/-- Operations of @main, in order. -/
def opsI : List (HloOp τ sig (Elt F)) :=
  [ nullary main_cst_14 (constant S_ .f32 0x00000000#32),
    unary main_cst_14 main_v68 (broadcastInDim S1024x16 ![] bcast_S_S1024x16),
    binary main_v58 main_v68 main_v69 ((fun a b => concatenate S1024x32 1 [⟨S1024x16, a⟩, ⟨S1024x16, b⟩] concatenates_S1024x16_S1024x16_S1024x32_d1)),
    unary main_v63 main_v70 (uitofp .f32),
    binary main_v70 main_v44 main_v71 ((fun l r => Host.dotGeneral dot_S1024x16x16_S1024x16_S1024x16_2_1_1_n_0_0 none l r)),
    binary main_v71 main_v44 main_v72 ((fun a b => concatenate S1024x32 1 [⟨S1024x16, a⟩, ⟨S1024x16, b⟩] concatenates_S1024x16_S1024x16_S1024x32_d1)),
    unary main_v67 main_v73 (uitofp .f32),
    nullary main_cst_15 (constant S_ .f32 0x322BCC77#32),
    unary main_cst_15 main_v74 (broadcastInDim S1024x32 ![] bcast_S_S1024x32),
    binary main_v69 main_v74 main_v75 (maximumf),
    binary main_v75 main_v73 main_v76 (mulf),
    nullary main_cst_16 (constant S_ .f32 0x322BCC77#32),
    unary main_cst_16 main_v77 (broadcastInDim S1024x32 ![] bcast_S_S1024x32),
    binary main_v72 main_v77 main_v78 (maximumf),
    binary main_v78 main_v73 main_v79 (mulf) ]

/-- Operations of @main, in order. -/
def opsJ : List (HloOp τ sig (Elt F)) :=
  [ nullary main_cst_17 (constant S_ .f32 0x00000000#32),
    binary main_v76 main_cst_17 main_v80 ((fun x v => Host.reduceAdd x v reducesTo_S1024x32_S1024_d1 h_S_)),
    unary main_v80 main_v81 (broadcastInDim S1024x1 ![0] bcast_S1024_S1024x1_0),
    unary main_v81 main_v82 (broadcastInDim S1024x32 ![0, 1] bcast_S1024x1_S1024x32_0_1),
    binary main_v76 main_v82 main_v83 (Host.divf),
    nullary main_cst_18 (constant S_ .f32 0x00000000#32),
    binary main_v79 main_cst_18 main_v84 ((fun x v => Host.reduceAdd x v reducesTo_S1024x32_S1024_d1 h_S_)),
    unary main_v84 main_v85 (broadcastInDim S1024x1 ![0] bcast_S1024_S1024x1_0),
    unary main_v85 main_v86 (broadcastInDim S1024x32 ![0, 1] bcast_S1024x1_S1024x32_0_1),
    binary main_v79 main_v86 main_v87 (Host.divf),
    nullary main_cst_19 (constant S_ .f32 0x3F800000#32),
    unary main_cst_19 main_call0_v0 id,
    unary main_call0_v0 main_call0_v1 (broadcastInDim S1024x32 ![] bcast_S_S1024x32),
    ternary main_v67 main_v83 main_call0_v1 main_v88 select,
    nullary main_cst_20 (constant S_ .f32 0x3F800000#32),
    unary main_cst_20 main_call1_v0 id,
    unary main_call1_v0 main_call1_v1 (broadcastInDim S1024x32 ![] bcast_S_S1024x32),
    ternary main_v67 main_v87 main_call1_v1 main_v89 select ]

/-- Operations of @main, in order. -/
def opsK : List (HloOp τ sig (Elt F)) :=
  [ unary main_v88 main_v90 (Host.log),
    unary main_v89 main_v91 (Host.log),
    binary main_v90 main_v91 main_v92 (subf),
    binary main_v88 main_v92 main_v93 (mulf),
    nullary main_cst_21 (constant S_ .f32 0x00000000#32),
    unary main_cst_21 main_call2_v0 id,
    unary main_call2_v0 main_call2_v1 (broadcastInDim S1024x32 ![] bcast_S_S1024x32),
    ternary main_v67 main_v93 main_call2_v1 main_v94 select,
    nullary main_cst_22 (constant S_ .f32 0x00000000#32),
    binary main_v94 main_cst_22 main_v95 ((fun x v => Host.reduceAdd x v reducesTo_S1024x32_S1024_d1 h_S_)),
    nullary main_cst_23 (constant S_ .f32 0x00000000#32),
    binary main_v95 main_cst_23 main_v96 ((fun x v => Host.reduceAdd x v reducesTo_S1024_S_d0 h_S_)),
    nullary main_cst_24 (constant S_ .f32 0x44800000#32),
    binary main_v96 main_cst_24 main_v97 (Host.divf) ]

/-- Operations of @main, in order. -/
def opsM : List (HloOp τ sig (Elt F)) :=
  [ binary main_arg2 main_arg2 main_v98 (mulf),
    nullary main_cst_25 (constant S_ .f32 0x00000000#32),
    binary main_v98 main_cst_25 main_v99 ((fun x v => Host.reduceAdd x v reducesTo_S64x64_S_d0_1 h_S_)),
    binary main_arg3 main_arg3 main_v100 (mulf),
    nullary main_cst_26 (constant S_ .f32 0x00000000#32),
    binary main_v100 main_cst_26 main_v101 ((fun x v => Host.reduceAdd x v reducesTo_S64_S_d0 h_S_)),
    binary main_v99 main_v101 main_v102 (addf),
    nullary main_cst_27 (constant S_ .f32 0x40000000#32),
    binary main_v102 main_cst_27 main_v103 (Host.divf),
    nullary main_cst_28 (constant S_ .f32 0x3F800000#32),
    binary main_cst_28 main_v97 main_v104 (mulf),
    nullary main_cst_29 (constant S_ .f32 0x38D1B717#32),
    binary main_cst_29 main_v103 main_v105 (mulf),
    binary main_v104 main_v105 main_v106 (addf),
    nullary main_cst_30 (constant S_ .f32 0x00000000#32) ]

abbrev ops : List (HloOp τ sig (Elt F)) :=
  opsA ++ (opsB ++ (opsC ++ (opsD ++ (opsE ++ (opsG ++ (opsH ++ (opsI ++ (opsJ ++ (opsK ++ (opsM))))))))))

theorem subA : (opsA : List (HloOp τ sig (Elt F))).Forall fun op => op.bufs ⊆ tcRefs τ sig :=
  by unfold opsA; exact ⟨binary_bufs_sub .., unary_bufs_sub .., unary_bufs_sub .., binary_bufs_sub ..⟩

theorem subB : (opsB : List (HloOp τ sig (Elt F))).Forall fun op => op.bufs ⊆ tcRefs τ sig :=
  by unfold opsB; exact ⟨binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub ..⟩

theorem subC : (opsC : List (HloOp τ sig (Elt F))).Forall fun op => op.bufs ⊆ tcRefs τ sig :=
  by unfold opsC; exact ⟨unary_bufs_sub .., unary_bufs_sub ..⟩

theorem subD : (opsD : List (HloOp τ sig (Elt F))).Forall fun op => op.bufs ⊆ tcRefs τ sig :=
  by unfold opsD; exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub ..⟩

theorem subE : (opsE : List (HloOp τ sig (Elt F))).Forall fun op => op.bufs ⊆ tcRefs τ sig :=
  by unfold opsE; exact ⟨unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem subG : (opsG : List (HloOp τ sig (Elt F))).Forall fun op => op.bufs ⊆ tcRefs τ sig :=
  by unfold opsG; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem subH : (opsH : List (HloOp τ sig (Elt F))).Forall fun op => op.bufs ⊆ tcRefs τ sig :=
  by unfold opsH; exact ⟨unary_bufs_sub .., unary_bufs_sub .., unary_bufs_sub .., unary_bufs_sub .., binary_bufs_sub .., nullary_bufs_sub .., binary_bufs_sub .., nullary_bufs_sub .., unary_bufs_sub .., unary_bufs_sub .., binary_bufs_sub ..⟩

theorem subI : (opsI : List (HloOp τ sig (Elt F))).Forall fun op => op.bufs ⊆ tcRefs τ sig :=
  by unfold opsI; exact ⟨nullary_bufs_sub .., unary_bufs_sub .., binary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., binary_bufs_sub ..⟩

theorem subJ : (opsJ : List (HloOp τ sig (Elt F))).Forall fun op => op.bufs ⊆ tcRefs τ sig :=
  by unfold opsJ; exact ⟨nullary_bufs_sub .., binary_bufs_sub .., unary_bufs_sub .., unary_bufs_sub .., binary_bufs_sub .., nullary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

theorem subK : (opsK : List (HloOp τ sig (Elt F))).Forall fun op => op.bufs ⊆ tcRefs τ sig :=
  by unfold opsK; exact ⟨unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub ..⟩

theorem subM : (opsM : List (HloOp τ sig (Elt F))).Forall fun op => op.bufs ⊆ tcRefs τ sig :=
  by unfold opsM; exact ⟨binary_bufs_sub .., nullary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub ..⟩

theorem resA_v3 (V : Valuation τ sig (Elt F)) : after opsA V (main_v3 : DevRef τ sig)
    = mapped (V (main_arg0 : DevRef τ sig)) (V (main_arg2 : DevRef τ sig)) (V (main_arg3 : DevRef τ sig)) := by
  unfold opsA; after_results; rfl
theorem resB_v18 (V : Valuation τ sig (Elt F)) : after opsB V (main_v18 : DevRef τ sig)
    = negDist (V (main_v3 : DevRef τ sig)) (V (main_arg4 : DevRef τ sig)) := by
  unfold opsB; after_results; rfl
theorem resC_indices (V : Valuation τ sig (Elt F)) : after opsC V (main_indices : DevRef τ sig)
    = nearest (V (main_v18 : DevRef τ sig)) := by
  unfold opsC; after_results; rfl
theorem resD_v30 (V : Valuation τ sig (Elt F)) : after opsD V (main_v30 : DevRef τ sig)
    = rowDist (V (main_v3 : DevRef τ sig)) (V (main_arg4 : DevRef τ sig)) (V (main_indices : DevRef τ sig)) := by
  unfold opsD; after_results; rfl
theorem resE_v44 (V : Valuation τ sig (Elt F)) : after opsE V (main_v44 : DevRef τ sig)
    = overSum (expOf (scaled (V (main_v30 : DevRef τ sig)))) := by
  unfold opsE; after_results; rfl
theorem resG_v51 (V : Valuation τ sig (Elt F)) : after opsG V (main_v51 : DevRef τ sig)
    = Host.gather gather_S16384x16_S1024x1_S1024x16_1_0_n_n_0_1_116 (V (main_arg5 : DevRef τ sig)) (wrapped (V (main_arg1 : DevRef τ sig))) := by
  unfold opsG; after_results; rfl
theorem resG_v58 (V : Valuation τ sig (Elt F)) : after opsG V (main_v58 : DevRef τ sig)
    = Host.gather gather_S16384x16_S1024x1_S1024x16_1_0_n_n_0_1_116 (V (main_arg6 : DevRef τ sig)) (wrapped (V (main_arg1 : DevRef τ sig))) := by
  unfold opsG; after_results; rfl
theorem resH_v63 (V : Valuation τ sig (Elt F)) : after opsH V (main_v63 : DevRef τ sig)
    = same (V (main_v51 : DevRef τ sig)) (V (main_indices : DevRef τ sig)) := by
  unfold opsH; after_results; rfl
theorem resH_v67 (V : Valuation τ sig (Elt F)) : after opsH V (main_v67 : DevRef τ sig)
    = members (same (V (main_v51 : DevRef τ sig)) (V (main_indices : DevRef τ sig))) := by
  unfold opsH; after_results; rfl
theorem resI_v76 (V : Valuation τ sig (Elt F)) : after opsI V (main_v76 : DevRef τ sig)
    = earlier (V (main_v67 : DevRef τ sig)) (V (main_v58 : DevRef τ sig)) := by
  unfold opsI; after_results; rfl
theorem resI_v79 (V : Valuation τ sig (Elt F)) : after opsI V (main_v79 : DevRef τ sig)
    = later (V (main_v67 : DevRef τ sig)) (V (main_v63 : DevRef τ sig)) (V (main_v44 : DevRef τ sig)) := by
  unfold opsI; after_results; rfl
theorem resJ_v88 (V : Valuation τ sig (Elt F)) : after opsJ V (main_v88 : DevRef τ sig)
    = normed (V (main_v67 : DevRef τ sig)) (V (main_v76 : DevRef τ sig)) := by
  unfold opsJ; after_results; rfl
theorem resJ_v89 (V : Valuation τ sig (Elt F)) : after opsJ V (main_v89 : DevRef τ sig)
    = normed (V (main_v67 : DevRef τ sig)) (V (main_v79 : DevRef τ sig)) := by
  unfold opsJ; after_results; rfl
theorem resK_v97 (V : Valuation τ sig (Elt F)) : after opsK V (main_v97 : DevRef τ sig)
    = meanLoss (rowLoss (V (main_v67 : DevRef τ sig)) (V (main_v88 : DevRef τ sig)) (V (main_v89 : DevRef τ sig))) := by
  unfold opsK; after_results; rfl
theorem resM_v106 (V : Valuation τ sig (Elt F)) : after opsM V (main_v106 : DevRef τ sig)
    = total (V (main_v97 : DevRef τ sig)) (regLoss (V (main_arg2 : DevRef τ sig)) (V (main_arg3 : DevRef τ sig))) := by
  unfold opsM; after_results; rfl
theorem resM_cst_30 (V : Valuation τ sig (Elt F)) : after opsM V (main_cst_30 : DevRef τ sig)
    = constant S_ .f32 0x00000000#32 := by
  unfold opsM; after_results
theorem keepA_arg0 (V : Valuation τ sig (Elt F)) : after opsA V (main_arg0 : DevRef τ sig) = V (main_arg0 : DevRef τ sig) := by
  unfold opsA; after_results
theorem keepA_arg1 (V : Valuation τ sig (Elt F)) : after opsA V (main_arg1 : DevRef τ sig) = V (main_arg1 : DevRef τ sig) := by
  unfold opsA; after_results
theorem keepA_arg2 (V : Valuation τ sig (Elt F)) : after opsA V (main_arg2 : DevRef τ sig) = V (main_arg2 : DevRef τ sig) := by
  unfold opsA; after_results
theorem keepA_arg3 (V : Valuation τ sig (Elt F)) : after opsA V (main_arg3 : DevRef τ sig) = V (main_arg3 : DevRef τ sig) := by
  unfold opsA; after_results
theorem keepA_arg4 (V : Valuation τ sig (Elt F)) : after opsA V (main_arg4 : DevRef τ sig) = V (main_arg4 : DevRef τ sig) := by
  unfold opsA; after_results
theorem keepA_arg5 (V : Valuation τ sig (Elt F)) : after opsA V (main_arg5 : DevRef τ sig) = V (main_arg5 : DevRef τ sig) := by
  unfold opsA; after_results
theorem keepA_arg6 (V : Valuation τ sig (Elt F)) : after opsA V (main_arg6 : DevRef τ sig) = V (main_arg6 : DevRef τ sig) := by
  unfold opsA; after_results
theorem keepB_arg0 (V : Valuation τ sig (Elt F)) : after opsB V (main_arg0 : DevRef τ sig) = V (main_arg0 : DevRef τ sig) := by
  unfold opsB; after_results
theorem keepB_arg1 (V : Valuation τ sig (Elt F)) : after opsB V (main_arg1 : DevRef τ sig) = V (main_arg1 : DevRef τ sig) := by
  unfold opsB; after_results
theorem keepB_arg2 (V : Valuation τ sig (Elt F)) : after opsB V (main_arg2 : DevRef τ sig) = V (main_arg2 : DevRef τ sig) := by
  unfold opsB; after_results
theorem keepB_arg3 (V : Valuation τ sig (Elt F)) : after opsB V (main_arg3 : DevRef τ sig) = V (main_arg3 : DevRef τ sig) := by
  unfold opsB; after_results
theorem keepB_arg4 (V : Valuation τ sig (Elt F)) : after opsB V (main_arg4 : DevRef τ sig) = V (main_arg4 : DevRef τ sig) := by
  unfold opsB; after_results
theorem keepB_arg5 (V : Valuation τ sig (Elt F)) : after opsB V (main_arg5 : DevRef τ sig) = V (main_arg5 : DevRef τ sig) := by
  unfold opsB; after_results
theorem keepB_arg6 (V : Valuation τ sig (Elt F)) : after opsB V (main_arg6 : DevRef τ sig) = V (main_arg6 : DevRef τ sig) := by
  unfold opsB; after_results
theorem keepB_v3 (V : Valuation τ sig (Elt F)) : after opsB V (main_v3 : DevRef τ sig) = V (main_v3 : DevRef τ sig) := by
  unfold opsB; after_results
theorem keepC_arg0 (V : Valuation τ sig (Elt F)) : after opsC V (main_arg0 : DevRef τ sig) = V (main_arg0 : DevRef τ sig) := by
  unfold opsC; after_results
theorem keepC_arg1 (V : Valuation τ sig (Elt F)) : after opsC V (main_arg1 : DevRef τ sig) = V (main_arg1 : DevRef τ sig) := by
  unfold opsC; after_results
theorem keepC_arg2 (V : Valuation τ sig (Elt F)) : after opsC V (main_arg2 : DevRef τ sig) = V (main_arg2 : DevRef τ sig) := by
  unfold opsC; after_results
theorem keepC_arg3 (V : Valuation τ sig (Elt F)) : after opsC V (main_arg3 : DevRef τ sig) = V (main_arg3 : DevRef τ sig) := by
  unfold opsC; after_results
theorem keepC_arg4 (V : Valuation τ sig (Elt F)) : after opsC V (main_arg4 : DevRef τ sig) = V (main_arg4 : DevRef τ sig) := by
  unfold opsC; after_results
theorem keepC_arg5 (V : Valuation τ sig (Elt F)) : after opsC V (main_arg5 : DevRef τ sig) = V (main_arg5 : DevRef τ sig) := by
  unfold opsC; after_results
theorem keepC_arg6 (V : Valuation τ sig (Elt F)) : after opsC V (main_arg6 : DevRef τ sig) = V (main_arg6 : DevRef τ sig) := by
  unfold opsC; after_results
theorem keepC_v3 (V : Valuation τ sig (Elt F)) : after opsC V (main_v3 : DevRef τ sig) = V (main_v3 : DevRef τ sig) := by
  unfold opsC; after_results
theorem keepD_arg0 (V : Valuation τ sig (Elt F)) : after opsD V (main_arg0 : DevRef τ sig) = V (main_arg0 : DevRef τ sig) := by
  unfold opsD; after_results
theorem keepD_arg1 (V : Valuation τ sig (Elt F)) : after opsD V (main_arg1 : DevRef τ sig) = V (main_arg1 : DevRef τ sig) := by
  unfold opsD; after_results
theorem keepD_arg2 (V : Valuation τ sig (Elt F)) : after opsD V (main_arg2 : DevRef τ sig) = V (main_arg2 : DevRef τ sig) := by
  unfold opsD; after_results
theorem keepD_arg3 (V : Valuation τ sig (Elt F)) : after opsD V (main_arg3 : DevRef τ sig) = V (main_arg3 : DevRef τ sig) := by
  unfold opsD; after_results
theorem keepD_arg4 (V : Valuation τ sig (Elt F)) : after opsD V (main_arg4 : DevRef τ sig) = V (main_arg4 : DevRef τ sig) := by
  unfold opsD; after_results
theorem keepD_arg5 (V : Valuation τ sig (Elt F)) : after opsD V (main_arg5 : DevRef τ sig) = V (main_arg5 : DevRef τ sig) := by
  unfold opsD; after_results
theorem keepD_arg6 (V : Valuation τ sig (Elt F)) : after opsD V (main_arg6 : DevRef τ sig) = V (main_arg6 : DevRef τ sig) := by
  unfold opsD; after_results
theorem keepD_indices (V : Valuation τ sig (Elt F)) : after opsD V (main_indices : DevRef τ sig) = V (main_indices : DevRef τ sig) := by
  unfold opsD; after_results
theorem keepE_arg0 (V : Valuation τ sig (Elt F)) : after opsE V (main_arg0 : DevRef τ sig) = V (main_arg0 : DevRef τ sig) := by
  unfold opsE; after_results
theorem keepE_arg1 (V : Valuation τ sig (Elt F)) : after opsE V (main_arg1 : DevRef τ sig) = V (main_arg1 : DevRef τ sig) := by
  unfold opsE; after_results
theorem keepE_arg2 (V : Valuation τ sig (Elt F)) : after opsE V (main_arg2 : DevRef τ sig) = V (main_arg2 : DevRef τ sig) := by
  unfold opsE; after_results
theorem keepE_arg3 (V : Valuation τ sig (Elt F)) : after opsE V (main_arg3 : DevRef τ sig) = V (main_arg3 : DevRef τ sig) := by
  unfold opsE; after_results
theorem keepE_arg4 (V : Valuation τ sig (Elt F)) : after opsE V (main_arg4 : DevRef τ sig) = V (main_arg4 : DevRef τ sig) := by
  unfold opsE; after_results
theorem keepE_arg5 (V : Valuation τ sig (Elt F)) : after opsE V (main_arg5 : DevRef τ sig) = V (main_arg5 : DevRef τ sig) := by
  unfold opsE; after_results
theorem keepE_arg6 (V : Valuation τ sig (Elt F)) : after opsE V (main_arg6 : DevRef τ sig) = V (main_arg6 : DevRef τ sig) := by
  unfold opsE; after_results
theorem keepE_indices (V : Valuation τ sig (Elt F)) : after opsE V (main_indices : DevRef τ sig) = V (main_indices : DevRef τ sig) := by
  unfold opsE; after_results
theorem keepG_arg0 (V : Valuation τ sig (Elt F)) : after opsG V (main_arg0 : DevRef τ sig) = V (main_arg0 : DevRef τ sig) := by
  unfold opsG; after_results
theorem keepG_arg1 (V : Valuation τ sig (Elt F)) : after opsG V (main_arg1 : DevRef τ sig) = V (main_arg1 : DevRef τ sig) := by
  unfold opsG; after_results
theorem keepG_arg2 (V : Valuation τ sig (Elt F)) : after opsG V (main_arg2 : DevRef τ sig) = V (main_arg2 : DevRef τ sig) := by
  unfold opsG; after_results
theorem keepG_arg3 (V : Valuation τ sig (Elt F)) : after opsG V (main_arg3 : DevRef τ sig) = V (main_arg3 : DevRef τ sig) := by
  unfold opsG; after_results
theorem keepG_arg4 (V : Valuation τ sig (Elt F)) : after opsG V (main_arg4 : DevRef τ sig) = V (main_arg4 : DevRef τ sig) := by
  unfold opsG; after_results
theorem keepG_arg5 (V : Valuation τ sig (Elt F)) : after opsG V (main_arg5 : DevRef τ sig) = V (main_arg5 : DevRef τ sig) := by
  unfold opsG; after_results
theorem keepG_arg6 (V : Valuation τ sig (Elt F)) : after opsG V (main_arg6 : DevRef τ sig) = V (main_arg6 : DevRef τ sig) := by
  unfold opsG; after_results
theorem keepG_indices (V : Valuation τ sig (Elt F)) : after opsG V (main_indices : DevRef τ sig) = V (main_indices : DevRef τ sig) := by
  unfold opsG; after_results
theorem keepG_v44 (V : Valuation τ sig (Elt F)) : after opsG V (main_v44 : DevRef τ sig) = V (main_v44 : DevRef τ sig) := by
  unfold opsG; after_results
theorem keepH_arg0 (V : Valuation τ sig (Elt F)) : after opsH V (main_arg0 : DevRef τ sig) = V (main_arg0 : DevRef τ sig) := by
  unfold opsH; after_results
theorem keepH_arg1 (V : Valuation τ sig (Elt F)) : after opsH V (main_arg1 : DevRef τ sig) = V (main_arg1 : DevRef τ sig) := by
  unfold opsH; after_results
theorem keepH_arg2 (V : Valuation τ sig (Elt F)) : after opsH V (main_arg2 : DevRef τ sig) = V (main_arg2 : DevRef τ sig) := by
  unfold opsH; after_results
theorem keepH_arg3 (V : Valuation τ sig (Elt F)) : after opsH V (main_arg3 : DevRef τ sig) = V (main_arg3 : DevRef τ sig) := by
  unfold opsH; after_results
theorem keepH_arg4 (V : Valuation τ sig (Elt F)) : after opsH V (main_arg4 : DevRef τ sig) = V (main_arg4 : DevRef τ sig) := by
  unfold opsH; after_results
theorem keepH_arg5 (V : Valuation τ sig (Elt F)) : after opsH V (main_arg5 : DevRef τ sig) = V (main_arg5 : DevRef τ sig) := by
  unfold opsH; after_results
theorem keepH_arg6 (V : Valuation τ sig (Elt F)) : after opsH V (main_arg6 : DevRef τ sig) = V (main_arg6 : DevRef τ sig) := by
  unfold opsH; after_results
theorem keepH_v44 (V : Valuation τ sig (Elt F)) : after opsH V (main_v44 : DevRef τ sig) = V (main_v44 : DevRef τ sig) := by
  unfold opsH; after_results
theorem keepH_v58 (V : Valuation τ sig (Elt F)) : after opsH V (main_v58 : DevRef τ sig) = V (main_v58 : DevRef τ sig) := by
  unfold opsH; after_results
theorem keepI_arg0 (V : Valuation τ sig (Elt F)) : after opsI V (main_arg0 : DevRef τ sig) = V (main_arg0 : DevRef τ sig) := by
  unfold opsI; after_results
theorem keepI_arg1 (V : Valuation τ sig (Elt F)) : after opsI V (main_arg1 : DevRef τ sig) = V (main_arg1 : DevRef τ sig) := by
  unfold opsI; after_results
theorem keepI_arg2 (V : Valuation τ sig (Elt F)) : after opsI V (main_arg2 : DevRef τ sig) = V (main_arg2 : DevRef τ sig) := by
  unfold opsI; after_results
theorem keepI_arg3 (V : Valuation τ sig (Elt F)) : after opsI V (main_arg3 : DevRef τ sig) = V (main_arg3 : DevRef τ sig) := by
  unfold opsI; after_results
theorem keepI_arg4 (V : Valuation τ sig (Elt F)) : after opsI V (main_arg4 : DevRef τ sig) = V (main_arg4 : DevRef τ sig) := by
  unfold opsI; after_results
theorem keepI_arg5 (V : Valuation τ sig (Elt F)) : after opsI V (main_arg5 : DevRef τ sig) = V (main_arg5 : DevRef τ sig) := by
  unfold opsI; after_results
theorem keepI_arg6 (V : Valuation τ sig (Elt F)) : after opsI V (main_arg6 : DevRef τ sig) = V (main_arg6 : DevRef τ sig) := by
  unfold opsI; after_results
theorem keepI_v67 (V : Valuation τ sig (Elt F)) : after opsI V (main_v67 : DevRef τ sig) = V (main_v67 : DevRef τ sig) := by
  unfold opsI; after_results
theorem keepJ_arg0 (V : Valuation τ sig (Elt F)) : after opsJ V (main_arg0 : DevRef τ sig) = V (main_arg0 : DevRef τ sig) := by
  unfold opsJ; after_results
theorem keepJ_arg1 (V : Valuation τ sig (Elt F)) : after opsJ V (main_arg1 : DevRef τ sig) = V (main_arg1 : DevRef τ sig) := by
  unfold opsJ; after_results
theorem keepJ_arg2 (V : Valuation τ sig (Elt F)) : after opsJ V (main_arg2 : DevRef τ sig) = V (main_arg2 : DevRef τ sig) := by
  unfold opsJ; after_results
theorem keepJ_arg3 (V : Valuation τ sig (Elt F)) : after opsJ V (main_arg3 : DevRef τ sig) = V (main_arg3 : DevRef τ sig) := by
  unfold opsJ; after_results
theorem keepJ_arg4 (V : Valuation τ sig (Elt F)) : after opsJ V (main_arg4 : DevRef τ sig) = V (main_arg4 : DevRef τ sig) := by
  unfold opsJ; after_results
theorem keepJ_arg5 (V : Valuation τ sig (Elt F)) : after opsJ V (main_arg5 : DevRef τ sig) = V (main_arg5 : DevRef τ sig) := by
  unfold opsJ; after_results
theorem keepJ_arg6 (V : Valuation τ sig (Elt F)) : after opsJ V (main_arg6 : DevRef τ sig) = V (main_arg6 : DevRef τ sig) := by
  unfold opsJ; after_results
theorem keepJ_v67 (V : Valuation τ sig (Elt F)) : after opsJ V (main_v67 : DevRef τ sig) = V (main_v67 : DevRef τ sig) := by
  unfold opsJ; after_results
theorem keepK_arg0 (V : Valuation τ sig (Elt F)) : after opsK V (main_arg0 : DevRef τ sig) = V (main_arg0 : DevRef τ sig) := by
  unfold opsK; after_results
theorem keepK_arg1 (V : Valuation τ sig (Elt F)) : after opsK V (main_arg1 : DevRef τ sig) = V (main_arg1 : DevRef τ sig) := by
  unfold opsK; after_results
theorem keepK_arg2 (V : Valuation τ sig (Elt F)) : after opsK V (main_arg2 : DevRef τ sig) = V (main_arg2 : DevRef τ sig) := by
  unfold opsK; after_results
theorem keepK_arg3 (V : Valuation τ sig (Elt F)) : after opsK V (main_arg3 : DevRef τ sig) = V (main_arg3 : DevRef τ sig) := by
  unfold opsK; after_results
theorem keepK_arg4 (V : Valuation τ sig (Elt F)) : after opsK V (main_arg4 : DevRef τ sig) = V (main_arg4 : DevRef τ sig) := by
  unfold opsK; after_results
theorem keepK_arg5 (V : Valuation τ sig (Elt F)) : after opsK V (main_arg5 : DevRef τ sig) = V (main_arg5 : DevRef τ sig) := by
  unfold opsK; after_results
theorem keepK_arg6 (V : Valuation τ sig (Elt F)) : after opsK V (main_arg6 : DevRef τ sig) = V (main_arg6 : DevRef τ sig) := by
  unfold opsK; after_results
theorem keepM_arg0 (V : Valuation τ sig (Elt F)) : after opsM V (main_arg0 : DevRef τ sig) = V (main_arg0 : DevRef τ sig) := by
  unfold opsM; after_results
theorem keepM_arg1 (V : Valuation τ sig (Elt F)) : after opsM V (main_arg1 : DevRef τ sig) = V (main_arg1 : DevRef τ sig) := by
  unfold opsM; after_results
theorem keepM_arg2 (V : Valuation τ sig (Elt F)) : after opsM V (main_arg2 : DevRef τ sig) = V (main_arg2 : DevRef τ sig) := by
  unfold opsM; after_results
theorem keepM_arg3 (V : Valuation τ sig (Elt F)) : after opsM V (main_arg3 : DevRef τ sig) = V (main_arg3 : DevRef τ sig) := by
  unfold opsM; after_results
theorem keepM_arg4 (V : Valuation τ sig (Elt F)) : after opsM V (main_arg4 : DevRef τ sig) = V (main_arg4 : DevRef τ sig) := by
  unfold opsM; after_results
theorem keepM_arg5 (V : Valuation τ sig (Elt F)) : after opsM V (main_arg5 : DevRef τ sig) = V (main_arg5 : DevRef τ sig) := by
  unfold opsM; after_results
theorem keepM_arg6 (V : Valuation τ sig (Elt F)) : after opsM V (main_arg6 : DevRef τ sig) = V (main_arg6 : DevRef τ sig) := by
  unfold opsM; after_results
theorem keepM_v97 (V : Valuation τ sig (Elt F)) : after opsM V (main_v97 : DevRef τ sig) = V (main_v97 : DevRef τ sig) := by
  unfold opsM; after_results

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type*} {p : α → Prop} {a b : List α} (ha : a.Forall p) (hb : b.Forall p) : (a ++ b).Forall p := by
  rw [List.forall_iff_forall_mem] at *
  exact fun x hx => (List.mem_append.mp hx).elim (ha x) (hb x)

theorem append_after (l₁ l₂ : List (HloOp τ sig (Elt F))) (V : Valuation τ sig (Elt F)) :
    after (l₁ ++ l₂) V = after l₂ (after l₁ V) := by
  induction l₁ generalizing V with
  | nil => rfl
  | cons op l ih => exact ih _

theorem ops_sub : (ops : List (HloOp τ sig (Elt F))).Forall fun op => op.bufs ⊆ tcRefs τ sig :=
  forall_append subA (forall_append subB (forall_append subC (forall_append subD (forall_append subE (forall_append subG (forall_append subH (forall_append subI (forall_append subJ (forall_append subK (subM))))))))))

/-- The mean divergence as a function of the arguments. -/
def knn (q : FVec F S1024x64 .f32) (qi : IVec S1024 32) (W : FVec F S64x64 .f32) (b : FVec F S64 .f32) (X : FVec F S100000x64 .f32)
    (pi : IVec S16384x16 32) (pw : FVec F S16384x16 .f32) : FVec F S_ .f32 :=
  let T := mapped q W b
  let I := nearest (negDist T X)
  let M := same (Host.gather gather_S16384x16_S1024x1_S1024x16_1_0_n_n_0_1_116 pi (wrapped qi)) I
  let V := members M
  meanLoss (rowLoss V (normed V (earlier V (Host.gather gather_S16384x16_S1024x1_S1024x16_1_0_n_n_0_1_116 pw (wrapped qi))))
    (normed V (later V M (overSum (expOf (scaled (rowDist T X I)))))))

theorem res_knn (V : Valuation τ sig (Elt F)) : after ops V (main_v97 : DevRef τ sig)
    = knn (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) := by
  simp only [append_after]
  rw [keepM_v97, resK_v97, keepJ_v67, resJ_v88, resJ_v89, keepI_v67, resI_v76, resI_v79, keepH_v44, keepH_v58, resH_v63, resH_v67, keepG_indices, keepG_v44, resG_v51, resG_v58, keepE_arg1, keepE_arg5, keepE_arg6, keepE_indices, resE_v44, keepD_arg1, keepD_arg5, keepD_arg6, keepD_indices, resD_v30, keepC_arg1, keepC_arg4, keepC_arg5, keepC_arg6, resC_indices, keepC_v3, keepB_arg1, keepB_arg4, keepB_arg5, keepB_arg6, resB_v18, keepB_v3, keepA_arg1, keepA_arg4, keepA_arg5, keepA_arg6, resA_v3]
  rfl
theorem res_total (V : Valuation τ sig (Elt F)) : after ops V (main_v106 : DevRef τ sig)
    = total (knn (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)))
        (regLoss (V (main_arg2 : DevRef τ sig)) (V (main_arg3 : DevRef τ sig))) := by
  simp only [append_after]
  rw [resM_v106, keepK_arg2, keepK_arg3, resK_v97, keepJ_arg2, keepJ_arg3, keepJ_v67, resJ_v88, resJ_v89, keepI_arg2, keepI_arg3, keepI_v67, resI_v76, resI_v79, keepH_arg2, keepH_arg3, keepH_v44, keepH_v58, resH_v63, resH_v67, keepG_arg2, keepG_arg3, keepG_indices, keepG_v44, resG_v51, resG_v58, keepE_arg1, keepE_arg2, keepE_arg3, keepE_arg5, keepE_arg6, keepE_indices, resE_v44, keepD_arg1, keepD_arg2, keepD_arg3, keepD_arg5, keepD_arg6, keepD_indices, resD_v30, keepC_arg1, keepC_arg2, keepC_arg3, keepC_arg4, keepC_arg5, keepC_arg6, resC_indices, keepC_v3, keepB_arg1, keepB_arg2, keepB_arg3, keepB_arg4, keepB_arg5, keepB_arg6, resB_v18, keepB_v3, keepA_arg1, keepA_arg2, keepA_arg3, keepA_arg4, keepA_arg5, keepA_arg6, resA_v3]
  rfl
theorem res_zero (V : Valuation τ sig (Elt F)) : after ops V (main_cst_30 : DevRef τ sig) = constant S_ .f32 0x00000000#32 := by
  simp only [append_after]
  rw [resM_cst_30]
theorem keep (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig) := by
  simp only [append_after]
  refine ⟨?_, ?_, ?_, ?_, ?_, ?_, ?_⟩
  · rw [keepM_arg0, keepK_arg0, keepJ_arg0, keepI_arg0, keepH_arg0, keepG_arg0, keepE_arg0, keepD_arg0, keepC_arg0, keepB_arg0, keepA_arg0]
  · rw [keepM_arg1, keepK_arg1, keepJ_arg1, keepI_arg1, keepH_arg1, keepG_arg1, keepE_arg1, keepD_arg1, keepC_arg1, keepB_arg1, keepA_arg1]
  · rw [keepM_arg2, keepK_arg2, keepJ_arg2, keepI_arg2, keepH_arg2, keepG_arg2, keepE_arg2, keepD_arg2, keepC_arg2, keepB_arg2, keepA_arg2]
  · rw [keepM_arg3, keepK_arg3, keepJ_arg3, keepI_arg3, keepH_arg3, keepG_arg3, keepE_arg3, keepD_arg3, keepC_arg3, keepB_arg3, keepA_arg3]
  · rw [keepM_arg4, keepK_arg4, keepJ_arg4, keepI_arg4, keepH_arg4, keepG_arg4, keepE_arg4, keepD_arg4, keepC_arg4, keepB_arg4, keepA_arg4]
  · rw [keepM_arg5, keepK_arg5, keepJ_arg5, keepI_arg5, keepH_arg5, keepG_arg5, keepE_arg5, keepD_arg5, keepC_arg5, keepB_arg5, keepA_arg5]
  · rw [keepM_arg6, keepK_arg6, keepJ_arg6, keepI_arg6, keepH_arg6, keepG_arg6, keepE_arg6, keepD_arg6, keepC_arg6, keepB_arg6, keepA_arg6]

/-- The reference's run: every weakly fair execution terminates, its results at `total`, zero and `knn` of the arguments,
    the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b)
        = after ops (fun b => m (c, b)) (b : DevRef τ sig) :=
  θ_run_mono (run_seq scopedRefs_eq scopedSems_eq defs main (fun _ => ops) main_eq (fun _ => ops_sub) m ρ) fun r h c b => h c b

end Cert.Proof.Ref

end
-- ==== Proof.Spec.lean ====
/-
  One query's divergence as a function of its sixteen neighbours: their squared distances `l`, their numbers `ti`, the
  earlier neighbours' numbers `pi` and probabilities `pw`. Both programs are read as `kl`.
-/
module

public import proofs.«01_k».proof.Defs
public import Idealize.ShloMosaic.Lib.Pointwise

@[expose] public section

noncomputable section

namespace Cert.Proof.Spec

open Idealize.ShloMosaic

/-- The least probability. -/
def eps : EReal := Ideal.ofBits .f32 0x322BCC77#32
/-- The temperature. -/
def temp : EReal := Ideal.ofBits .f32 0x3DCCCCCD#32
/-- What a row's maximum starts from. -/
def low : EReal := Ideal.ofBits .f32 0xFF800000#32

variable (l : Fin 16 → EReal) (ti pi : Fin 16 → BitVec 32) (pw : Fin 16 → EReal)

def z (j : Fin 16) : EReal := Ideal.div (-(l j)) temp
def top : EReal := (Finset.univ : Finset (Fin 16)).fold max low (z l)
def ex (j : Fin 16) : EReal := Ideal.exp (z l j - top l)
/-- The softmax of the negated distances over the temperature. -/
def post (j : Fin 16) : EReal := Ideal.div (ex l j) (∑ k, ex l k)

/-- A neighbour that is an earlier one as well. -/
def Dup (j : Fin 16) : Prop := ∃ j', pi j' = ti j
instance (j : Fin 16) : Decidable (Dup ti pi j) := by unfold Dup; infer_instance

/-- What an earlier neighbour has of the new probabilities. -/
def qon (j' : Fin 16) : EReal := ∑ j, if pi j' = ti j then post l j else 0

def p1 (j : Fin 16) : EReal := max (pw j) eps
def p2 (j : Fin 16) : EReal := if Dup ti pi j then 0 else eps
def q1 (j : Fin 16) : EReal := max (qon l ti pi j) eps
def q2 (j : Fin 16) : EReal := if Dup ti pi j then 0 else max (post l j) eps
def sp : EReal := ∑ j, p1 pw j + ∑ j, p2 ti pi j
def sq : EReal := ∑ j, q1 l ti pi j + ∑ j, q2 l ti pi j
/-- One member's term. -/
def term (p q : EReal) : EReal := p * (Ideal.log p - Ideal.log q)
/-- The divergence over the union. -/
def kl : EReal :=
  (∑ j, term (Ideal.div (p1 pw j) (sp ti pi pw)) (Ideal.div (q1 l ti pi j) (sq l ti pi)))
  + ∑ j, if Dup ti pi j then 0 else term (Ideal.div (p2 ti pi j) (sp ti pi pw)) (Ideal.div (q2 l ti pi j) (sq l ti pi))

theorem eps_nonneg : 0 ≤ eps := by
  unfold eps
  simp [Ideal.ofBits, Ideal.ieee, -EReal.coe_mul]
theorem max_zero_eps : max 0 eps = eps := max_eq_right eps_nonneg
theorem low_eq : low = ⊥ := by
  unfold low
  simp [Ideal.ofBits, Ideal.ieee]

/-- The `or` of a row of bits. -/
theorem fold_ori {ι : Type} [Fintype ι] [DecidableEq ι] (p : ι → BitVec 1) :
    (Finset.univ : Finset ι).fold IntOp.ori 0#1 p = if ∃ k, p k = 1#1 then 1#1 else 0#1 := by
  have key : ∀ S : Finset ι, S.fold IntOp.ori 0#1 p = if ∃ k ∈ S, p k = 1#1 then 1#1 else 0#1 := by
    intro S
    induction S using Finset.induction_on with
    | empty => simp
    | insert a S ha ih =>
      rw [Finset.fold_insert ha, ih]
      have h2 : ∀ b : BitVec 1, b = 0#1 ∨ b = 1#1 := by decide
      rcases h2 (p a) with h | h
      · by_cases hs : ∃ k ∈ S, p k = 1#1
        · rw [if_pos hs, if_pos (by obtain ⟨k, hk, e⟩ := hs; exact ⟨k, Finset.mem_insert_of_mem hk, e⟩), h]; rfl
        · rw [if_neg hs, if_neg, h]
          · rfl
          · rintro ⟨k, hk, e⟩
            rcases Finset.mem_insert.mp hk with rfl | hk
            · rw [h] at e; exact absurd e (by decide)
            · exact hs ⟨k, hk, e⟩
      · have hi : (∃ k ∈ insert a S, p k = 1#1) := ⟨a, Finset.mem_insert_self .., h⟩
        rw [h, if_pos hi]
        split <;> rfl
  rw [key]
  simp

end Cert.Proof.Spec

end
-- ==== Proof.RefVal.lean ====
/-
  The reference's stages read at an element, at the extended reals; a query's divergence is `Spec.kl` (`rowLoss_apply`).
-/
module

public import proofs.«01_k».proof.Proof.RefRun
public import proofs.«01_k».proof.Proof.Spec

@[expose] public section

noncomputable section

namespace Cert.Proof.Ref

open Cert.ReferenceIdeal Cert.ReferenceIdeal.Gen
open Idealize.ShloMosaic Idealize.ShloMosaic.TcCoe Idealize.ShloMosaic.StableHlo Idealize.SL.Sem
open Cert.Proof

theorem mapped_apply (q : FVec Ideal S1024x64 .f32) (W : FVec Ideal S64x64 .f32) (b : FVec Ideal S64 .f32) (r : Fin 1024) (k : Fin 64) :
    mapped q W b (ix2 r k) = ∑ c, q (ix2 r c) * W (ix2 c k) + b (ix1 k) := by
  unfold mapped; simp only [pointwise, Nat.reduceEqDiff, OfNat.ofNat_ne_one, ↓reduceDIte, zero_add]

theorem negDist_apply (T : FVec Ideal S1024x64 .f32) (X : FVec Ideal S100000x64 .f32) (r : Fin 1024) (n : Fin 100000) :
    negDist T X (ix2 r n)
      = -(∑ k, T (ix2 r k) * T (ix2 r k) - ∑ k, Ideal.ofBits .f32 0x40000000#32 * T (ix2 r k) * X (ix2 n k) + ∑ k, X (ix2 n k) * X (ix2 n k)) := by
  unfold negDist; simp only [pointwise, Nat.reduceEqDiff, OfNat.ofNat_ne_one, ↓reduceDIte, zero_add]

theorem scaled_apply (l : FVec Ideal S1024x16 .f32) (r : Fin 1024) (j : Fin 16) :
    scaled l (ix2 r j) = Spec.z (fun j => l (ix2 r j)) j := by
  unfold scaled; simp only [pointwise]; rfl

theorem post_apply (l : FVec Ideal S1024x16 .f32) (r : Fin 1024) (j : Fin 16) :
    overSum (expOf (scaled l)) (ix2 r j) = Spec.post (fun j => l (ix2 r j)) j := by
  have e : ∀ j, expOf (scaled l) (ix2 r j) = Spec.ex (fun j => l (ix2 r j)) j := by
    intro j
    unfold expOf
    simp only [pointwise, Nat.reduceEqDiff, OfNat.ofNat_ne_one, ↓reduceDIte, scaled_apply]
    unfold Spec.ex Spec.top
    congr 2
    rw [show Ideal.ofBits .f32 0xFF800000#32 = Spec.low from rfl, Spec.low_eq]
    exact max_eq_right bot_le
  unfold overSum
  simp only [pointwise, Nat.reduceEqDiff, OfNat.ofNat_ne_one, ↓reduceDIte, zero_add, e]
  rfl

theorem same_apply (pi I : IVec S1024x16 32) (r : Fin 1024) (j' j : Fin 16) :
    same pi I (ix3 r j' j) = if pi (ix2 r j') = I (ix2 r j) then 1#1 else 0#1 := by
  unfold same
  simp only [pointwise, Nat.reduceEqDiff, OfNat.ofNat_ne_one, ↓reduceDIte]
  show BitVec.ofBool (decide _) = _
  by_cases h : pi (ix2 r j') = I (ix2 r j) <;> simp [h]

theorem members_left (pi I : IVec S1024x16 32) (r : Fin 1024) (j : Fin 16) :
    members (same pi I) (ix2 r (Fin.castAdd 16 j)) = 1#1 := by
  unfold members
  simp only [pointwise]
  rw [dif_pos (show (Fin.castAdd 16 j).val < 16 from j.isLt)]

theorem members_right (pi I : IVec S1024x16 32) (r : Fin 1024) (j : Fin 16) :
    members (same pi I) (ix2 r (Fin.natAdd 16 j))
      = if Spec.Dup (fun j => I (ix2 r j)) (fun j => pi (ix2 r j)) j then 0#1 else 1#1 := by
  unfold members
  simp only [pointwise]
  rw [dif_neg (show ¬ (Fin.natAdd 16 j).val < 16 from by simp)]
  rw [Spec.fold_ori]
  have e : ∀ (k : Fin 16) h h', (ix3 ⟨if (0 : Fin 2).val = (1 : Fin 2).val then (Fin.natAdd 16 j).val - (![1024, 16] : Fin 2 → ℕ) 1 else r.val, h⟩ k
      ⟨if True then (Fin.natAdd 16 j).val - (![1024, 16] : Fin 2 → ℕ) 1 else (Fin.natAdd 16 j).val, h'⟩ : S1024x16x16.Idx) = ix3 r k j := fun k h h' =>
    congrArg₂ (ix3 · k ·) (Fin.ext (by simp)) (Fin.ext (by simp))
  simp only [e, same_apply]
  have hd : (∃ k, (if pi (ix2 r k) = I (ix2 r j) then 1#1 else 0#1) = 1#1) ↔ Spec.Dup (fun j => I (ix2 r j)) (fun j => pi (ix2 r j)) j := by
    unfold Spec.Dup
    refine exists_congr fun k => ?_
    by_cases h : pi (ix2 r k) = I (ix2 r j) <;> simp [h]
  by_cases h : Spec.Dup (fun j => I (ix2 r j)) (fun j => pi (ix2 r j)) j
  · rw [if_pos (hd.mpr h), if_pos h]; rfl
  · rw [if_neg (fun h' => h (hd.mp h')), if_neg h]; rfl

theorem clipped_left (V : IVec S1024x32 1) (a b : FVec Ideal S1024x16 .f32) (r : Fin 1024) (j : Fin 16) :
    clipped V a b (ix2 r (Fin.castAdd 16 j))
      = max (a (ix2 r j)) Spec.eps * FloatOps.uitofp (F := Ideal) .f32 (V (ix2 r (Fin.castAdd 16 j))) := by
  unfold clipped
  simp only [pointwise]
  rw [dif_pos (show (Fin.castAdd 16 j).val < 16 from j.isLt)]
  rfl
theorem clipped_right (V : IVec S1024x32 1) (a b : FVec Ideal S1024x16 .f32) (r : Fin 1024) (j : Fin 16) :
    clipped V a b (ix2 r (Fin.natAdd 16 j))
      = max (b (ix2 r j)) Spec.eps * FloatOps.uitofp (F := Ideal) .f32 (V (ix2 r (Fin.natAdd 16 j))) := by
  unfold clipped
  simp only [pointwise]
  rw [dif_neg (show ¬ (Fin.natAdd 16 j).val < 16 from by simp)]
  exact congrArg (fun i => max (b i) Spec.eps * FloatOps.uitofp (F := Ideal) .f32 (V (ix2 r (Fin.natAdd 16 j))))
    (congrArg₂ ix2 (Fin.ext (by simp)) (Fin.ext (by simp)))

theorem uitofp_one : FloatOps.uitofp (F := Ideal) .f32 (1#1) = (1 : EReal) := by
  show (((1#1 : BitVec 1).toNat : ℝ) : EReal) = 1
  simp
theorem uitofp_zero : FloatOps.uitofp (F := Ideal) .f32 (0#1) = (0 : EReal) := by
  show (((0#1 : BitVec 1).toNat : ℝ) : EReal) = 0
  simp

theorem sum32 (f : Fin 32 → EReal) : ∑ k, f k = ∑ j : Fin 16, f (Fin.castAdd 16 j) + ∑ j : Fin 16, f (Fin.natAdd 16 j) :=
  Fin.sum_univ_add (a := 16) (b := 16) f

theorem normed_apply (V : IVec S1024x32 1) (p : FVec Ideal S1024x32 .f32) (r : Fin 1024) (k : Fin 32) :
    normed V p (ix2 r k) = Scalar.select (V (ix2 r k)) (Ideal.div (p (ix2 r k))
      (∑ j : Fin 16, p (ix2 r (Fin.castAdd 16 j)) + ∑ j : Fin 16, p (ix2 r (Fin.natAdd 16 j)))) 1 := by
  unfold normed
  simp only [pointwise, Nat.reduceEqDiff, OfNat.ofNat_ne_one, ↓reduceDIte, zero_add]
  rw [sum32]

section Row

variable (pi I : IVec S1024x16 32) (pw l : FVec Ideal S1024x16 .f32) (r : Fin 1024)

theorem earlier_left (j : Fin 16) : earlier (members (same pi I)) pw (ix2 r (Fin.castAdd 16 j)) = Spec.p1 (fun j => pw (ix2 r j)) j := by
  unfold earlier
  rw [clipped_left, members_left, uitofp_one, mul_one]
  rfl
theorem earlier_right (j : Fin 16) : earlier (members (same pi I)) pw (ix2 r (Fin.natAdd 16 j))
    = Spec.p2 (fun j => I (ix2 r j)) (fun j => pi (ix2 r j)) j := by
  unfold earlier Spec.p2
  rw [clipped_right, members_right]
  simp only [pointwise]
  rw [Spec.max_zero_eps]
  split
  · rw [uitofp_zero, mul_zero]
  · rw [uitofp_one, mul_one]

theorem later_left (j : Fin 16) : later (members (same pi I)) (same pi I) (overSum (expOf (scaled l))) (ix2 r (Fin.castAdd 16 j))
    = Spec.q1 (fun j => l (ix2 r j)) (fun j => I (ix2 r j)) (fun j => pi (ix2 r j)) j := by
  unfold later
  rw [clipped_left, members_left, uitofp_one, mul_one]
  unfold Spec.q1 Spec.qon
  congr 1
  simp only [pointwise, zero_add, post_apply, same_apply]
  refine Finset.sum_congr rfl fun k _ => ?_
  split
  · rw [uitofp_one, one_mul]
  · rw [uitofp_zero, zero_mul]
theorem later_right (j : Fin 16) : later (members (same pi I)) (same pi I) (overSum (expOf (scaled l))) (ix2 r (Fin.natAdd 16 j))
    = Spec.q2 (fun j => l (ix2 r j)) (fun j => I (ix2 r j)) (fun j => pi (ix2 r j)) j := by
  unfold later Spec.q2
  rw [clipped_right, members_right, post_apply]
  split
  · rw [uitofp_zero, mul_zero]
  · rw [uitofp_one, mul_one]

/-- A query's divergence. -/
theorem rowLoss_apply : rowLoss (members (same pi I)) (normed (members (same pi I)) (earlier (members (same pi I)) pw))
      (normed (members (same pi I)) (later (members (same pi I)) (same pi I) (overSum (expOf (scaled l))))) (ix1 r)
    = Spec.kl (fun j => l (ix2 r j)) (fun j => I (ix2 r j)) (fun j => pi (ix2 r j)) (fun j => pw (ix2 r j)) := by
  unfold rowLoss
  simp only [pointwise, zero_add]
  rw [sum32]
  simp only [normed_apply, members_left, members_right, earlier_left, earlier_right, later_left, later_right]
  unfold Spec.kl
  congr 1
  refine Finset.sum_congr rfl fun j _ => ?_
  split
  · rfl
  · rfl

end Row

theorem meanLoss_apply (l : FVec Ideal S1024 .f32) :
    meanLoss l ix0 = Ideal.div (∑ r, l (ix1 r)) (Ideal.ofBits .f32 0x44800000#32) := by
  unfold meanLoss; simp only [pointwise, zero_add]
theorem regLoss_apply (W : FVec Ideal S64x64 .f32) (b : FVec Ideal S64 .f32) :
    regLoss W b ix0 = Ideal.div (∑ c, ∑ k, W (ix2 c k) * W (ix2 c k) + ∑ k, b (ix1 k) * b (ix1 k)) (Ideal.ofBits .f32 0x40000000#32) := by
  unfold regLoss; simp only [pointwise, zero_add]

end Cert.Proof.Ref

end
-- ==== Proof.Tile.lean ====
/-
  One SparseCore task of the gather. Task `(c, s)` works on block `2 s + c` of 32 consecutive queries: it fetches the
  block's 32 table row numbers, starts the two indirect gathers (the indices and the weights of those rows) on the one
  fetched list, waits for both, and copies the two gathered blocks out. `tile_body` says what the two output blocks
  hold afterwards: `gathered` of the table and of the row numbers, whatever they held before.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

set_option maxRecDepth 16384

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the gather computes -/

/-- The table row a query's row number names. -/
def rowOf (q : S1024.Idx → BitVec 32) (j : S1024x16.Idx) : Fin 16384 := ⟨(q (ix1 (j 0))).toNat % 16384, Nat.mod_lt _ (by norm_num)⟩

/-- Row `q j₀` of the table, at column `j₁`. -/
def gathered {α : Type} (tab : S16384x16.Idx → α) (q : S1024.Idx → BitVec 32) (j : S1024x16.Idx) : α := tab (ix2 (rowOf q j) (j 1))

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The row numbers, the two tables, the two results. -/
abbrev qLoc (d : Dev nD) : Loc nD τ sig := (SparseCore.T d).loc main_arg1
abbrev iLoc (d : Dev nD) : Loc nD τ sig := (SparseCore.T d).loc main_arg5
abbrev wLoc (d : Dev nD) : Loc nD τ sig := (SparseCore.T d).loc main_arg6
abbrev oLoc (d : Dev nD) : Loc nD τ sig := (SparseCore.T d).loc main_v0_0
abbrev pLoc (d : Dev nD) : Loc nD τ sig := (SparseCore.T d).loc main_v0_1

local notation "qV" => (Memref.whole Cert.KernelIdeal.main_arg1_scv : Memref Cert.KernelIdeal.sig Kind.scVector Space.hbm Cert.KernelIdeal.S1024 EltTy.i32)
local notation "iV" => (Memref.whole Cert.KernelIdeal.main_arg5_scv : Memref Cert.KernelIdeal.sig Kind.scVector Space.hbm Cert.KernelIdeal.S16384x16 EltTy.i32)
local notation "wV" => (Memref.whole Cert.KernelIdeal.main_arg6_scv : Memref Cert.KernelIdeal.sig Kind.scVector Space.hbm Cert.KernelIdeal.S16384x16 EltTy.f32)
local notation "oV" => (Memref.whole Cert.KernelIdeal.main_v0_0_scv : Memref Cert.KernelIdeal.sig Kind.scVector Space.hbm Cert.KernelIdeal.S1024x16 EltTy.i32)
local notation "pV" => (Memref.whole Cert.KernelIdeal.main_v0_1_scv : Memref Cert.KernelIdeal.sig Kind.scVector Space.hbm Cert.KernelIdeal.S1024x16 EltTy.f32)
local notation "lV" => (Memref.whole Cert.KernelIdeal.cc0_scratch0 : Memref Cert.KernelIdeal.sig Kind.scVector Space.vmem Cert.KernelIdeal.S32 EltTy.i32)
local notation "aV" => (Memref.whole Cert.KernelIdeal.cc0_scratch1 : Memref Cert.KernelIdeal.sig Kind.scVector Space.vmem Cert.KernelIdeal.S32x16 EltTy.i32)
local notation "bV" => (Memref.whole Cert.KernelIdeal.cc0_scratch2 : Memref Cert.KernelIdeal.sig Kind.scVector Space.vmem Cert.KernelIdeal.S32x16 EltTy.f32)

/-- The results' final contents, as functions of the launch memory. -/
def oFin (d : Dev nD) : Buf (Elt F) (oLoc d) := gathered (α := Elt F .i32) (m (iLoc d)) (m (qLoc d))
def pFin (d : Dev nD) : Buf (Elt F) (pLoc d) := gathered (α := Elt F .f32) (m (wLoc d)) (m (qLoc d))

/-- What the proof asks of the launch memory: every row number names a table row. -/
def PreOK : Prop := ∀ (d : Dev nD) (j : S1024.Idx), (m (qLoc d) j : BitVec 32).toNat < 16384

/-! ## Blocks of 32 queries, and a share of each table per task -/

theorem qdiv : 32 ∣ S1024.size 0 := ⟨32, rfl⟩
theorem odiv : 32 ∣ S1024x16.size 0 := ⟨32, rfl⟩
abbrev qRect (w : Fin 32) : Rect S1024 := Rect.part (s := S1024) (a₀ := 0) qdiv w
abbrev oRect (w : Fin 32) : Rect S1024x16 := Rect.part (s := S1024x16) (a₀ := 0) odiv w
abbrev qSet (w : Fin 32) : Finset S1024.Idx := ((qV).view.slice (qRect w)).set
abbrev oSet (w : Fin 32) : Finset S1024x16.Idx := ((oV).view.slice (oRect w)).set
abbrev pSet (w : Fin 32) : Finset S1024x16.Idx := ((pV).view.slice (oRect w)).set
abbrev tq (w : Fin 32) : PosShare TreeShare := Idealize.ShloMosaic.pieceOf fullShare 32 (by norm_num) w

/-- The block of the task at core `c`, subcore `s`. -/
def wid (c : Fin 2) (s : Fin 16) : Fin 32 := ⟨2 * s.val + c.val, by omega⟩

variable [FloatOps F]

abbrev qRowPts (d : Dev nD) (w : Fin 32) : sProp 𝕄 := qLoc d ↦[qSet w]{fullShare} m (qLoc d)
abbrev iShPts (d : Dev nD) (w : Fin 32) : sProp 𝕄 := iLoc d ↦{tq w} m (iLoc d)
abbrev wShPts (d : Dev nD) (w : Fin 32) : sProp 𝕄 := wLoc d ↦{tq w} m (wLoc d)
abbrev oRowPts (d : Dev nD) (w : Fin 32) (f : Buf (Elt F) (oLoc d)) : sProp 𝕄 := oLoc d ↦[oSet w]{fullShare} f
abbrev pRowPts (d : Dev nD) (w : Fin 32) (f : Buf (Elt F) (pLoc d)) : sProp 𝕄 := pLoc d ↦[pSet w]{fullShare} f

/-- What task `w` works on before it runs, and after. -/
abbrev before (d : Dev nD) (w : Fin 32) : sProp 𝕄 :=
  iprop(qRowPts m d w ∗ iShPts m d w ∗ wShPts m d w ∗ oRowPts d w (m (oLoc d)) ∗ pRowPts d w (m (pLoc d)))
abbrev after (d : Dev nD) (w : Fin 32) : sProp 𝕄 :=
  iprop(qRowPts m d w ∗ iShPts m d w ∗ wShPts m d w ∗ oRowPts d w (oFin m d) ∗ pRowPts d w (pFin m d))

/-! ## The task's windows -/

variable (d : Dev nD) (L : grid0.Coords)

abbrev cV (L : grid0.Coords) : Fin τ.nSC := (L 0).castLE hcore0
abbrev jV (L : grid0.Coords) : Fin τ.nSub := (L 1).castLE hsub0
abbrev wL (L : grid0.Coords) : Fin 32 := wid (L 0) (L 1)

omit [FloatOps F] in
theorem wL_val : (wL L).val = 2 * (L 1).val + (L 0).val := rfl

abbrev qRectK (L : grid0.Coords) : Rect S1024 := Rect.unit (s := S1024) (k0_off1 L) S32.size (k0_off1_inb L)
abbrev oRectK (L : grid0.Coords) : Rect S1024x16 := Rect.unit (s := S1024x16) (k0_off2 L) S32x16.size (k0_off2_inb L)
abbrev qRowK (L : grid0.Coords) : Memref sig .scVector .hbm S32 .i32 := (qV).slice (qRectK L) (fun _ => rfl)
abbrev oRowK (L : grid0.Coords) : Memref sig .scVector .hbm S32x16 .i32 := (oV).slice (oRectK L) (fun _ => rfl)
abbrev pRowK (L : grid0.Coords) : Memref sig .scVector .hbm S32x16 .f32 := (pV).slice (oRectK L) (fun _ => rfl)
abbrev iAllK : Memref sig .scVector .hbm S16384x16 .i32 := (iV).slice (Rect.unit (s := S16384x16) ![0, 0] S16384x16.size inb_S16384x16_S16384x16_0_0) (fun _ => rfl)
abbrev wAllK : Memref sig .scVector .hbm S16384x16 .f32 := (wV).slice (Rect.unit (s := S16384x16) ![0, 0] S16384x16.size inb_S16384x16_S16384x16_0_0) (fun _ => rfl)

omit [FloatOps F] in
theorem qRectK_eq : qRectK L = qRect (wL L) := by
  unfold qRectK qRect Rect.part Rect.block
  congr 1 <;> funext a
  · rw [k0_off1_eq]
    match a with
    | 0 => simp [Shape.partIx, Shape.partSize, wL_val]; omega
  · match a with
    | 0 => simp [Shape.partSize]
omit [FloatOps F] in
theorem oRectK_eq : oRectK L = oRect (wL L) := by
  unfold oRectK oRect Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

omit [FloatOps F] in
theorem set_qRowK : (qRowK L).view.set = qSet (wL L) := by
  show ((qV).view.slice (qRectK L)).set = ((qV).view.slice (qRect (wL L))).set
  exact qRectK_eq L ▸ rfl
omit [FloatOps F] in
theorem set_oRowK : (oRowK L).view.set = oSet (wL L) := by
  show ((oV).view.slice (oRectK L)).set = ((oV).view.slice (oRect (wL L))).set
  exact oRectK_eq L ▸ rfl
omit [FloatOps F] in
theorem set_pRowK : (pRowK L).view.set = pSet (wL L) := by
  show ((pV).view.slice (oRectK L)).set = ((pV).view.slice (oRect (wL L))).set
  exact oRectK_eq L ▸ rfl

abbrev thr (d : Dev nD) (L : grid0.Coords) : Thread nD τ := V d (cV L) (jV L)

omit [FloatOps F] in
theorem pts_qRowK (f : Buf (Elt F) (qLoc d)) :
    ((qRowK L).view.loc (thr d L) ↦[(qRowK L).view.set]{fullShare} f : sProp 𝕄) = qLoc d ↦[qSet (wL L)]{fullShare} f := by
  rw [set_qRowK]
omit [FloatOps F] in
theorem pts_oRowK (f : Buf (Elt F) (oLoc d)) :
    ((oRowK L).view.loc (thr d L) ↦[(oRowK L).view.set]{fullShare} f : sProp 𝕄) = oLoc d ↦[oSet (wL L)]{fullShare} f := by
  rw [set_oRowK]
omit [FloatOps F] in
theorem pts_pRowK (f : Buf (Elt F) (pLoc d)) :
    ((pRowK L).view.loc (thr d L) ↦[(pRowK L).view.set]{fullShare} f : sProp 𝕄) = pLoc d ↦[pSet (wL L)]{fullShare} f := by
  rw [set_pRowK]
omit [FloatOps F] in
theorem pts_iV (q : PosShare TreeShare) (f : Buf (Elt F) (iLoc d)) :
    ((iV).view.loc (thr d L) ↦{q} f : sProp 𝕄) = iLoc d ↦{q} f := rfl
omit [FloatOps F] in
theorem pts_wV (q : PosShare TreeShare) (f : Buf (Elt F) (wLoc d)) :
    ((wV).view.loc (thr d L) ↦{q} f : sProp 𝕄) = wLoc d ↦{q} f := rfl
omit [FloatOps F] in
theorem pts_lV (f : Buf (Elt F) ((thr d L).loc cc0_scratch0)) :
    ((lV).view.loc (thr d L) ↦{fullShare} f : sProp 𝕄) = (thr d L).loc cc0_scratch0 ↦{fullShare} f := rfl
omit [FloatOps F] in
theorem pts_aV (f : Buf (Elt F) ((thr d L).loc cc0_scratch1)) :
    ((aV).view.loc (thr d L) ↦{fullShare} f : sProp 𝕄) = (thr d L).loc cc0_scratch1 ↦{fullShare} f := rfl
omit [FloatOps F] in
theorem pts_bV (f : Buf (Elt F) ((thr d L).loc cc0_scratch2)) :
    ((bV).view.loc (thr d L) ↦{fullShare} f : sProp 𝕄) = (thr d L).loc cc0_scratch2 ↦{fullShare} f := rfl

/-! ## The task's semaphores and scratch buffers among the subcore's own -/

/-- Cell `k` of the subcore's DMA semaphores, of which the task uses the first five. -/
abbrev cell (d : Dev nD) (L : grid0.Coords) (k : DmaSem sig) : GSem nD τ sig := (thr d L, .dma k)

omit [FloatOps F] in
theorem cell_mem (k : DmaSem sig) : cell d L k ∈ ownCells (thr d L) :=
  mem_ownCells.mpr ⟨rfl, by
    show (SemLoc.dma k : SemLoc sig).isScoped .scVector = true
    revert k; decide⟩
omit [FloatOps F] in
theorem cell_ne {k k' : DmaSem sig} (h : k ≠ k') : cell d L k ≠ cell d L k' := fun e => h (by
  have := (Prod.mk.inj e).2; exact SemLoc.dma.inj this)

/-- The subcore's other semaphores. -/
abbrev restCells (d : Dev nD) (L : grid0.Coords) : Finset (GSem nD τ sig) :=
  (((((ownCells (thr d L)).erase (cell d L 0)).erase (cell d L 1)).erase (cell d L 2)).erase (cell d L 3)).erase (cell d L 4)

omit [FloatOps F] in
theorem ownSems0_V :
    (ownSems0 (thr d L) : sProp 𝕄)
      = iprop(semVal (cell d L 0) 0 ∗ semVal (cell d L 1) 0 ∗ semVal (cell d L 2) 0 ∗ semVal (cell d L 3) 0 ∗ semVal (cell d L 4) 0
          ∗ bigSep (restCells d L) fun g => semVal g 0) := by
  unfold SparseCore.Cfg.ownSems0
  rw [SparseCore.bigSep_erase' (cell_mem d L 0),
    SparseCore.bigSep_erase' (i := cell d L 1) (Finset.mem_erase.mpr ⟨cell_ne d L (by decide), cell_mem d L 1⟩),
    SparseCore.bigSep_erase' (i := cell d L 2) (Finset.mem_erase.mpr ⟨cell_ne d L (by decide), Finset.mem_erase.mpr ⟨cell_ne d L (by decide), cell_mem d L 2⟩⟩),
    SparseCore.bigSep_erase' (i := cell d L 3) (Finset.mem_erase.mpr ⟨cell_ne d L (by decide), Finset.mem_erase.mpr ⟨cell_ne d L (by decide),
      Finset.mem_erase.mpr ⟨cell_ne d L (by decide), cell_mem d L 3⟩⟩⟩),
    SparseCore.bigSep_erase' (i := cell d L 4) (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L 4⟩⟩⟩⟩)]

abbrev ref (d : Dev nD) (L : grid0.Coords) (b : Ref sig .scVector) : DevRef τ sig := (Proc.scVector (cV L) (jV L)).devRef b

abbrev restRefs (d : Dev nD) (L : grid0.Coords) : Finset (DevRef τ sig) :=
  (((ownRefs (τ := τ) (.scVector (cV L) (jV L))).erase (ref d L cc0_scratch0)).erase (ref d L cc0_scratch1)).erase (ref d L cc0_scratch2)

omit [FloatOps F] in
theorem ref_ne {b b' : Ref sig .scVector} (h : b ≠ b') : ref d L b ≠ ref d L b' := fun e => absurd (Proc.devRef_injective _ e) h

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (restRefs d L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref d L cc0_scratch0) rfl)).trans ?_
  rw [SparseCore.bigSep_erase' (i := ref d L cc0_scratch1) (Finset.mem_erase.mpr ⟨ref_ne d L (by decide),
      SparseCore.Cfg.mem_ownRefs_of_owner (p := Proc.scVector (cV L) (jV L)) rfl⟩),
    SparseCore.bigSep_erase' (i := ref d L cc0_scratch2) (Finset.mem_erase.mpr ⟨ref_ne d L (by decide), Finset.mem_erase.mpr ⟨ref_ne d L (by decide),
      SparseCore.Cfg.mem_ownRefs_of_owner (p := Proc.scVector (cV L) (jV L)) rfl⟩⟩)]

/-! ## Values -/

omit [FloatOps F] in
/-- Every fetched word names a table row. -/
theorem list_lt (hpre : PreOK m) (fs : Buf (Elt F) ((thr d L).loc cc0_scratch0)) (pay : S32.Idx → Elt F .i32)
    (hpay : pay = (qRowK L).view.read (Elt F) (m (qLoc d))) :
    ∀ x, ((lV).view.read (Elt F) (View.write (Elt F) (lV).view fs pay Finset.univ) x : BitVec 32).toNat < S16384x16.size gathers_S16384x16_S32x16.axis := by
  subst hpay; intro x
  rw [View.write_whole_univ]
  simp only [Memref.view_whole, View.read_whole]
  rw [show ∀ j, (qRowK L).view.read (Elt F) (m (qLoc d)) j = m (qLoc d) ((qRowK L).view.emb j) from fun j => (View.read_apply _ _).trans (cast_eq _ _)]
  exact hpre d _

omit [FloatOps F] in
/-- A view written over its whole is, at its element `x`, the payload at `x`. -/
theorem writes_whole_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = _root_.cast (congrArg (Elt F) v.elt_eq.symm) (w x) := by
  have h := View.write_emb_of_mem (v := v.slice (Rect.whole s)) (Val := Elt F) f w (M := Finset.univ) (x := x) (Finset.mem_univ _)
  rw [View.emb_slice, Function.Embedding.trans_apply, Rect.emb_whole_apply] at h
  exact h

omit [FloatOps F] in
/-- Row `k` of the fetched list is the row number of the block's `k`-th query, and the gather's payload at `x` is
    that table row's word: at the block's place for `x`, what the gather is to leave. -/
theorem payload_eq {e : EltTy} (hpre : PreOK m) (fl : Buf (Elt F) ((thr d L).loc cc0_scratch0)) (tab g : S16384x16.Idx → Elt F e)
    (hg : ∀ y, g y = tab y) (pay : S32.Idx → Elt F .i32) (hpay : pay = (qRowK L).view.read (Elt F) (m (qLoc d)))
    (hin : ∀ x, ((lV).view.read (Elt F) (View.write (Elt F) (lV).view fl pay Finset.univ) x : BitVec 32).toNat < S16384x16.size gathers_S16384x16_S32x16.axis)
    (hn : S32.numel = S32x16.size gathers_S16384x16_S32x16.axis') (x : S32x16.Idx) :
    SparseCore.gatherPayload gathers_S16384x16_S32x16 g (SparseCore.rows ((lV).view.read (Elt F) (View.write (Elt F) (lV).view fl pay Finset.univ)) hn hin) x
      = gathered tab (m (qLoc d)) ((oRectK L).emb x) := by
  subst hpay
  unfold SparseCore.gatherPayload gathered
  rw [hg]
  congr 1
  funext a
  match a with
  | 0 =>
    refine (Shape.Gathers.idx_axis gathers_S16384x16_S32x16 _ x).trans (Fin.ext ?_)
    show ((lV).view.read (Elt F) (View.write (Elt F) (lV).view fl _ Finset.univ) _ : BitVec 32).toNat = (m (qLoc d) _ : BitVec 32).toNat % 16384
    rw [Nat.mod_eq_of_lt (hpre d _), View.write_whole_univ]
    simp only [Memref.view_whole, View.read_whole]
    rw [show ∀ j, (qRowK L).view.read (Elt F) (m (qLoc d)) j = m (qLoc d) ((qRowK L).view.emb j) from fun j => (View.read_apply _ _).trans (cast_eq _ _)]
    congr 2
    funext b
    match b with
    | 0 =>
      apply Fin.ext
      show k0_off1 L 0 + 1 * (S32.rowMajor.symm _ 0).val = k0_off2 L 0 + 1 * (x 0).val
      rw [← Shape.rowMajor_val_one, Equiv.apply_symm_apply, k0_off1_eq, k0_off2_eq]
      rfl
  | 1 =>
    apply Fin.ext
    refine (Shape.Gathers.idx_of_ne gathers_S16384x16_S32x16 _ x 1 (by decide)).trans ?_
    show (x 1).val = k0_off2 L 1 + 1 * (x 1).val
    rw [k0_off2_eq]
    show (x 1).val = 0 + 1 * (x 1).val
    omega

omit [FloatOps F] in
/-- The block of results a task copies out, as the buffer's contents at its elements. -/
theorem copied {e : EltTy} (v : View sig .scVector .vmem S32x16 e) (f : v.ty.Contents (Elt F)) (w : S32x16.Idx → Elt F e) (x : S32x16.Idx) :
    v.read (Elt F) (v.write (Elt F) f w Finset.univ) x = w x := by
  rw [View.read_apply, View.write_emb_of_mem _ _ (Finset.mem_univ _)]
  simp

omit [FloatOps F] in
/-- The slice of a table that is all of it. -/
theorem emb_all (y : S16384x16.Idx) :
    (Rect.unit (s := S16384x16) ![0, 0] S16384x16.size inb_S16384x16_S16384x16_0_0).emb y = y := by
  funext a
  apply Fin.ext
  rw [Rect.emb_apply]
  match a with
  | 0 => show 0 + 1 * (y 0).val = _; omega
  | 1 => show 0 + 1 * (y 1).val = _; omega

set_option maxHeartbeats 4000000 in
/-- The task: its blocks and shares in, the same out with the two result blocks at the gathered rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ before m d (wL L)
        ∗ scopedBufs (thr d L) ∗ scopedSems0 (thr d L) ∗ owes (thr d L) O W)
      ⊢ wp frame (wpE (defs₀ (F := F)) 𝒱₀ (thr d L) none) Set.univ
          (cc0_gather_kernel L iV (Memref.isWhole_whole _) wV (Memref.isWhole_whole _) qV (Memref.isWhole_whole _)
            oV (Memref.isWhole_whole _) pV (Memref.isWhole_whole _)
            lV (Memref.isWhole_whole _) aV (Memref.isWhole_whole _) bV (Memref.isWhole_whole _)
            cc0_scratch3 cc0_scratch4 cc0_scoped0 cc0_scoped1 cc0_scoped2)
          fun _ => iprop(after m d (wL L)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hq, Hi, Hw, Ho, Hp⟩, ⟨⟨%fl, Hl⟩, ⟨%fa, Ha⟩, ⟨%fb, Hb⟩, Hbufs⟩, ⟨Hs0, Hs1, Hs2, Hs3, Hs4, Hsems⟩, HO⟩
  ihave Hmw := (show levAts (K (F := F)).L (K (F := F)).lev ⊢ Transfers.MayWaits (thr d L) (default : HIx 1) O from
    (K (F := F)).mayWaits_none (thr := thr d L) hO) $$ Hlv
  ihave Hq' := (Entails.of_eq (pts_qRowK (F := F) d L _).symm) $$ Hq
  ihave Ho' := (Entails.of_eq (pts_oRowK (F := F) d L _).symm) $$ Ho
  ihave Hp' := (Entails.of_eq (pts_pRowK (F := F) d L _).symm) $$ Hp
  ihave Hi' := (Entails.of_eq (pts_iV (F := F) d L _ _).symm) $$ Hi
  ihave Hw' := (Entails.of_eq (pts_wV (F := F) d L _ _).symm) $$ Hw
  ihave Hl' := (Entails.of_eq (pts_lV (F := F) d L _).symm) $$ Hl
  ihave Ha' := (Entails.of_eq (pts_aV (F := F) d L _).symm) $$ Ha
  ihave Hb' := (Entails.of_eq (pts_bV (F := F) d L _).symm) $$ Hb
  sl_exec
  ihave Hxs := (pointsTo_split_subset (q := tq (wL L)) (f := m (iLoc d)) (S := Finset.univ) (Finset.subset_univ (iAllK).view.set)).1 $$ Hi'
  icases Hxs with ⟨His, Hir⟩
  ihave Hxs := (pointsTo_split_subset (q := tq (wL L)) (f := m (wLoc d)) (S := Finset.univ) (Finset.subset_univ (wAllK).view.set)).1 $$ Hw'
  icases Hxs with ⟨Hws, Hwr⟩
  have hls : (lV).view.set = Finset.univ := View.set_whole _
  have has : (aV).view.set = Finset.univ := View.set_whole _
  have hbs : (bV).view.set = Finset.univ := View.set_whole _
  ihave Ha2 := (Entails.of_eq (show ((aV).view.loc (thr d L) ↦{fullShare} fa : sProp 𝕄)
      = (aV).view.loc (thr d L) ↦[(aV).view.set]{fullShare} fa by rw [has])) $$ Ha'
  ihave Hb2 := (Entails.of_eq (show ((bV).view.loc (thr d L) ↦{fullShare} fb : sProp 𝕄)
      = (bV).view.loc (thr d L) ↦[(bV).view.set]{fullShare} fb by rw [hbs])) $$ Hb'
  ihave Hl2 := (Entails.of_eq (show ((lV).view.loc (thr d L) ↦{fullShare} View.write (Elt F) (lV).view fl (tile_body.sl.dma0 m d L) Finset.univ : sProp 𝕄)
      = (lV).view.loc (thr d L) ↦[(lV).view.set]{fullShare} View.write (Elt F) (lV).view fl (tile_body.sl.dma0 m d L) Finset.univ
      by rw [hls])) $$ Hl'
  ihave Hl3 := (pointsTo_share (PosShare.mem_left_op_right fullShare)).1 $$ Hl2
  icases Hl3 with ⟨Hla, Hlb⟩
  have hNa : ∀ h : S16384x16.Gathers 0 S32x16, ∑ j, ((aV).slice (S32x16.rowRect h.axis' j) (S32x16.stride_rowRect h.axis' j)).view.dmaCredit
      = (aV).view.dmaCredit := by decide
  have hNb : ∀ h : S16384x16.Gathers 0 S32x16, ∑ j, ((bV).slice (S32x16.rowRect h.axis' j) (S32x16.stride_rowRect h.axis' j)).view.dmaCredit
      = (bV).view.dmaCredit := by decide
  iapply (SparseCore.wp_indirectGatherLocal countersEmb 𝒱₀ (thr d L) none (hg := gathers_S16384x16_S32x16) (default : HIx 1)
      (aV).view.dmaCredit (hNa _) (by decide) (list_lt m d L hpre fl _ rfl)) $$ [His Ha2 Hla Hs0]
  · isplitl [His]; · iexact His
    isplitl [Ha2]; · iexact Ha2
    isplitl [Hla]; · iexact Hla
    iexact Hs0
  iintro Hfa
  sl_exec
  iapply (SparseCore.wp_indirectGatherLocal countersEmb 𝒱₀ (thr d L) none (hg := gathers_S16384x16_S32x16) (default : HIx 1)
      (bV).view.dmaCredit (hNb _) (by decide) (list_lt m d L hpre fl _ rfl)) $$ [Hws Hb2 Hlb Hs1]
  · isplitl [Hws]; · iexact Hws
    isplitl [Hb2]; · iexact Hb2
    isplitl [Hlb]; · iexact Hlb
    iexact Hs1
  iintro Hfb
  sl_exec
  iapply (Transfers.wp_waitLocalO countersEmb 𝒱₀ (thr d L) none (default : HIx 1) (rfl : (aV).view.dmaCredit = _)) $$ [Hfa HO]
  · isplitl [Hfa]; · iexact Hfa
    isplitl [HO]; · iexact HO
    iapply (Transfers.MayWaits.elim (SemLoc.dma cc0_scratch3.sem)) $$ Hmw
  iintro ⟨⟨Ha', His, Hla⟩, Hs0, HO⟩
  sl_exec
  iapply (Transfers.wp_waitLocalO countersEmb 𝒱₀ (thr d L) none (default : HIx 1) (rfl : (bV).view.dmaCredit = _)) $$ [Hfb HO]
  · isplitl [Hfb]; · iexact Hfb
    isplitl [HO]; · iexact HO
    iapply (Transfers.MayWaits.elim (SemLoc.dma cc0_scratch4.sem)) $$ Hmw
  iintro ⟨⟨Hb', Hws, Hlb⟩, Hs1, HO⟩
  ihave Hl' := (pointsTo_share (PosShare.mem_left_op_right fullShare)).2 $$ [Hla Hlb]
  · isplitl [Hla] <;> iassumption
  ihave Hi' := (pointsTo_split_subset (q := tq (wL L)) (f := m (iLoc d)) (S := Finset.univ) (Finset.subset_univ (iAllK).view.set)).2 $$ [His Hir]; · isplitl [His] <;> iassumption
  ihave Hw' := (pointsTo_split_subset (q := tq (wL L)) (f := m (wLoc d)) (S := Finset.univ) (Finset.subset_univ (wAllK).view.set)).2 $$ [Hws Hwr]; · isplitl [Hws] <;> iassumption
  ihave Ha3 := (Entails.of_eq (show ((aV).view.loc (thr d L) ↦[(aV).view.set]{fullShare} _ : sProp 𝕄)
      = (aV).view.loc (thr d L) ↦{fullShare} _ by rw [has])) $$ Ha'
  ihave Hb3 := (Entails.of_eq (show ((bV).view.loc (thr d L) ↦[(bV).view.set]{fullShare} _ : sProp 𝕄)
      = (bV).view.loc (thr d L) ↦{fullShare} _ by rw [hbs])) $$ Hb'
  ihave Hl3 := (Entails.of_eq (show ((lV).view.loc (thr d L) ↦[(lV).view.set]{fullShare} _ : sProp 𝕄)
      = (lV).view.loc (thr d L) ↦{fullShare} _ by rw [hls])) $$ Hl'
  sl_exec
  sl_step
  isplitl [Hq' Hi' Hw' Ho' Hp']
  · isplitl [Hq']; · iapply (Entails.of_eq (pts_qRowK (F := F) d L _)); iexact Hq'
    isplitl [Hi']; · iexact Hi'
    isplitl [Hw']; · iexact Hw'
    isplitl [Ho']
    · iapply (Entails.of_eq (pts_oRowK (F := F) d L (oFin m d)))
      iapply (Entails.of_eq (pointsTo_congr ?_)) $$ Ho'
      intro i hi
      obtain ⟨x, -, rfl⟩ := Finset.mem_map.1 hi
      rw [writes_whole_emb]
      refine (copied (aV).view _ _ x).trans ?_
      refine (payload_eq m d L hpre fl (m (iLoc d)) _ ?_ _ rfl _ _ x)
      exact fun y => (View.read_apply _ _).trans ((cast_eq _ _).trans (congrArg (m (iLoc d)) (emb_all y)))
    · iapply (Entails.of_eq (pts_pRowK (F := F) d L (pFin m d)))
      iapply (Entails.of_eq (pointsTo_congr ?_)) $$ Hp'
      intro i hi
      obtain ⟨x, -, rfl⟩ := Finset.mem_map.1 hi
      rw [writes_whole_emb]
      refine (copied (bV).view _ _ x).trans ?_
      refine (payload_eq m d L hpre fl (m (wLoc d)) _ ?_ _ rfl _ _ x)
      exact fun y => (View.read_apply _ _).trans ((cast_eq _ _).trans (congrArg (m (wLoc d)) (emb_all y)))
  isplitl [Hl3 Ha3 Hb3 Hbufs]
  · isplitl [Hl3]; · iexists _; iexact Hl3
    isplitl [Ha3]; · iexists _; iexact Ha3
    isplitl [Hb3]; · iexists _; iexact Hb3
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  repeat (rcases Finset.mem_insert.mp hp with hp | hp; · exact .inr (hp ▸ rfl))
  exact .inl hp

end Cert.Proof.Gather

end
-- ==== Proof.RefGather.lean ====
/-
  The reference's gathers read at an element: row numbers in range are not wrapped and not clamped (`gather_rows`,
  `rowDist_apply`).
-/
module

public import proofs.«01_k».proof.Proof.RefVal
public import proofs.«01_k».proof.Proof.Tile
public import Idealize.ShloMosaic.Lib.ValueIdxCore
public import Idealize.ShloMosaic.Lib.Pipeline.Value
public import Idealize.ShloMosaic.Lib.IdealHost

@[expose] public section

noncomputable section

namespace Cert.Proof.Ref

open Cert.ReferenceIdeal Cert.ReferenceIdeal.Gen
open Idealize.ShloMosaic Idealize.ShloMosaic.TcCoe Idealize.ShloMosaic.StableHlo Idealize.SL.Sem
open ValueIdx (broadcastInDim_scalar_apply)
open Cert.Proof

/-! ## The gather of rows, read at an element -/

/-- A row number in range is not wrapped. -/
theorem wrapped_apply (q : IVec S1024 32) (hq : ∀ j, (q j).toNat < 16384) (x : S1024x1.Idx) :
    wrapped q x = q (ValueIdx.ix1 (x 0)) := by
  have key : ∀ v : BitVec 32, v.toNat < 16384 → IntOp.cmpi .slt v 0#32 = 0#1 := by
    intro v hv
    have h : v.slt 0#32 = false := by
      rw [BitVec.slt_eq_decide, decide_eq_false_iff_not, BitVec.toInt_eq_toNat_cond]
      simp
      omega
    simp [IntOp.cmpi, h]
  unfold wrapped
  have hx : ∀ g : S1024.Idx → BitVec 32, broadcastInDim S1024x1 ![0] bcast_S1024_S1024x1_0 g x = g (ValueIdx.ix1 (x 0)) := fun g =>
    broadcastInDim_apply _ _ _ _ _ fun a => by
      match a with
      | 0 => rfl
  refine (hx _).trans ?_
  have hc := key _ (hq (ValueIdx.ix1 (x 0)))
  simp only [select, cmpi]
  rw [broadcastInDim_scalar_apply]
  simp only [constantI]
  rw [hc]
  rfl

theorem gather_rows {α : Type} (tab : S16384x16.Idx → α) (idx : IVec S1024x1 32) (q : S1024.Idx → BitVec 32) (hq : ∀ j, (q j).toNat < 16384)
    (hidx : ∀ x, idx x = q (ValueIdx.ix1 (x 0))) :
    Host.gather gather_S16384x16_S1024x1_S1024x16_1_0_n_n_0_1_116 tab idx = Gather.gathered tab q := by
  funext j
  unfold Host.gather Gather.gathered
  congr 1
  funext a
  refine Fin.ext ?_
  show (GatherDims.start _ j idx a) + GatherDims.batchCoord _ j a + GatherDims.offCoord _ j a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S16384x16_S1024x1_S1024x16_1_0_n_n_0_1_116.startIndexMap from List.mem_singleton.mpr rfl), hidx]
    have hs : (gather_S16384x16_S1024x1_S1024x16_1_0_n_n_0_1_116.siIdx j ⟨List.idxOf (0 : Fin 2) gather_S16384x16_S1024x1_S1024x16_1_0_n_n_0_1_116.startIndexMap,
        List.idxOf_lt_length_iff.2 (List.mem_singleton.mpr rfl)⟩) 0 = j 0 := rfl
    rw [hs]
    have h := hq (ValueIdx.ix1 (j 0))
    have hi : (q (ValueIdx.ix1 (j 0))).toInt.toNat = (q (ValueIdx.ix1 (j 0))).toNat := by
      rw [BitVec.toInt_eq_toNat_cond, if_pos (by omega)]; rfl
    rw [hi]
    show min (q (ValueIdx.ix1 (j 0))).toNat (16384 - 1) + 0 + 0 = (q (ValueIdx.ix1 (j 0))).toNat % 16384
    rw [Nat.mod_eq_of_lt h]
    omega
  | 1 =>
    have hst : gather_S16384x16_S1024x1_S1024x16_1_0_n_n_0_1_116.start j idx (1 : Fin 2) = 0 := by
      unfold GatherDims.start
      rw [dif_neg (by decide)]
    rw [hst]
    show 0 + 0 + (j 1).val = (j 1).val
    omega

/-- A number in range is not negative. -/
theorem slt_zero {v : BitVec 32} (hv : v.toNat < 100000) : IntOp.cmpi .slt v 0#32 = 0#1 := by
  have h : v.slt 0#32 = false := by
    rw [BitVec.slt_eq_decide, decide_eq_false_iff_not, BitVec.toInt_eq_toNat_cond]
    simp
    omega
  simp [IntOp.cmpi, h]

theorem gather_keys {α : Type} (X : S100000x64.Idx → α) (J : IVec S1024x16x1 32) (n : Fin 100000) (r : Fin 1024) (j : Fin 16) (k : Fin 64)
    (hJ : J (ix3 r j 0) = BitVec.ofNat 32 n.val) :
    Host.gather gather_S100000x64_S1024x16x1_S1024x16x64_2_0_n_n_0_2_164 X J (ix3 r j k) = X (ix2 n k) := by
  unfold Host.gather
  congr 1
  funext a
  refine Fin.ext ?_
  show (GatherDims.start _ (ix3 r j k) J a) + GatherDims.batchCoord _ (ix3 r j k) a + GatherDims.offCoord _ (ix3 r j k) a = _
  rw [GatherDims.batchCoord_eq_zero _ _ _ List.not_mem_nil]
  have hn : (BitVec.ofNat 32 n.val).toNat = n.val := by
    rw [BitVec.toNat_ofNat]; exact Nat.mod_eq_of_lt (by have := n.isLt; omega)
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S100000x64_S1024x16x1_S1024x16x64_2_0_n_n_0_2_164.startIndexMap from List.mem_singleton.mpr rfl)]
    have hs : (gather_S100000x64_S1024x16x1_S1024x16x64_2_0_n_n_0_2_164.siIdx (ix3 r j k) ⟨List.idxOf (0 : Fin 2) gather_S100000x64_S1024x16x1_S1024x16x64_2_0_n_n_0_2_164.startIndexMap,
        List.idxOf_lt_length_iff.2 (List.mem_singleton.mpr rfl)⟩) = ix3 r j 0 := by
      funext a
      match a with
      | 0 => rfl
      | 1 => rfl
      | 2 => rfl
    rw [hs, hJ]
    have hi : (BitVec.ofNat 32 n.val).toInt.toNat = n.val := by
      rw [BitVec.toInt_eq_toNat_cond, hn, if_pos (by have := n.isLt; omega)]; rfl
    rw [hi]
    show min n.val (100000 - 1) + 0 + 0 = n.val
    have := n.isLt
    omega
  | 1 =>
    have hst : gather_S100000x64_S1024x16x1_S1024x16x64_2_0_n_n_0_2_164.start (ix3 r j k) J (1 : Fin 2) = 0 := by
      unfold GatherDims.start
      rw [dif_neg (by decide)]
    rw [hst]
    show 0 + 0 + k.val = k.val
    omega

theorem rowDist_apply (T : FVec Ideal S1024x64 .f32) (X : FVec Ideal S100000x64 .f32) (I : IVec S1024x16 32) (r : Fin 1024) (j : Fin 16)
    (n : Fin 100000) (hI : I (ix2 r j) = BitVec.ofNat 32 n.val) :
    rowDist T X I (ix2 r j) = ∑ k, (T (ix2 r k) - X (ix2 n k)) * (T (ix2 r k) - X (ix2 n k)) := by
  have hn : (BitVec.ofNat 32 n.val).toNat = n.val := by
    rw [BitVec.toNat_ofNat]; exact Nat.mod_eq_of_lt (by have := n.isLt; omega)
  unfold rowDist
  simp only [pointwise, Nat.reduceEqDiff, OfNat.ofNat_ne_one, ↓reduceDIte, zero_add]
  refine Finset.sum_congr rfl fun k _ => ?_
  rw [gather_keys X _ n r j k]
  simp only [pointwise, Nat.reduceEqDiff, OfNat.ofNat_ne_one, ↓reduceDIte, hI]
  rw [slt_zero (by rw [hn]; exact n.isLt)]
  rfl

end Cert.Proof.Ref

end
-- ==== Proof.Topk.lean ====
/-
  The greatest of each row, in order (`topK_row`): one order of a row's places gives the values and the places of the
  greatest `K`, whatever `K` is; no later place's value is greater than an earlier one's.
-/
module

public import proofs.«01_k».proof.Defs
public import Idealize.ShloMosaic.Lib.SortFacts
public import Idealize.ShloMosaic.Lib.ValueIdx

@[expose] public section

noncomputable section

namespace Cert.Proof.Topk

open Idealize.ShloMosaic Idealize.ShloMosaic.ValueIdx

variable {R N : ℕ}

/-- The place of row `r` that comes `k`-th, the greatest first. -/
def order (x : (⟨2, ![R, N]⟩ : Shape).Idx → EReal) (r : Fin R) (k : Fin N) : Fin N :=
  sortedFrom (fun a b : Fin N => FloatOps.cmpfTotal (F := Ideal) (φ := .f32) .gt (x (ix2 r a)) (x (ix2 r b)) == 1#1) k

theorem order_injective (x : (⟨2, ![R, N]⟩ : Shape).Idx → EReal) (r : Fin R) : Function.Injective (order x r) :=
  sortedFrom_injective _
theorem order_surjective (x : (⟨2, ![R, N]⟩ : Shape).Idx → EReal) (r : Fin R) : Function.Surjective (order x r) :=
  sortedFrom_surjective _

theorem gt_iff (a b : EReal) : (FloatOps.cmpfTotal (F := Ideal) (φ := .f32) .gt a b == 1#1) = decide (b < a) := by
  show (BitVec.ofBool (decide (b < a)) == 1#1) = _
  by_cases h : b < a <;> simp [h]

theorem order_mono (x : (⟨2, ![R, N]⟩ : Shape).Idx → EReal) (r : Fin R) (a b : Fin N) (h : a < b) :
    x (ix2 r (order x r b)) ≤ x (ix2 r (order x r a)) := by
  have := sortedFrom_noInversion
    (fun a b : Fin N => FloatOps.cmpfTotal (F := Ideal) (φ := .f32) .gt (x (ix2 r a)) (x (ix2 r b)) == 1#1)
    (fun a b : Fin N => FloatOps.cmpfTotal (F := Ideal) (φ := .f32) .gt (x (ix2 r a)) (x (ix2 r b)) == 1#1)
    (fun a b => by simp only [gt_iff, decide_eq_true_eq, decide_eq_false_iff_not]; exact fun h => not_lt.mpr (le_of_lt h))
    (fun _ _ h => h)
    (fun a b c => by
      simp only [gt_iff, decide_eq_false_iff_not, not_lt]
      exact fun h1 h2 => le_trans h1 h2) a b h
  rw [gt_iff, decide_eq_false_iff_not, not_lt] at this
  exact this

theorem topK_row {K : ℕ} (x : (⟨2, ![R, N]⟩ : Shape).Idx → EReal) (h : (⟨2, ![R, N]⟩ : Shape).Slices (fun _ => 0) ⟨2, ![R, K]⟩)
    (hK : K ≤ N) (r : Fin R) (j : Fin K) :
    (Host.topK ⟨2, ![R, K]⟩ 1 (FloatOps.cmpfTotal (F := Ideal) (φ := .f32) .gt) x h).1 (ix2 r j) = x (ix2 r (order x r (Fin.castLE hK j)))
    ∧ (Host.topK ⟨2, ![R, K]⟩ 1 (FloatOps.cmpfTotal (F := Ideal) (φ := .f32) .gt) x h).2 (ix2 r j)
        = BitVec.ofNat 32 (order x r (Fin.castLE hK j)).val := by
  have along : ∀ (k k' : Fin N), Shape.Idx.along (ix2 r k : (⟨2, ![R, N]⟩ : Shape).Idx) 1 k' = ix2 r k' := by
    intro k k'
    funext a
    match a with
    | 0 => rfl
    | 1 => rfl
  have hj : ∀ {α : Type} (f : (⟨2, ![R, N]⟩ : Shape).Idx → α),
      extractStridedSlice ⟨2, ![R, K]⟩ (fun _ => 0) f h (ix2 r j) = f (ix2 r (Fin.castLE hK j)) := by
    intro α f
    unfold extractStridedSlice
    congr 1
    funext a
    match a with
    | 0 => exact Fin.ext (by simp; rfl)
    | 1 => exact Fin.ext (by simp; rfl)
  unfold Host.topK
  dsimp only
  rw [hj, hj]
  unfold Host.sort2
  rw [dif_pos (show (1 : ℕ) < (⟨2, ![R, N]⟩ : Shape).rank from Nat.one_lt_two)]
  dsimp only
  have hs : sortedFrom (fun k k' : Fin N => FloatOps.cmpfTotal (F := Ideal) (φ := .f32) .gt
        (x ((ix2 r (Fin.castLE hK j) : (⟨2, ![R, N]⟩ : Shape).Idx).along 1 k))
        (x ((ix2 r (Fin.castLE hK j) : (⟨2, ![R, N]⟩ : Shape).Idx).along 1 k')) == 1#1) (Fin.castLE hK j)
      = order x r (Fin.castLE hK j) := by
    unfold order
    simp only [along]
  constructor
  · show x ((ix2 r (Fin.castLE hK j) : (⟨2, ![R, N]⟩ : Shape).Idx).along 1 _) = _
    refine (congrArg (fun z => x ((ix2 r (Fin.castLE hK j) : (⟨2, ![R, N]⟩ : Shape).Idx).along 1 z)) hs).trans ?_
    rw [along]
  · refine (congrArg (fun z => iotaInDim (⟨2, ![R, N]⟩ : Shape) 32 ⟨1, Nat.one_lt_two⟩
      ((ix2 r (Fin.castLE hK j) : (⟨2, ![R, N]⟩ : Shape).Idx).along 1 z)) hs).trans ?_
    rw [along]
    rfl

end Cert.Proof.Topk

end
-- ==== Proof.PreRead.lean ====
/-
  What `search_exact` says of a query, read off its bits.
-/
module

public import proofs.«01_k».proof.Proof.RefGather
public import proofs.«01_k».proof.Proof.PreFacts
public import proofs.«01_k».proof.Proof.Topk
public import Idealize.ShloMosaic.Lib.ReduceAll
public import Idealize.ShloMosaic.Lib.IndicatorCount

@[expose] public section

noncomputable section

namespace Cert.Proof.Pre

open Cert.ReferenceIdeal Cert.ReferenceIdeal.Gen
open Idealize.ShloMosaic Idealize.SL.Sem
open Cert.Proof

variable (q : FVec Ideal S1024x64 .f32) (qi : IVec S1024 32) (W : FVec Ideal S64x64 .f32) (b : FVec Ideal S64 .f32)
  (X : FVec Ideal S100000x64 .f32) (pi : IVec S16384x16 32) (pw : FVec Ideal S16384x16 .f32)

theorem andi_one {s : Shape} (x y : IVec s 1) (i : s.Idx) : andi x y i = 1#1 ↔ x i = 1#1 ∧ y i = 1#1 := by
  show IntOp.andi (x i) (y i) = 1#1 ↔ _
  generalize x i = u
  generalize y i = v
  revert u v
  decide

abbrev S1024x17 : Shape := Cert.Pre_search_exact.S1024x17

/-- The seventeen greatest of each row. -/
def best (D : FVec Ideal S1024x100000 .f32) : FVec Ideal S1024x17 .f32 × IVec S1024x17 32 :=
  Host.topK S1024x17 1 (FloatOps.cmpfTotal .gt) D Cert.Pre_search_exact.Facts.sliceFits_S1024x100000_S1024x17

/-- The sixteen nearest are at different distances, and nearer than the others. -/
def apart (v : FVec Ideal S1024x17 .f32) : IVec S1024 1 :=
  Host.reduce IntOp.andi (cmpf .ogt
      (extractStridedSlice S1024x16 ![0, 0] v Cert.Pre_search_exact.Facts.slices_S1024x17_S1024x16_0_0)
      (extractStridedSlice S1024x16 ![0, 1] v Cert.Pre_search_exact.Facts.slices_S1024x17_S1024x16_0_1))
    (constantI S_ 1 1#1) reducesTo_S1024x16_S1024_d1 h_S_

/-- The farthest of the sixteen. -/
def farthest (v : FVec Ideal S1024x17 .f32) : FVec Ideal S1024 .f32 :=
  Host.negf (shapeCast S1024 (extractStridedSlice S1024x1 ![0, 15] v Cert.Pre_search_exact.Facts.slices_S1024x17_S1024x1_0_15)
    Cert.Pre_search_exact.Facts.shapeCasts_S1024x1_S1024)

/-- It is nearer than the key that pads, and than no key. -/
def nearer (T : FVec Ideal S1024x64 .f32) (v : FVec Ideal S1024x17 .f32) : IVec S1024 1 :=
  let d := subf T (broadcastInDim S1024x64 ![] bcast_S_S1024x64 (constant S_ .f32 0x447A0000#32))
  andi (cmpf .olt (farthest v) (Host.reduceAdd (mulf d d) (constant S_ .f32 0x00000000#32) reducesTo_S1024x64_S1024_d1 h_S_))
    (cmpf .olt (farthest v) (broadcastInDim S1024 ![] bcast_S_S1024 (constant S_ .f32 0x7F61B1E6#32)))

/-- Which of the sixteen agree. -/
def agree (x : IVec S1024x16 32) : IVec S1024x16x16 1 :=
  cmpi .eq
    (broadcastInDim S1024x16x16 ![0, 1, 2] bcast_S1024x16x1_S1024x16x16_0_1_2 (broadcastInDim S1024x16x1 ![0, 1] bcast_S1024x16_S1024x16x1_0_1 x))
    (broadcastInDim S1024x16x16 ![0, 1, 2] bcast_S1024x1x16_S1024x16x16_0_1_2 (broadcastInDim S1024x1x16 ![0, 2] bcast_S1024x16_S1024x1x16_0_2 x))

/-- No more than `c` agree with any. -/
def atMost (c : BitVec 32) (x : IVec S1024x16x16 1) : IVec S1024 1 :=
  Host.reduce IntOp.andi (cmpi .sle
      (Host.reduce IntOp.addi (extui 32 x Cert.Pre_search_exact.Facts.natLt_1_32) (constantI S_ 32 0#32) Cert.Pre_search_exact.Facts.reducesTo_S1024x16x16_S1024x16_d2 h_S_)
      (broadcastInDim S1024x16 ![] bcast_S_S1024x16 (constantI S_ 32 c)))
    (constantI S_ 1 1#1) reducesTo_S1024x16_S1024_d1 h_S_

/-- The sixteen nearest. -/
def sixteen (i : IVec S1024x17 32) : IVec S1024x16 32 :=
  extractStridedSlice S1024x16 ![0, 0] i Cert.Pre_search_exact.Facts.slices_S1024x17_S1024x16_0_0

def lanes (i : IVec S1024x17 32) : IVec S1024x16x16 1 :=
  agree (andi (sixteen i) (broadcastInDim S1024x16 ![] bcast_S_S1024x16 (constantI S_ 32 127#32)))
def tiles (i : IVec S1024x17 32) : IVec S1024x16x16 1 :=
  andi (lanes i) (agree (Host.shrui (sixteen i) (broadcastInDim S1024x16 ![] bcast_S_S1024x16 (constantI S_ 32 11#32))))

theorem fn_eq : Cert.Pre_search_exact.fn (F := Ideal) q qi W b X pi pw
    = andi (andi (andi (andi
        (andi (cmpi .sge qi (broadcastInDim S1024 ![] bcast_S_S1024 (constantI S_ 32 0#32)))
          (cmpi .slt qi (broadcastInDim S1024 ![] bcast_S_S1024 (constantI S_ 32 16384#32))))
        (broadcastInDim S1024 ![] bcast_S_S1024
          (Host.reduce IntOp.andi (cmpf .olt (Host.absf X) (broadcastInDim S100000x64 ![] Cert.Pre_search_exact.Facts.bcast_S_S100000x64 (constant S_ .f32 0x7F800000#32)))
            (constantI S_ 1 1#1) Cert.Pre_search_exact.Facts.reducesTo_S100000x64_S_d0_1 h_S_)))
        (apart (best (Ref.negDist (Ref.mapped q W b) X)).1))
        (nearer (Ref.mapped q W b) (best (Ref.negDist (Ref.mapped q W b) X)).1))
        (andi (atMost 2#32 (lanes (best (Ref.negDist (Ref.mapped q W b) X)).2)) (atMost 1#32 (tiles (best (Ref.negDist (Ref.mapped q W b) X)).2))) := rfl

theorem ogt_iff (x y : EReal) : FloatOps.cmpf (F := Ideal) (φ := .f32) .ogt x y = 1#1 ↔ y < x := by
  show BitVec.ofBool (decide (y < x)) = 1#1 ↔ _
  by_cases h : y < x <;> simp [h]
theorem olt_iff (x y : EReal) : FloatOps.cmpf (F := Ideal) (φ := .f32) .olt x y = 1#1 ↔ x < y := by
  show BitVec.ofBool (decide (x < y)) = 1#1 ↔ _
  by_cases h : x < y <;> simp [h]

theorem apart_apply (v : FVec Ideal S1024x17 .f32) (r : Fin 1024) (h : apart v (ix1 r) = 1#1) (j : Fin 16) :
    v (ix2 r j.succ) < v (ix2 r j.castSucc) := by
  have h' := Host.reduce_andi_eq_one _ _ _ _ _ h (ix2 r j) (by funext a; match a with | 0 => rfl)
  simp only [pointwise] at h'
  have e := (ogt_iff _ _).mp h'
  have e1 : ∀ p p', (ix2 ⟨(![0, 1] : Fin 2 → ℕ) 0 + r.val, p⟩ ⟨(![0, 1] : Fin 2 → ℕ) 1 + j.val, p'⟩ : S1024x17.Idx) = ix2 r j.succ :=
    fun p p' => congrArg₂ ix2 (Fin.ext (by simp)) (Fin.ext (by simp; omega))
  have e0 : ∀ p p', (ix2 ⟨(![0, 0] : Fin 2 → ℕ) 0 + r.val, p⟩ ⟨(![0, 0] : Fin 2 → ℕ) 1 + j.val, p'⟩ : S1024x17.Idx) = ix2 r j.castSucc :=
    fun p p' => congrArg₂ ix2 (Fin.ext (by simp)) (Fin.ext (by simp))
  rw [e1, e0] at e
  exact e
theorem farthest_apply (v : FVec Ideal S1024x17 .f32) (r : Fin 1024) : farthest v (ix1 r) = - v (ix2 r 15) := by
  unfold farthest
  simp only [pointwise]
  exact congrArg (fun i => - v i) (congrArg₂ ix2 (Fin.ext (by simp)) rfl)
theorem nearer_apply (T : FVec Ideal S1024x64 .f32) (v : FVec Ideal S1024x17 .f32) (r : Fin 1024) (h : nearer T v (ix1 r) = 1#1) :
    - v (ix2 r 15) < ∑ k, (T (ix2 r k) - Ideal.ofBits .f32 0x447A0000#32) * (T (ix2 r k) - Ideal.ofBits .f32 0x447A0000#32)
    ∧ - v (ix2 r 15) < Ideal.ofBits .f32 0x7F61B1E6#32 := by
  unfold nearer at h
  rw [andi_one] at h
  simp only [pointwise, farthest_apply, zero_add] at h
  exact ⟨(olt_iff _ _).mp h.1, (olt_iff _ _).mp h.2⟩
theorem atMost_apply (c : BitVec 32) (hc : c.toNat < 1000) (x : IVec S1024x16x16 1) (r : Fin 1024) (h : atMost c x (ix1 r) = 1#1) (j : Fin 16) :
    (Finset.univ.filter fun k : Fin 16 => x (ix3 r j k) = 1#1).card ≤ c.toNat := by
  have h' := Host.reduce_andi_eq_one _ _ _ _ _ h (ix2 r j) (by funext a; match a with | 0 => rfl)
  simp only [pointwise] at h'
  rw [IndicatorCount.fold_addi_setWidth_eq_card] at h'
  have hle : (Finset.univ.filter fun k : Fin 16 => x (ix3 r j k) = 1#1).card ≤ 16 := (Finset.card_filter_le _ _).trans (by simp)
  generalize (Finset.univ.filter fun k : Fin 16 => x (ix3 r j k) = 1#1).card = n at h' hle
  have h2 : BitVec.ofBool ((BitVec.ofNat 32 n).sle c) = 1#1 := h'
  have h3 : (BitVec.ofNat 32 n).sle c = true := by
    revert h2
    cases (BitVec.ofNat 32 n).sle c <;> simp
  rw [BitVec.sle_eq_decide, decide_eq_true_eq, BitVec.toInt_eq_toNat_cond, BitVec.toInt_eq_toNat_cond, BitVec.toNat_ofNat,
    Nat.mod_eq_of_lt (by omega), if_pos (by omega), if_pos (by omega)] at h3
  omega
theorem agree_apply (x : IVec S1024x16 32) (r : Fin 1024) (j k : Fin 16) : agree x (ix3 r j k) = 1#1 ↔ x (ix2 r j) = x (ix2 r k) := by
  unfold agree
  simp only [pointwise, Nat.reduceEqDiff, OfNat.ofNat_ne_one, ↓reduceDIte]
  show BitVec.ofBool (decide _) = 1#1 ↔ _
  by_cases h : x (ix2 r j) = x (ix2 r k) <;> simp [h]
theorem sixteen_apply (i : IVec S1024x17 32) (r : Fin 1024) (j : Fin 16) : sixteen i (ix2 r j) = i (ix2 r j.castSucc) := by
  unfold sixteen
  simp only [pointwise]
  exact congrArg i (congrArg₂ ix2 (Fin.ext (by simp)) (Fin.ext (by simp)))

theorem lane_eq (a b : ℕ) (ha : a < 100000) (hb : b < 100000) :
    IntOp.andi (BitVec.ofNat 32 a) 127#32 = IntOp.andi (BitVec.ofNat 32 b) 127#32 ↔ a % 128 = b % 128 := by
  have key : ∀ c : ℕ, c < 100000 → (IntOp.andi (BitVec.ofNat 32 c) 127#32).toNat = c % 128 := by
    intro c hc
    show ((BitVec.ofNat 32 c) &&& 127#32).toNat = _
    rw [BitVec.toNat_and, BitVec.toNat_ofNat, Nat.mod_eq_of_lt (by omega)]
    exact Nat.and_two_pow_sub_one_eq_mod c 7
  rw [← BitVec.toNat_inj, key a ha, key b hb]

theorem tile_eq (a b : ℕ) (ha : a < 100000) (hb : b < 100000) :
    IntOp.shrui .host (BitVec.ofNat 32 a) 11#32 = IntOp.shrui .host (BitVec.ofNat 32 b) 11#32 ↔ a / 2048 = b / 2048 := by
  have key : ∀ c : ℕ, c < 100000 → (IntOp.shrui .host (BitVec.ofNat 32 c) 11#32).toNat = c / 2048 := by
    intro c hc
    unfold IntOp.shrui
    rw [if_pos (by decide)]
    show ((BitVec.ofNat 32 c) >>> (11 : ℕ)).toNat = _
    rw [BitVec.toNat_ushiftRight, BitVec.toNat_ofNat, Nat.mod_eq_of_lt (by omega), Nat.shiftRight_eq_div_pow]
  rw [← BitVec.toNat_inj, key a ha, key b hb]

theorem finite_of (x : EReal) (h : FloatOps.cmpf (F := Ideal) (φ := .f32) .olt (max x (-x)) ⊤ = 1#1) : ∃ v : ℝ, x = v := by
  rw [olt_iff, max_lt_iff] at h
  induction x using EReal.rec with
  | bot => exact absurd h.2 (by simp)
  | coe v => exact ⟨v, rfl⟩
  | top => exact absurd h.1 (by simp)

/-- The `k`-th of the nearest keys of query `r`. -/
def key (r : Fin 1024) (k : Fin 100000) : Fin 100000 := Topk.order (Ref.negDist (Ref.mapped q W b) X) r k

/-- What the precondition says of one query: its row number is in range, the keys are finite, and
    the sixteen nearest keys, in the order `key`, are apart, near and kept. -/
structure Row (r : Fin 1024) : Prop where
  named : (qi (ix1 r)).toNat < 16384
  finX : ∀ n k, ∃ v : ℝ, X (ix2 n k) = v
  apart : ∀ a b' : Fin 100000, a.val < 16 → b'.val = a.val + 1 →
    Ref.negDist (Ref.mapped q W b) X (ix2 r (key q W b X r b')) < Ref.negDist (Ref.mapped q W b) X (ix2 r (key q W b X r a))
  near : -Ref.negDist (Ref.mapped q W b) X (ix2 r (key q W b X r 15))
    < ∑ k, (Ref.mapped q W b (ix2 r k) - Ideal.ofBits .f32 0x447A0000#32) * (Ref.mapped q W b (ix2 r k) - Ideal.ofBits .f32 0x447A0000#32)
  far : -Ref.negDist (Ref.mapped q W b) X (ix2 r (key q W b X r 15)) < Ideal.ofBits .f32 0x7F61B1E6#32
  lanes : ∀ j : Fin 16, (Finset.univ.filter fun k : Fin 16 =>
    (key q W b X r (Fin.castLE (by omega) j)).val % 128 = (key q W b X r (Fin.castLE (by omega) k)).val % 128).card ≤ 2
  tiles : ∀ j : Fin 16, (Finset.univ.filter fun k : Fin 16 =>
    (key q W b X r (Fin.castLE (by omega) j)).val % 128 = (key q W b X r (Fin.castLE (by omega) k)).val % 128
    ∧ (key q W b X r (Fin.castLE (by omega) j)).val / 2048 = (key q W b X r (Fin.castLE (by omega) k)).val / 2048).card ≤ 1

theorem named_of (v : BitVec 32) (h0 : IntOp.cmpi .sge v 0#32 = 1#1) (h1 : IntOp.cmpi .slt v 16384#32 = 1#1) : v.toNat < 16384 := by
  have h0' : (0#32).sle v = true := by
    have h : BitVec.ofBool ((0#32).sle v) = 1#1 := h0
    revert h
    cases (0#32).sle v <;> simp
  have h1' : v.slt 16384#32 = true := by
    have h : BitVec.ofBool (v.slt 16384#32) = 1#1 := h1
    revert h
    cases v.slt 16384#32 <;> simp
  rw [BitVec.sle_eq_decide, decide_eq_true_eq] at h0'
  rw [BitVec.slt_eq_decide, decide_eq_true_eq] at h1'
  have e0 : (0#32).toInt = 0 := by decide
  have e1 : (16384#32).toInt = 16384 := by decide
  rw [e0] at h0'
  rw [e1] at h1'
  rw [BitVec.toInt_eq_toNat_cond] at h0' h1'
  have := v.isLt
  split at h0' <;> omega

theorem row (r : Fin 1024) (h : Cert.Pre_search_exact.fn (F := Ideal) q qi W b X pi pw (ix1 r) = 1#1) : Row q qi W b X r := by
  rw [fn_eq, andi_one, andi_one, andi_one, andi_one] at h
  obtain ⟨⟨⟨⟨hn, hx⟩, ha⟩, hne⟩, hk⟩ := h
  rw [andi_one] at hn hk
  simp only [pointwise, Nat.reduceEqDiff, OfNat.ofNat_ne_one, ↓reduceDIte, zero_add] at hn
  rw [ValueIdx.broadcastInDim_scalar_apply] at hx
  have hx' := fun (n : Fin 100000) (k : Fin 64) => Host.reduce_andi_all _ _ _ _ _ hx (ix2 n k)
  clear hx
  have hv : ∀ k : Fin 17, (best (Ref.negDist (Ref.mapped q W b) X)).1 (ix2 r k)
      = Ref.negDist (Ref.mapped q W b) X (ix2 r (key q W b X r (Fin.castLE (by omega) k))) :=
    fun k => (Topk.topK_row (K := 17) _ _ (by omega) r k).1
  have hi : ∀ k : Fin 16, sixteen (best (Ref.negDist (Ref.mapped q W b) X)).2 (ix2 r k)
      = BitVec.ofNat 32 (key q W b X r (Fin.castLE (by omega) k)).val :=
    fun k => (sixteen_apply _ r k).trans (Topk.topK_row (K := 17) _ _ (by omega) r k.castSucc).2
  have hl : ∀ j k : Fin 16, lanes (best (Ref.negDist (Ref.mapped q W b) X)).2 (ix3 r j k) = 1#1
      ↔ (key q W b X r (Fin.castLE (by omega) j)).val % 128 = (key q W b X r (Fin.castLE (by omega) k)).val % 128 := by
    intro j k
    unfold lanes
    rw [agree_apply]
    simp only [pointwise]
    rw [hi, hi]
    exact lane_eq _ _ (Fin.isLt _) (Fin.isLt _)
  have ht : ∀ j k : Fin 16, tiles (best (Ref.negDist (Ref.mapped q W b) X)).2 (ix3 r j k) = 1#1
      ↔ (key q W b X r (Fin.castLE (by omega) j)).val % 128 = (key q W b X r (Fin.castLE (by omega) k)).val % 128
        ∧ (key q W b X r (Fin.castLE (by omega) j)).val / 2048 = (key q W b X r (Fin.castLE (by omega) k)).val / 2048 := by
    intro j k
    unfold tiles
    rw [andi_one, hl, agree_apply]
    refine and_congr Iff.rfl ?_
    unfold Host.shrui
    simp only [pointwise]
    rw [hi, hi]
    exact tile_eq _ _ (Fin.isLt _) (Fin.isLt _)
  obtain ⟨hne1, hne2⟩ := nearer_apply _ _ r hne
  have top : Ideal.ofBits .f32 0x7F800000#32 = ⊤ := by simp [Ideal.ofBits, Ideal.ieee]
  refine ⟨named_of _ hn.1 hn.2, fun n k => finite_of _ ?_, ?_, ?_, ?_, ?_, ?_⟩
  · rw [← top]; exact hx' n k
  · intro a b' h16 hs
    have h := apart_apply _ r ha ⟨a.val, h16⟩
    rw [hv, hv] at h
    convert h using 5
    · exact Fin.ext hs
    · exact Fin.ext rfl
  · rw [hv] at hne1; exact hne1
  · rw [hv] at hne2; exact hne2
  · intro j
    have h := atMost_apply _ (by decide) _ r hk.1 j
    simp only [hl] at h
    exact h
  · intro j
    have h := atMost_apply _ (by decide) _ r hk.2 j
    simp only [ht] at h
    exact h

end Cert.Proof.Pre

end
-- ==== Proof.Search.lean ====
/-
  The search of the nearest keys, by itself: of two scores the lesser is kept, by halves, until one key of each residue is
  left (`half_spec`); a residue's two best are kept over the tiles (`Keeps`, `keeps_far`, `keeps_near`); the best of all is
  taken out, again and again (`keeps_first`, `keeps_taken`, `keeps_other`). The scores are in any linear order.
-/
module

public import proofs.«01_k».proof.Defs

@[expose] public section

namespace Cert.Proof.Search

variable {α ι : Type} [LinearOrder α]

/-! ## By halves -/

/-- Of the picks at a column and at the column `n` to its right, the one with the lesser score. -/
def half (n : ℕ) (v : ℕ → α) (p : ℕ → ℕ) (c : ℕ) : ℕ := if v (p c) ≤ v (p (c + n)) then p c else p (c + n)

/-- `p` picks, of the `N` columns, a best one of each residue modulo `n`. -/
def Picks (N n : ℕ) (v : ℕ → α) (p : ℕ → ℕ) : Prop :=
  ∀ c < n, p c < N ∧ p c % n = c ∧ ∀ c' < N, c' % n = c → v (p c) ≤ v c'

theorem picks_id (N : ℕ) (v : ℕ → α) : Picks N N v id := by
  intro c hc
  refine ⟨hc, Nat.mod_eq_of_lt hc, fun c' h' e => ?_⟩
  rw [Nat.mod_eq_of_lt h'] at e
  rw [e]; rfl

theorem half_spec (N n : ℕ) (v : ℕ → α) (p : ℕ → ℕ) (h : Picks N (2 * n) v p) : Picks N n v (half n v p) := by
  intro c hc
  obtain ⟨a1, a2, a3⟩ := h c (by omega)
  obtain ⟨b1, b2, b3⟩ := h (c + n) (by omega)
  have hn : 0 < n := by omega
  have red : ∀ x, x % (2 * n) % n = x % n := fun x => Nat.mod_mod_of_dvd x ⟨2, by ring⟩
  have hcn : (c + n) % n = c := by rw [Nat.add_mod_right, Nat.mod_eq_of_lt hc]
  have split : ∀ x, x % n = c → x % (2 * n) = c ∨ x % (2 * n) = c + n := by
    intro x hx
    have h1 : x % (2 * n) < 2 * n := Nat.mod_lt _ (by omega)
    have h2 := red x
    rw [hx] at h2
    rcases Nat.lt_or_ge (x % (2 * n)) n with h3 | h3
    · rw [Nat.mod_eq_of_lt h3] at h2; exact Or.inl h2
    · rw [Nat.mod_eq_sub_mod h3, Nat.mod_eq_of_lt (by omega)] at h2
      right; omega
  unfold half
  split_ifs with hle
  · refine ⟨a1, ?_, fun c' h' e => ?_⟩
    · rw [← red, a2, Nat.mod_eq_of_lt hc]
    · rcases split c' e with e' | e'
      · exact a3 c' h' e'
      · exact le_trans hle (b3 c' h' e')
  · have hlt := le_of_lt (not_le.mp hle)
    refine ⟨b1, ?_, fun c' h' e => ?_⟩
    · rw [← red, b2, hcn]
    · rcases split c' e with e' | e'
      · exact le_trans hlt (a3 c' h' e')
      · exact b3 c' h' e'

/-! ## The two best of a residue -/

/-- What is kept of a residue: the best score and its key, the second best and its key. -/
abbrev Pair (α ι : Type) : Type := (α × ι) × (α × ι)

/-- A tile's best enters. -/
def enter (w : α × ι) (s : Pair α ι) : Pair α ι :=
  ((if w.1 < s.1.1 then w.1 else s.1.1, if w.1 < s.1.1 then w.2 else s.1.2),
    (if (if w.1 < s.1.1 then s.1.1 else w.1) < s.2.1 then (if w.1 < s.1.1 then s.1.1 else w.1) else s.2.1,
      if (if w.1 < s.1.1 then s.1.1 else w.1) < s.2.1 then (if w.1 < s.1.1 then s.1.2 else w.2) else s.2.2))

/-- The best is taken out: the second best in its place, and in that one's a score `x` that stands for none. -/
def taken (x : α) (s : Pair α ι) : Pair α ι := (s.2, (x, s.2.2))

/-- Of the keys `S` of score at most `B`, none, one or two, the pair holds all, in order; beside them only greater scores. -/
def Keeps (v : ℕ → α) (key : ℕ → ι) (B : α) (S : Finset ℕ) (s : Pair α ι) : Prop :=
  (S = ∅ ∧ B < s.1.1 ∧ B < s.2.1)
  ∨ (∃ e, S = {e} ∧ s.1 = (v e, key e) ∧ B < s.2.1)
  ∨ (∃ e f, S = {e, f} ∧ v e < v f ∧ s.1 = (v e, key e) ∧ s.2 = (v f, key f))

variable {v : ℕ → α} {key : ℕ → ι} {B : α} {S : Finset ℕ} {s : Pair α ι}

/-- A tile's best that is none of the keys changes nothing of them. -/
theorem keeps_far (h : Keeps v key B S s) (hS : ∀ e ∈ S, v e ≤ B) (w : α × ι) (hw : B < w.1) : Keeps v key B S (enter w s) := by
  obtain ⟨⟨a, i⟩, ⟨b, j⟩⟩ := s
  rcases h with ⟨rfl, h1, h2⟩ | ⟨e, rfl, h1, h2⟩ | ⟨e, f, rfl, hlt, h1, h2⟩
  · refine Or.inl ⟨rfl, ?_, ?_⟩
    · simp only [enter] at *; split_ifs <;> assumption
    · simp only [enter] at *; split_ifs <;> assumption
  · simp only [Prod.mk.injEq] at h1
    obtain ⟨rfl, rfl⟩ := h1
    have he := hS e (Finset.mem_singleton_self e)
    have hn : ¬ w.1 < v e := not_lt.mpr (le_of_lt (lt_of_le_of_lt he hw))
    refine Or.inr (Or.inl ⟨e, rfl, ?_, ?_⟩)
    · simp only [enter, if_neg hn]
    · simp only [enter, if_neg hn] at *; split_ifs <;> assumption
  · simp only [Prod.mk.injEq] at h1 h2
    obtain ⟨rfl, rfl⟩ := h1
    obtain ⟨rfl, rfl⟩ := h2
    have he := hS e (by simp)
    have hf := hS f (by simp)
    have hn : ¬ w.1 < v e := not_lt.mpr (le_of_lt (lt_of_le_of_lt he hw))
    have hn' : ¬ w.1 < v f := not_lt.mpr (le_of_lt (lt_of_le_of_lt hf hw))
    refine Or.inr (Or.inr ⟨e, f, rfl, hlt, ?_, ?_⟩)
    · simp only [enter, if_neg hn]
    · simp only [enter, if_neg hn, if_neg hn']

/-- A tile's best that is one of the keys is kept with those there are. -/
theorem keeps_near (h : Keeps v key B S s) (a : ℕ) (hS : ∀ e ∈ insert a S, v e ≤ B) (hinj : ∀ e ∈ S, v e ≠ v a)
    (hcard : (insert a S).card ≤ 2) (ha : a ∉ S) : Keeps v key B (insert a S) (enter (v a, key a) s) := by
  have hvB := hS a (Finset.mem_insert_self a S)
  obtain ⟨⟨x, i⟩, ⟨y, j⟩⟩ := s
  rcases h with ⟨rfl, h1, h2⟩ | ⟨e, rfl, h1, h2⟩ | ⟨e, f, rfl, hlt, h1, h2⟩
  · have hx : v a < x := lt_of_le_of_lt hvB h1
    refine Or.inr (Or.inl ⟨a, by simp, ?_, ?_⟩)
    · simp only [enter, if_pos hx]
    · simp only [enter, if_pos hx] at *; split_ifs <;> assumption
  · simp only [Prod.mk.injEq] at h1
    obtain ⟨rfl, rfl⟩ := h1
    have he := hS e (by simp)
    simp only at h2
    rcases lt_or_gt_of_ne (hinj e (by simp)) with hea | hae
    · have hn : ¬ v a < v e := not_lt.mpr (le_of_lt hea)
      have hy : v a < y := lt_of_le_of_lt hvB h2
      refine Or.inr (Or.inr ⟨e, a, Finset.pair_comm a e, hea, ?_, ?_⟩)
      · simp only [enter, if_neg hn]
      · simp only [enter, if_neg hn, if_pos hy]
    · have hy : v e < y := lt_of_le_of_lt he h2
      refine Or.inr (Or.inr ⟨a, e, rfl, hae, ?_, ?_⟩)
      · simp only [enter, if_pos hae]
      · simp only [enter, if_pos hae, if_pos hy]
  · exfalso
    have hef : e ≠ f := fun e' => by rw [e'] at hlt; exact lt_irrefl _ hlt
    rw [Finset.card_insert_of_notMem ha, Finset.card_pair hef] at hcard
    omega

/-! ## Taking the best out -/

/-- The least of the keys is the pair's best. -/
theorem keeps_first (h : Keeps v key B S s) (e : ℕ) (he : e ∈ S) (hmin : ∀ f ∈ S, v e ≤ v f) : s.1 = (v e, key e) := by
  rcases h with ⟨rfl, h1, h2⟩ | ⟨a, rfl, h1, h2⟩ | ⟨a, b, rfl, hlt, h1, h2⟩
  · exact absurd he (Finset.notMem_empty _)
  · rw [Finset.mem_singleton] at he; rw [he]; exact h1
  · rw [Finset.mem_insert, Finset.mem_singleton] at he
    rcases he with rfl | rfl
    · exact h1
    · exact absurd (lt_of_lt_of_le hlt (hmin a (by simp))) (lt_irrefl _)

/-- Taken out, the pair holds the others. -/
theorem keeps_taken (h : Keeps v key B S s) (e : ℕ) (he : e ∈ S) (hmin : ∀ f ∈ S, v e ≤ v f) (x : α) (hx : B < x) :
    Keeps v key B (S.erase e) (taken x s) := by
  rcases h with ⟨rfl, h1, h2⟩ | ⟨a, rfl, h1, h2⟩ | ⟨a, b, rfl, hlt, h1, h2⟩
  · exact absurd he (Finset.notMem_empty _)
  · rw [Finset.mem_singleton] at he; subst he
    exact Or.inl ⟨by simp, h2, hx⟩
  · rw [Finset.mem_insert, Finset.mem_singleton] at he
    have hab : a ≠ b := fun e' => by rw [e'] at hlt; exact lt_irrefl _ hlt
    rcases he with rfl | rfl
    · refine Or.inr (Or.inl ⟨b, ?_, h2, hx⟩)
      rw [Finset.erase_insert (by simpa using hab)]
    · exact absurd (lt_of_lt_of_le hlt (hmin a (by simp))) (lt_irrefl _)

/-- A score at most `B` and less than each of the keys' is less than the pair's best. -/
theorem keeps_other (h : Keeps v key B S s) (x : α) (hx : x ≤ B) (hlt : ∀ f ∈ S, x < v f) : x < s.1.1 := by
  rcases h with ⟨rfl, h1, h2⟩ | ⟨a, rfl, h1, h2⟩ | ⟨a, b, rfl, hab, h1, h2⟩
  · exact lt_of_le_of_lt hx h1
  · rw [h1]; exact hlt a (by simp)
  · rw [h1]; exact hlt a (by simp)

end Cert.Proof.Search
-- ==== Proof.TcBody.lean ====
module

public import proofs.«01_k».proof.Proof.Tile
public import Idealize.ShloMosaic.Lib.Exec
public import Idealize.ShloMosaic.Lib.VecWindow

@[expose] public section

set_option maxRecDepth 16384

noncomputable section

namespace Cert.Proof.Tc

open Cert.KernelIdeal Cert.KernelIdeal.Gen Cert.Proof.Gather

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Two vectors of sixteen per query (values and numbers found so far) and the table the search takes them out of. -/
abbrev Found (F : FTy → Type) := (FVec F S1024x16 .f32 × IVec S1024x16 32) × (FVec F S1024x128 .f32 × FVec F S1024x128 .f32) × IVec S1024x128 32

/-- The lane numbers of a table row. -/
abbrev lanes128 : IVec S1024x128 32 := iota .tc S1024x128 32 [1] iota_S1024x128_d1_w32
/-- The places of a row of sixteen. -/
abbrev lanes16 : IVec S1024x16 32 := iota .tc S1024x16 32 [1] iota_S1024x16_d1_w32

/-- One trip of the search's final loop. -/
def takeOne (I2 : IVec S1024x128 32) (k : Fin k1_t1_loop.trips) (s : Found F) : Found F :=
  ((k1_pay6 lanes16 0#32 1#32 k s.1.1 s.2.1.1, k1_pay7 lanes128 lanes16 0#32 1#32 k s.1.2 s.2.1.1 s.2.2),
    (k1_pay8 lanes128 s.2.1.1 s.2.1.2, k1_pay12 (k1_pay4 lanes128 s.2.1.1) s.2.1.2), k1_pay9 lanes128 s.2.1.1 I2 s.2.2)

/-- The search's final loop after `n` trips. -/
def takeAt (A1 A2 : FVec F S1024x128 .f32) (I1 I2 : IVec S1024x128 32) : ℕ → Found F
  | 0 => ((k1_pay10, k1_pay11), (A1, A2), I1)
  | n + 1 => if h : n < k1_t1_loop.trips then takeOne I2 ⟨n, h⟩ (takeAt A1 A2 I1 I2 n) else takeAt A1 A2 I1 I2 n

/-- The tables after one block of columns. -/
def stepA1 (X : FVec F S64x2048 .bf16) (TQ : FVec F S1024x64 .f32) (A1 : FVec F S1024x128 .f32) : FVec F S1024x128 .f32 :=
  k1_pay96 (k1_pay84 X TQ) A1
def stepA2 (X : FVec F S64x2048 .bf16) (TQ : FVec F S1024x64 .f32) (A1 A2 : FVec F S1024x128 .f32) : FVec F S1024x128 .f32 :=
  k1_pay97 (k1_pay84 X TQ) A1 A2
def stepI1 (i : grid1.Coords) (X : FVec F S64x2048 .bf16) (TQ : FVec F S1024x64 .f32) (A1 : FVec F S1024x128 .f32) (I1 : IVec S1024x128 32) : IVec S1024x128 32 :=
  k1_pay98 (k1_pay83 X TQ) (k1_pay84 X TQ) (k1_pay85 i X TQ) (k1_pay86 i X TQ) A1 I1
def stepI2 (i : grid1.Coords) (X : FVec F S64x2048 .bf16) (TQ : FVec F S1024x64 .f32) (A1 A2 : FVec F S1024x128 .f32) (I1 I2 : IVec S1024x128 32) : IVec S1024x128 32 :=
  k1_pay1 (k1_pay95 (k1_pay83 X TQ) (k1_pay84 X TQ) (k1_pay85 i X TQ) (k1_pay86 i X TQ) A1 I1 A2 I2)

/-- The word the first point leaves at the two places of the result. -/
def firstOut (W : FVec F S64x64 .f32) (b : FVec F S1x64 .f32) : FVec F S1x2 .f32 :=
  fun j => if (j 1).val = 1 then k1_pay73 W b else Scalar.ofBits .f32 0x00000000#32

/-- The word the last point leaves at the second place of the result stays; at the first it is `x`. -/
def lastOut (O : FVec F S1x2 .f32) (x : F .f32) : FVec F S1x2 .f32 := fun j => if (j 1).val = 0 then x else O j

/-- The share of each of the named neighbours that are among the sixteen found, one column per found neighbour. -/
def tdOf (v121 v124 : IVec S1024x16 32) : FVec F S1024x16 .f32 :=
  VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put (k1_pay18 (F := F)) ![0, 0] S1024x1.size (k1_pay20 (F := F) v121 v124)) ![0, 1] S1024x1.size (k1_pay25 (F := F) (k1_pay21 (F := F) v121 v124) (k1_pay23 (F := F)) (k1_pay24 (F := F)))) ![0, 2] S1024x1.size (k1_pay27 (F := F) v121 v124)) ![0, 3] S1024x1.size (k1_pay30 (F := F) (k1_pay28 (F := F) v121 v124))) ![0, 4] S1024x1.size (k1_pay33 (F := F) v121 v124)) ![0, 5] S1024x1.size (k1_pay36 (F := F) (k1_pay34 (F := F) v121 v124))) ![0, 6] S1024x1.size (k1_pay39 (F := F) v121 v124)) ![0, 7] S1024x1.size (k1_pay43 (F := F) v121 (k1_pay40 (F := F) v124))) ![0, 8] S1024x1.size (k1_pay47 (F := F) (k1_pay46 (F := F) v121 v124))) ![0, 9] S1024x1.size (k1_pay49 (F := F) v121 v124)) ![0, 10] S1024x1.size (k1_pay53 (F := F) (k1_pay52 (F := F) v121 v124))) ![0, 11] S1024x1.size (k1_pay55 (F := F) v121 v124)) ![0, 12] S1024x1.size (k1_pay59 (F := F) (k1_pay58 (F := F) v121 v124) (Scalar.ofBits .f32 0x3F800000#32))) ![0, 13] S1024x1.size (k1_pay61 (F := F) v121 v124)) ![0, 14] S1024x1.size (k1_pay65 (F := F) (k1_pay64 (F := F) v121 v124) (Scalar.ofBits .f32 0x00000000#32))) ![0, 15] S1024x1.size (k1_pay67 (F := F) v121 v124)

/-- The part of the weights that meets the found neighbours. -/
def qonOf (v119 : FVec F S1024x16 .f32) (v121 v124 : IVec S1024x16 32) : FVec F S1024x16 .f32 :=
  have v160 := k1_pay22 (F := F) v119 v121 v124
  have v204 := k1_pay29 (F := F) v119 v121 v124 v160
  have v226 := k1_pay32 (F := F) v119 v121 v124 v204
  have v270 := k1_pay38 (F := F) v119 v121 v124 v226 (k1_pay34 (F := F) v121 v124) (Scalar.ofBits .f32 0x00000000#32) (k1_pay35 (F := F) v119)
  have v314 := k1_pay45 (F := F) v119 v121 v124 v270 (k1_pay40 (F := F) v124) (k1_pay41 (F := F) v119)
  have v358 := k1_pay51 (F := F) v119 v121 v124 v314
  have v402 := k1_pay57 (F := F) v119 v121 v124 v358
  k1_pay63 (F := F) v119 v121 v124 v402

/-- The sum the last point adds to the result's first word. -/
def endWord (o : F .f32) (TQ : FVec F S1024x64 .f32) (TV : FVec F S1024x16 .f32) (TI PI : IVec S1024x16 32) (PW : FVec F S1024x16 .f32) : F .f32 :=
  have v119 := k1_pay15 (F := F) TQ TV
  have v121 := k1_pay16 (F := F) PI
  k1_pay2 (F := F) o (k1_pay72 (F := F) v119 (k1_pay68 (F := F) (tdOf v121 TI)) (k1_pay69 (F := F) (k1_pay17 (F := F) PW)) (k1_pay70 (F := F) v119 v121 TI (qonOf v119 v121 TI)) (k1_pay71 (F := F)))

theorem read_put {sp : Space} {s : Shape} {e : EltTy} (a : Memref sig .tc sp s e) (f : a.view.ty.Contents (Elt F)) {off size : Fin s.rank → ℕ}
    (inb : ∀ a, off a + size a ≤ s.size a) (w) (L) :
    a.view.read (Elt F) (a.view.writes (Elt F) f (⟨Rect.unit off size inb, w⟩ :: L)) = VecWindow.put (a.view.read (Elt F) (a.view.writes (Elt F) f L)) off size w :=
  View.read_writes_cons_put _ _ _ _ _ rfl

theorem readS64x2048 {sp : Space} {e : EltTy} (a : Memref sig .tc sp S64x2048 e) (f : a.view.ty.Contents (Elt F)) (inb) :
    a.view.readAt (Elt F) (Rect.unit (s := S64x2048) ![0, 0] ![64, 2048] inb).toLoadRect f = a.view.read (Elt F) f := View.readAt_full _ _ _

theorem readS1024x64 {sp : Space} {e : EltTy} (a : Memref sig .tc sp S1024x64 e) (f : a.view.ty.Contents (Elt F)) (inb) :
    a.view.readAt (Elt F) (Rect.unit (s := S1024x64) ![0, 0] ![1024, 64] inb).toLoadRect f = a.view.read (Elt F) f := View.readAt_full _ _ _

theorem readS64x64 {sp : Space} {e : EltTy} (a : Memref sig .tc sp S64x64 e) (f : a.view.ty.Contents (Elt F)) (inb) :
    a.view.readAt (Elt F) (Rect.unit (s := S64x64) ![0, 0] ![64, 64] inb).toLoadRect f = a.view.read (Elt F) f := View.readAt_full _ _ _

theorem readS1x64 {sp : Space} {e : EltTy} (a : Memref sig .tc sp S1x64 e) (f : a.view.ty.Contents (Elt F)) (inb) :
    a.view.readAt (Elt F) (Rect.unit (s := S1x64) ![0, 0] ![1, 64] inb).toLoadRect f = a.view.read (Elt F) f := View.readAt_full _ _ _

theorem readS1024x128 {sp : Space} {e : EltTy} (a : Memref sig .tc sp S1024x128 e) (f : a.view.ty.Contents (Elt F)) (inb) :
    a.view.readAt (Elt F) (Rect.unit (s := S1024x128) ![0, 0] ![1024, 128] inb).toLoadRect f = a.view.read (Elt F) f := View.readAt_full _ _ _

theorem readS1024x16 {sp : Space} {e : EltTy} (a : Memref sig .tc sp S1024x16 e) (f : a.view.ty.Contents (Elt F)) (inb) :
    a.view.readAt (Elt F) (Rect.unit (s := S1024x16) ![0, 0] ![1024, 16] inb).toLoadRect f = a.view.read (Elt F) f := View.readAt_full _ _ _

theorem put128 {sp : Space} {e : EltTy} (a : Memref sig .tc sp S1024x128 e) (f) (inb) (w : S1024x128.Idx → Elt F e) (L) :
    a.view.read (Elt F) (a.view.writes (Elt F) f (⟨Rect.unit (s := S1024x128) ![0, 0] ![1024, 128] inb, w⟩ :: L)) = w := View.read_writes_full _ _ _ _ _

theorem put64 {sp : Space} {e : EltTy} (a : Memref sig .tc sp S1024x64 e) (f) (inb) (w : S1024x64.Idx → Elt F e) (L) :
    a.view.read (Elt F) (a.view.writes (Elt F) f (⟨Rect.unit (s := S1024x64) ![0, 0] ![1024, 64] inb, w⟩ :: L)) = w := View.read_writes_full _ _ _ _ _

theorem put16 {sp : Space} {e : EltTy} (a : Memref sig .tc sp S1024x16 e) (f) (inb) (w : S1024x16.Idx → Elt F e) (L) :
    a.view.read (Elt F) (a.view.writes (Elt F) f (⟨Rect.unit (s := S1024x16) ![0, 0] ![1024, 16] inb, w⟩ :: L)) = w := View.read_writes_full _ _ _ _ _

theorem cov16 {sp : Space} {e : EltTy} (a : Memref sig .tc sp S1024x16 e) (inb inb') (w : S1024x16.Idx → Elt F e) :
    a.view.readCov [⟨Rect.unit (s := S1024x16) ![0, 0] ![1024, 16] inb, w⟩] (Rect.unit (s := S1024x16) ![0, 0] ![1024, 16] inb').toLoadRect = w := View.readCov_full _ _ _ _ _

theorem cov64 {sp : Space} {e : EltTy} (a : Memref sig .tc sp S1024x64 e) (inb inb') (w : S1024x64.Idx → Elt F e) :
    a.view.readCov [⟨Rect.unit (s := S1024x64) ![0, 0] ![1024, 64] inb, w⟩] (Rect.unit (s := S1024x64) ![0, 0] ![1024, 64] inb').toLoadRect = w := View.readCov_full _ _ _ _ _

theorem cov128 {sp : Space} {e : EltTy} (a : Memref sig .tc sp S1024x128 e) (inb inb') (w : S1024x128.Idx → Elt F e) :
    a.view.readCov [⟨Rect.unit (s := S1024x128) ![0, 0] ![1024, 128] inb, w⟩] (Rect.unit (s := S1024x128) ![0, 0] ![1024, 128] inb').toLoadRect = w := View.readCov_full _ _ _ _ _

section
variable (a : Memref sig .tc .vmem S1024x16 .f32) (f : a.view.ty.Contents (Elt F)) (c0 c1 c2 c3 c4 c5 c6 c7 c8 c9 c10 c11 c12 c13 c14 c15 : FVec F S1024x1 .f32) (w : FVec F S1024x16 .f32)

theorem td_read : a.view.read (Elt F) (a.view.writes (Elt F) f [⟨Rect.unit (s := S1024x16) ![0, 15] ![1024, 1] inb_S1024x16_S1024x1_0_15, c15⟩, ⟨Rect.unit (s := S1024x16) ![0, 14] ![1024, 1] inb_S1024x16_S1024x1_0_14, c14⟩, ⟨Rect.unit (s := S1024x16) ![0, 13] ![1024, 1] inb_S1024x16_S1024x1_0_13, c13⟩, ⟨Rect.unit (s := S1024x16) ![0, 12] ![1024, 1] inb_S1024x16_S1024x1_0_12, c12⟩, ⟨Rect.unit (s := S1024x16) ![0, 11] ![1024, 1] inb_S1024x16_S1024x1_0_11, c11⟩, ⟨Rect.unit (s := S1024x16) ![0, 10] ![1024, 1] inb_S1024x16_S1024x1_0_10, c10⟩, ⟨Rect.unit (s := S1024x16) ![0, 9] ![1024, 1] inb_S1024x16_S1024x1_0_9, c9⟩, ⟨Rect.unit (s := S1024x16) ![0, 8] ![1024, 1] inb_S1024x16_S1024x1_0_8, c8⟩, ⟨Rect.unit (s := S1024x16) ![0, 7] ![1024, 1] inb_S1024x16_S1024x1_0_7, c7⟩, ⟨Rect.unit (s := S1024x16) ![0, 6] ![1024, 1] inb_S1024x16_S1024x1_0_6, c6⟩, ⟨Rect.unit (s := S1024x16) ![0, 5] ![1024, 1] inb_S1024x16_S1024x1_0_5, c5⟩, ⟨Rect.unit (s := S1024x16) ![0, 4] ![1024, 1] inb_S1024x16_S1024x1_0_4, c4⟩, ⟨Rect.unit (s := S1024x16) ![0, 3] ![1024, 1] inb_S1024x16_S1024x1_0_3, c3⟩, ⟨Rect.unit (s := S1024x16) ![0, 2] ![1024, 1] inb_S1024x16_S1024x1_0_2, c2⟩, ⟨Rect.unit (s := S1024x16) ![0, 1] ![1024, 1] inb_S1024x16_S1024x1_0_1, c1⟩, ⟨Rect.unit (s := S1024x16) ![0, 0] ![1024, 1] inb_S1024x16_S1024x1_0_0, c0⟩, ⟨Rect.unit (s := S1024x16) ![0, 0] ![1024, 16] inb_S1024x16_S1024x16_0_0, w⟩]) = VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put w ![0, 0] S1024x1.size c0) ![0, 1] S1024x1.size c1) ![0, 2] S1024x1.size c2) ![0, 3] S1024x1.size c3) ![0, 4] S1024x1.size c4) ![0, 5] S1024x1.size c5) ![0, 6] S1024x1.size c6) ![0, 7] S1024x1.size c7) ![0, 8] S1024x1.size c8) ![0, 9] S1024x1.size c9) ![0, 10] S1024x1.size c10) ![0, 11] S1024x1.size c11) ![0, 12] S1024x1.size c12) ![0, 13] S1024x1.size c13) ![0, 14] S1024x1.size c14) ![0, 15] S1024x1.size c15 := by
  rw [read_put, read_put, read_put, read_put, read_put, read_put, read_put, read_put, read_put, read_put, read_put, read_put, read_put, read_put, read_put, read_put,  show a.view.read (Elt F) (a.view.writes (Elt F) f [⟨Rect.unit (s := S1024x16) ![0, 0] S1024x16.size inb_S1024x16_S1024x16_0_0, w⟩]) = w from View.read_writes_full _ _ _ _ _]

theorem td_readCov (inb) : a.view.readCov (Val := Elt F) [⟨Rect.unit (s := S1024x16) ![0, 15] ![1024, 1] inb_S1024x16_S1024x1_0_15, c15⟩, ⟨Rect.unit (s := S1024x16) ![0, 14] ![1024, 1] inb_S1024x16_S1024x1_0_14, c14⟩, ⟨Rect.unit (s := S1024x16) ![0, 13] ![1024, 1] inb_S1024x16_S1024x1_0_13, c13⟩, ⟨Rect.unit (s := S1024x16) ![0, 12] ![1024, 1] inb_S1024x16_S1024x1_0_12, c12⟩, ⟨Rect.unit (s := S1024x16) ![0, 11] ![1024, 1] inb_S1024x16_S1024x1_0_11, c11⟩, ⟨Rect.unit (s := S1024x16) ![0, 10] ![1024, 1] inb_S1024x16_S1024x1_0_10, c10⟩, ⟨Rect.unit (s := S1024x16) ![0, 9] ![1024, 1] inb_S1024x16_S1024x1_0_9, c9⟩, ⟨Rect.unit (s := S1024x16) ![0, 8] ![1024, 1] inb_S1024x16_S1024x1_0_8, c8⟩, ⟨Rect.unit (s := S1024x16) ![0, 7] ![1024, 1] inb_S1024x16_S1024x1_0_7, c7⟩, ⟨Rect.unit (s := S1024x16) ![0, 6] ![1024, 1] inb_S1024x16_S1024x1_0_6, c6⟩, ⟨Rect.unit (s := S1024x16) ![0, 5] ![1024, 1] inb_S1024x16_S1024x1_0_5, c5⟩, ⟨Rect.unit (s := S1024x16) ![0, 4] ![1024, 1] inb_S1024x16_S1024x1_0_4, c4⟩, ⟨Rect.unit (s := S1024x16) ![0, 3] ![1024, 1] inb_S1024x16_S1024x1_0_3, c3⟩, ⟨Rect.unit (s := S1024x16) ![0, 2] ![1024, 1] inb_S1024x16_S1024x1_0_2, c2⟩, ⟨Rect.unit (s := S1024x16) ![0, 1] ![1024, 1] inb_S1024x16_S1024x1_0_1, c1⟩, ⟨Rect.unit (s := S1024x16) ![0, 0] ![1024, 1] inb_S1024x16_S1024x1_0_0, c0⟩, ⟨Rect.unit (s := S1024x16) ![0, 0] ![1024, 16] inb_S1024x16_S1024x16_0_0, w⟩] (Rect.unit (s := S1024x16) ![0, 0] ![1024, 16] inb).toLoadRect = (VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put w ![0, 0] S1024x1.size c0) ![0, 1] S1024x1.size c1) ![0, 2] S1024x1.size c2) ![0, 3] S1024x1.size c3) ![0, 4] S1024x1.size c4) ![0, 5] S1024x1.size c5) ![0, 6] S1024x1.size c6) ![0, 7] S1024x1.size c7) ![0, 8] S1024x1.size c8) ![0, 9] S1024x1.size c9) ![0, 10] S1024x1.size c10) ![0, 11] S1024x1.size c11) ![0, 12] S1024x1.size c12) ![0, 13] S1024x1.size c13) ![0, 14] S1024x1.size c14) ![0, 15] S1024x1.size c15: S1024x16.Idx → Elt F .f32) := by
  unfold View.readCov
  rw [readS1024x16]
  exact td_read _ _ c0 c1 c2 c3 c4 c5 c6 c7 c8 c9 c10 c11 c12 c13 c14 c15 w

end

theorem out_word (a : Memref sig .tc .smem S1x2 .f32) (f : a.view.ty.Contents (Elt F)) (inb) (x) :
    a.view.readAt (Elt F) (Rect.unit (s := S1x2) ![0, 0] ![1, 1] inb).toLoadRect f x = a.view.read (Elt F) f (ix2 0 0) := by
  rw [View.readAt_apply]
  refine congrArg _ (funext fun b => Fin.ext ?_)
  have hx : ∀ b, (x b).val < 1 := fun b => by fin_cases b <;> exact (x _).isLt
  fin_cases b
  · show 0 + 1 * (x 0).val = 0
    have := hx 0
    omega
  · show 0 + 1 * (x 1).val = 0
    have := hx 1
    omega

theorem out_last (a : Memref sig .tc .smem S1x2 .f32) (f : a.view.ty.Contents (Elt F)) (x : F .f32) :
    a.view.read (Elt F) (a.view.writes (Elt F) f [⟨Rect.unit (s := S1x2) ![0, 0] ![1, 1] inb_S1x2_S1x1_0_0, fun _ => x⟩]) = lastOut (a.view.read (Elt F) f) x := by
  rw [read_put, View.writes_nil]
  funext j
  have h0 : (j 0).val < 1 := (j 0).isLt
  have h1 : (j 1).val < 2 := (j 1).isLt
  unfold VecWindow.put lastOut
  by_cases h : (j 1).val = 0
  · rw [if_pos h, dif_pos]
    intro b; fin_cases b <;> (constructor <;> simp <;> omega)
  · rw [if_neg h, dif_neg]
    intro hb
    have := (hb 1).2
    simp at this
    omega

theorem out_first (a : Memref sig .tc .smem S1x2 .f32) (f : a.view.ty.Contents (Elt F)) (x y : F .f32) :
    a.view.read (Elt F) (a.view.writes (Elt F) f [⟨Rect.unit (s := S1x2) ![0, 1] ![1, 1] inb_S1x2_S1x1_0_1, fun _ => x⟩, ⟨Rect.unit (s := S1x2) ![0, 0] ![1, 1] inb_S1x2_S1x1_0_0, fun _ => y⟩])
      = fun j => if (j 1).val = 1 then x else y := by
  rw [read_put, out_last]
  funext j
  have h0 : (j 0).val < 1 := (j 0).isLt
  have h1 : (j 1).val < 2 := (j 1).isLt
  unfold VecWindow.put lastOut
  by_cases h : (j 1).val = 1
  · rw [if_pos h, dif_pos]
    intro b; fin_cases b <;> (constructor <;> simp <;> omega)
  · rw [if_neg h, dif_neg, if_pos (by omega)]
    intro hb
    have := (hb 1).1
    simp at this
    omega

variable (c : Dev nD) (i : grid1.Coords) (arg2 : Memref sig .tc .vmem S1024x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x2048 .bf16) (harg5 : arg5.IsWhole) (arg6 : Memref sig .tc .vmem S1024x16 .i32) (harg6 : arg6.IsWhole) (arg7 : Memref sig .tc .vmem S1024x16 .f32) (harg7 : arg7.IsWhole) (arg8 : Memref sig .tc .smem S1x2 .f32) (harg8 : arg8.IsWhole) (arg9 : Memref sig .tc .vmem S1024x64 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .i32) (harg12 : arg12.IsWhole) (arg13 : Memref sig .tc .vmem S1024x128 .i32) (harg13 : arg13.IsWhole) (arg14 : Memref sig .tc .vmem S1024x16 .f32) (harg14 : arg14.IsWhole) (arg15 : Memref sig .tc .vmem S1024x16 .i32) (harg15 : arg15.IsWhole) (arg16 : Memref sig .tc .vmem S1024x16 .f32) (harg16 : arg16.IsWhole)

theorem trip_run (k1_h3 : k1_cond3 i = 1#1) (k : Fin k1_t1_loop.trips)
    (s : Found F) (I2 : IVec S1024x128 32) :
    iprop(owns (c : Thread nD τ) arg10 fullShare s.2.1.1
        ∗ owns (c : Thread nD τ) arg11 fullShare s.2.1.2
        ∗ owns (c : Thread nD τ) arg12 fullShare s.2.2
        ∗ owns (c : Thread nD τ) arg13 fullShare I2)
      ⊢ (wp frame (wpE (defs₀ (F := F)) 𝒱₀ (c : Thread nD τ) none) Set.univ
          (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k1_h3 lanes128 lanes16 k s.1) fun y => iprop(⌜y = (takeOne I2 k s).1⌝ ∗ owns (c : Thread nD τ) arg10 fullShare (takeOne I2 k s).2.1.1
        ∗ owns (c : Thread nD τ) arg11 fullShare (takeOne I2 k s).2.1.2
        ∗ owns (c : Thread nD τ) arg12 fullShare (takeOne I2 k s).2.2
        ∗ owns (c : Thread nD τ) arg13 fullShare I2) : sProp 𝕄) := by
  obtain ⟨acc, ⟨A1, A2⟩, I1⟩ := s
  unfold owns k1_t1_body
  iintro ⟨⟨%f1, %hf1, H1⟩, ⟨%f2, %hf2, H2⟩, ⟨%f3, %hf3, H3⟩, ⟨%f4, %hf4, H4⟩⟩
  subst hf1 hf2 hf3 hf4
  sl_exec
  sl_step
  isplitr; · ipureintro; sl_unfold_run_names; simp only [View.readAt_full, View.read_writes_full, cov16, cov64, cov128, put16, put64, put128, readS64x2048, readS1024x64, readS64x64, readS1x64, readS1024x128, readS1024x16, takeOne]
  isplitl [H1]; · iexists _; isplitr; swap; (· iexact H1); ipureintro; sl_unfold_run_names; simp only [View.readAt_full, View.read_writes_full, cov16, cov64, cov128, put16, put64, put128, readS64x2048, readS1024x64, readS64x64, readS1x64, readS1024x128, readS1024x16, takeOne]
  isplitl [H2]; · iexists _; isplitr; swap; (· iexact H2); ipureintro; sl_unfold_run_names; simp only [View.readAt_full, View.read_writes_full, cov16, cov64, cov128, put16, put64, put128, readS64x2048, readS1024x64, readS64x64, readS1x64, readS1024x128, readS1024x16, takeOne]
  isplitl [H3]; · iexists _; isplitr; swap; (· iexact H3); ipureintro; sl_unfold_run_names; simp only [View.readAt_full, View.read_writes_full, cov16, cov64, cov128, put16, put64, put128, readS64x2048, readS1024x64, readS64x64, readS1x64, readS1024x128, readS1024x16, takeOne]
  iexists _; isplitr; swap; (· iexact H4); ipureintro; rfl

theorem mid_run (h1 : ¬ k1_cond1 i = 1#1) (h2 : ¬ Scalar.cmpi .ne (Scalar.extui (Scalar.cmpi .eq (BitVec.ofNat 32 (i 1).val) 0#32)) 0#32 = 1#1)
    (h3 : ¬ k1_cond3 i = 1#1) (X : FVec F S64x2048 .bf16) (TQ : FVec F S1024x64 .f32) (A1 A2 : FVec F S1024x128 .f32) (I1 I2 : IVec S1024x128 32) :
    iprop(owns (c : Thread nD τ) arg5 fullShare X
        ∗ owns (c : Thread nD τ) arg9 fullShare TQ
        ∗ owns (c : Thread nD τ) arg10 fullShare A1
        ∗ owns (c : Thread nD τ) arg11 fullShare A2
        ∗ owns (c : Thread nD τ) arg12 fullShare I1
        ∗ owns (c : Thread nD τ) arg13 fullShare I2)
      ⊢ (wp frame (wpE (defs₀ (F := F)) 𝒱₀ (c : Thread nD τ) none) Set.univ
          (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) fun _ => iprop(owns (c : Thread nD τ) arg5 fullShare X
        ∗ owns (c : Thread nD τ) arg9 fullShare TQ
        ∗ owns (c : Thread nD τ) arg10 fullShare (stepA1 X TQ A1)
        ∗ owns (c : Thread nD τ) arg11 fullShare (stepA2 X TQ A1 A2)
        ∗ owns (c : Thread nD τ) arg12 fullShare (stepI1 i X TQ A1 I1)
        ∗ owns (c : Thread nD τ) arg13 fullShare (stepI2 i X TQ A1 A2 I1 I2)) : sProp 𝕄) := by
  unfold owns
  iintro ⟨⟨%fx, %hx, HX⟩, ⟨%ft, %ht, HT⟩, ⟨%f1, %hf1, H1⟩, ⟨%f2, %hf2, H2⟩, ⟨%f3, %hf3, H3⟩, ⟨%f4, %hf4, H4⟩⟩
  subst hx ht hf1 hf2 hf3 hf4
  sl_unfold [cc1__tc_body]
  sl_exec
  sl_step
  isplitl [HX]; · iexists _; isplitr; swap; (· iexact HX); ipureintro; rfl
  isplitl [HT]; · iexists _; isplitr; swap; (· iexact HT); ipureintro; rfl
  isplitl [H1]; · iexists _; isplitr; swap; (· iexact H1); ipureintro; sl_unfold_run_names; simp only [View.readAt_full, View.read_writes_full, cov16, cov64, cov128, put16, put64, put128, readS64x2048, readS1024x64, readS64x64, readS1x64, readS1024x128, readS1024x16, stepA1]
  isplitl [H2]; · iexists _; isplitr; swap; (· iexact H2); ipureintro; sl_unfold_run_names; simp only [View.readAt_full, View.read_writes_full, cov16, cov64, cov128, put16, put64, put128, readS64x2048, readS1024x64, readS64x64, readS1x64, readS1024x128, readS1024x16, stepA2]
  isplitl [H3]; · iexists _; isplitr; swap; (· iexact H3); ipureintro; sl_unfold_run_names; simp only [View.readAt_full, View.read_writes_full, cov16, cov64, cov128, put16, put64, put128, readS64x2048, readS1024x64, readS64x64, readS1x64, readS1024x128, readS1024x16, stepI1]
  iexists _; isplitr; swap; (· iexact H4); ipureintro; sl_unfold_run_names; simp only [View.readAt_full, View.read_writes_full, cov16, cov64, cov128, put16, put64, put128, readS64x2048, readS1024x64, readS64x64, readS1x64, readS1024x128, readS1024x16, stepI2]

theorem first_run (h1 : k1_cond1 i = 1#1) (h2 : Scalar.cmpi .ne (Scalar.extui (Scalar.cmpi .eq (BitVec.ofNat 32 (i 1).val) 0#32)) 0#32 = 1#1)
    (h3 : ¬ k1_cond3 i = 1#1) (Q : FVec F S1024x64 .f32) (W : FVec F S64x64 .f32) (B : FVec F S1x64 .f32) (X : FVec F S64x2048 .bf16) (O : FVec F S1x2 .f32) (TQ : FVec F S1024x64 .f32) (A1 A2 : FVec F S1024x128 .f32) (I1 I2 : IVec S1024x128 32) :
    iprop(owns (c : Thread nD τ) arg2 fullShare Q
        ∗ owns (c : Thread nD τ) arg3 fullShare W
        ∗ owns (c : Thread nD τ) arg4 fullShare B
        ∗ owns (c : Thread nD τ) arg5 fullShare X
        ∗ owns (c : Thread nD τ) arg8 fullShare O
        ∗ owns (c : Thread nD τ) arg9 fullShare TQ
        ∗ owns (c : Thread nD τ) arg10 fullShare A1
        ∗ owns (c : Thread nD τ) arg11 fullShare A2
        ∗ owns (c : Thread nD τ) arg12 fullShare I1
        ∗ owns (c : Thread nD τ) arg13 fullShare I2)
      ⊢ (wp frame (wpE (defs₀ (F := F)) 𝒱₀ (c : Thread nD τ) none) Set.univ
          (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) fun _ => iprop(owns (c : Thread nD τ) arg2 fullShare Q
        ∗ owns (c : Thread nD τ) arg3 fullShare W
        ∗ owns (c : Thread nD τ) arg4 fullShare B
        ∗ owns (c : Thread nD τ) arg5 fullShare X
        ∗ owns (c : Thread nD τ) arg8 fullShare (firstOut W B)
        ∗ owns (c : Thread nD τ) arg9 fullShare (k1_pay74 Q W B)
        ∗ owns (c : Thread nD τ) arg10 fullShare (stepA1 X (k1_pay74 Q W B) k1_pay75)
        ∗ owns (c : Thread nD τ) arg11 fullShare (stepA2 X (k1_pay74 Q W B) k1_pay75 k1_pay76)
        ∗ owns (c : Thread nD τ) arg12 fullShare (stepI1 i X (k1_pay74 Q W B) k1_pay75 k1_pay77)
        ∗ owns (c : Thread nD τ) arg13 fullShare (stepI2 i X (k1_pay74 Q W B) k1_pay75 k1_pay76 k1_pay77 k1_pay78)) : sProp 𝕄) := by
  unfold owns
  iintro ⟨⟨%fq, %hq, HQ⟩, ⟨%fw, %hw, HW⟩, ⟨%fb, %hb, HB⟩, ⟨%fx, %hx, HX⟩, ⟨%fo, %ho, HO⟩, ⟨%ft, %ht, HT⟩, ⟨%f1, %hf1, H1⟩, ⟨%f2, %hf2, H2⟩, ⟨%f3, %hf3, H3⟩, ⟨%f4, %hf4, H4⟩⟩
  subst hq hw hb hx ho ht hf1 hf2 hf3 hf4
  sl_unfold [cc1__tc_body]
  sl_exec
  sl_step
  isplitl [HQ]; · iexists _; isplitr; swap; (· iexact HQ); ipureintro; rfl
  isplitl [HW]; · iexists _; isplitr; swap; (· iexact HW); ipureintro; rfl
  isplitl [HB]; · iexists _; isplitr; swap; (· iexact HB); ipureintro; rfl
  isplitl [HX]; · iexists _; isplitr; swap; (· iexact HX); ipureintro; rfl
  isplitl [HO]; · iexists _; isplitr; swap; (· iexact HO); ipureintro; sl_unfold_run_names; simp only [View.readAt_full, View.read_writes_full, cov16, cov64, cov128, put16, put64, put128, readS64x2048, readS1024x64, readS64x64, readS1x64, readS1024x128, readS1024x16, out_first]; rfl
  isplitl [HT]; · iexists _; isplitr; swap; (· iexact HT); ipureintro; sl_unfold_run_names; simp only [View.readAt_full, View.read_writes_full, cov16, cov64, cov128, put16, put64, put128, readS64x2048, readS1024x64, readS64x64, readS1x64, readS1024x128, readS1024x16, put64]
  isplitl [H1]; · iexists _; isplitr; swap; (· iexact H1); ipureintro; sl_unfold_run_names; simp only [View.readAt_full, View.read_writes_full, cov16, cov64, cov128, put16, put64, put128, readS64x2048, readS1024x64, readS64x64, readS1x64, readS1024x128, readS1024x16, stepA1]
  isplitl [H2]; · iexists _; isplitr; swap; (· iexact H2); ipureintro; sl_unfold_run_names; simp only [View.readAt_full, View.read_writes_full, cov16, cov64, cov128, put16, put64, put128, readS64x2048, readS1024x64, readS64x64, readS1x64, readS1024x128, readS1024x16, stepA2]
  isplitl [H3]; · iexists _; isplitr; swap; (· iexact H3); ipureintro; sl_unfold_run_names; simp only [View.readAt_full, View.read_writes_full, cov16, cov64, cov128, put16, put64, put128, readS64x2048, readS1024x64, readS64x64, readS1x64, readS1024x128, readS1024x16, stepI1]
  iexists _; isplitr; swap; (· iexact H4); ipureintro; sl_unfold_run_names; simp only [View.readAt_full, View.read_writes_full, cov16, cov64, cov128, put16, put64, put128, readS64x2048, readS1024x64, readS64x64, readS1x64, readS1024x128, readS1024x16, stepI2]

theorem last_run (h1 : ¬ k1_cond1 i = 1#1) (h2 : ¬ Scalar.cmpi .ne (Scalar.extui (Scalar.cmpi .eq (BitVec.ofNat 32 (i 1).val) 0#32)) 0#32 = 1#1)
    (h3 : k1_cond3 i = 1#1) (X : FVec F S64x2048 .bf16) (PI : IVec S1024x16 32) (PW : FVec F S1024x16 .f32) (O : FVec F S1x2 .f32) (TQ : FVec F S1024x64 .f32) (A1 A2 : FVec F S1024x128 .f32) (I1 I2 : IVec S1024x128 32)
     (TV : FVec F S1024x16 .f32) (TI : IVec S1024x16 32) (TD : FVec F S1024x16 .f32) :
    iprop(owns (c : Thread nD τ) arg5 fullShare X
        ∗ owns (c : Thread nD τ) arg6 fullShare PI
        ∗ owns (c : Thread nD τ) arg7 fullShare PW
        ∗ owns (c : Thread nD τ) arg8 fullShare O
        ∗ owns (c : Thread nD τ) arg9 fullShare TQ
        ∗ owns (c : Thread nD τ) arg10 fullShare A1
        ∗ owns (c : Thread nD τ) arg11 fullShare A2
        ∗ owns (c : Thread nD τ) arg12 fullShare I1
        ∗ owns (c : Thread nD τ) arg13 fullShare I2
        ∗ owns (c : Thread nD τ) arg14 fullShare TV
        ∗ owns (c : Thread nD τ) arg15 fullShare TI
        ∗ owns (c : Thread nD τ) arg16 fullShare TD)
      ⊢ (wp frame (wpE (defs₀ (F := F)) 𝒱₀ (c : Thread nD τ) none) Set.univ
          (cc1__tc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) fun _ => iprop(owns (c : Thread nD τ) arg5 fullShare X
        ∗ owns (c : Thread nD τ) arg6 fullShare PI
        ∗ owns (c : Thread nD τ) arg7 fullShare PW
        ∗ owns (c : Thread nD τ) arg8 fullShare (lastOut O (endWord (O (ix2 0 0)) TQ (k1_pay13 (takeAt (stepA1 X TQ A1) (stepA2 X TQ A1 A2) (stepI1 i X TQ A1 I1) (stepI2 i X TQ A1 A2 I1 I2) k1_t1_loop.trips).1.1) (k1_pay14 (takeAt (stepA1 X TQ A1) (stepA2 X TQ A1 A2) (stepI1 i X TQ A1 I1) (stepI2 i X TQ A1 A2 I1 I2) k1_t1_loop.trips).1.2) PI PW))
        ∗ owns (c : Thread nD τ) arg9 fullShare TQ
        ∗ owns (c : Thread nD τ) arg10 fullShare (takeAt (stepA1 X TQ A1) (stepA2 X TQ A1 A2) (stepI1 i X TQ A1 I1) (stepI2 i X TQ A1 A2 I1 I2) k1_t1_loop.trips).2.1.1
        ∗ owns (c : Thread nD τ) arg11 fullShare (takeAt (stepA1 X TQ A1) (stepA2 X TQ A1 A2) (stepI1 i X TQ A1 I1) (stepI2 i X TQ A1 A2 I1 I2) k1_t1_loop.trips).2.1.2
        ∗ owns (c : Thread nD τ) arg12 fullShare (takeAt (stepA1 X TQ A1) (stepA2 X TQ A1 A2) (stepI1 i X TQ A1 I1) (stepI2 i X TQ A1 A2 I1 I2) k1_t1_loop.trips).2.2
        ∗ owns (c : Thread nD τ) arg13 fullShare (stepI2 i X TQ A1 A2 I1 I2)
        ∗ owns (c : Thread nD τ) arg14 fullShare (k1_pay13 (takeAt (stepA1 X TQ A1) (stepA2 X TQ A1 A2) (stepI1 i X TQ A1 I1) (stepI2 i X TQ A1 A2 I1 I2) k1_t1_loop.trips).1.1)
        ∗ owns (c : Thread nD τ) arg15 fullShare (k1_pay14 (takeAt (stepA1 X TQ A1) (stepA2 X TQ A1 A2) (stepI1 i X TQ A1 I1) (stepI2 i X TQ A1 A2 I1 I2) k1_t1_loop.trips).1.2) ∗ ∃ TD', owns (c : Thread nD τ) arg16 fullShare TD') : sProp 𝕄) := by
  unfold owns
  iintro ⟨⟨%fx, %hx, HX⟩, ⟨%fi, %hi, HI⟩, ⟨%fw, %hw, HW⟩, ⟨%fo, %ho, HO⟩, ⟨%ft, %ht, HT⟩, ⟨%f1, %hf1, H1⟩, ⟨%f2, %hf2, H2⟩, ⟨%f3, %hf3, H3⟩, ⟨%f4, %hf4, H4⟩, ⟨%fv, %hv, HV⟩, ⟨%fn, %hn, HN⟩, ⟨%fd, %hd, HD⟩⟩
  obtain ⟨tk, htk⟩ : ∃ tk, tk = takeAt (stepA1 X TQ A1) (stepA2 X TQ A1 A2) (stepI1 i X TQ A1 I1) (stepI2 i X TQ A1 A2 I1 I2) := ⟨_, rfl⟩
  obtain ⟨I2', hI2⟩ : ∃ I2', I2' = stepI2 i X TQ A1 A2 I1 I2 := ⟨_, rfl⟩
  subst hx hi hw ho ht hf1 hf2 hf3 hf4 hv hn hd
  sl_unfold [cc1__tc_body]
  sl_exec
  sl_for (fun n acc => (iprop(⌜acc = (tk n).1⌝ ∗ owns (c : Thread nD τ) arg10 fullShare (tk n).2.1.1
        ∗ owns (c : Thread nD τ) arg11 fullShare (tk n).2.1.2
        ∗ owns (c : Thread nD τ) arg12 fullShare (tk n).2.2
        ∗ owns (c : Thread nD τ) arg13 fullShare I2') : sProp 𝕄)) $$ [H1 H2 H3 H4]
  case region =>
    intro k acc
    have hk : tk (k.val + 1) = takeOne I2' k (tk k.val) := by
      rw [htk, hI2]
      exact dif_pos k.isLt
    rw [hk]
    iintro ⟨%hacc, HL⟩
    subst hacc
    iapply (trip_run c i arg2 harg2 arg3 harg3 arg4 harg4 arg5 harg5 arg6 harg6 arg7 harg7 arg8 harg8 arg9 harg9 arg10 harg10 arg11 harg11 arg12 harg12 arg13 harg13 arg14 harg14 arg15 harg15 arg16 harg16 h3 k (tk k.val) I2')
    iexact HL
  · subst htk hI2
    unfold owns
    isplitr; · ipureintro; rfl
    isplitl [H1]; · iexists _; isplitr; swap; (· iexact H1); ipureintro; sl_unfold_run_names; simp only [View.readAt_full, View.read_writes_full, cov16, cov64, cov128, put16, put64, put128, readS64x2048, readS1024x64, readS64x64, readS1x64, readS1024x128, readS1024x16, stepA1, takeAt]
    isplitl [H2]; · iexists _; isplitr; swap; (· iexact H2); ipureintro; sl_unfold_run_names; simp only [View.readAt_full, View.read_writes_full, cov16, cov64, cov128, put16, put64, put128, readS64x2048, readS1024x64, readS64x64, readS1x64, readS1024x128, readS1024x16, stepA2, takeAt]
    isplitl [H3]; · iexists _; isplitr; swap; (· iexact H3); ipureintro; sl_unfold_run_names; simp only [View.readAt_full, View.read_writes_full, cov16, cov64, cov128, put16, put64, put128, readS64x2048, readS1024x64, readS64x64, readS1x64, readS1024x128, readS1024x16, stepI1, takeAt]
    iexists _; isplitr; swap; (· iexact H4); ipureintro; sl_unfold_run_names; simp only [View.readAt_full, View.read_writes_full, cov16, cov64, cov128, put16, put64, put128, readS64x2048, readS1024x64, readS64x64, readS1x64, readS1024x128, readS1024x16, stepI2, takeAt]

  iintro %acc ⟨%hacc, HL⟩
  subst hacc
  unfold owns
  icases HL with ⟨⟨%f1, %hf1, H1⟩, ⟨%f2, %hf2, H2⟩, ⟨%f3, %hf3, H3⟩, ⟨%f4, %hf4, H4⟩⟩
  sl_exec
  sl_step
  subst hI2
  isplitl [HX]; · iexists _; isplitr; swap; (· iexact HX); ipureintro; rfl
  isplitl [HI]; · iexists _; isplitr; swap; (· iexact HI); ipureintro; rfl
  isplitl [HW]; · iexists _; isplitr; swap; (· iexact HW); ipureintro; rfl
  isplitl [HO]; · iexists _; isplitr; swap; (· iexact HO); ipureintro; sl_unfold_run_names; simp only [View.readAt_full, View.read_writes_full, cov16, cov64, cov128, put16, put64, put128, readS64x2048, readS1024x64, readS64x64, readS1x64, readS1024x128, readS1024x16, td_readCov, out_last]; rw [← htk]; have hT : Scf.trips (0#32) (Scalar.addi 0#32 16#32) 1#32 = k1_t1_loop.trips := rfl; rw [hT]; generalize k1_t1_loop.trips = T; unfold endWord; refine congrArg₂ _ rfl (congrArg₂ _ ?_ ?_); (· exact out_word _ _ _ _); first | rfl | (unfold tdOf qonOf; rfl)
  isplitl [HT]; · iexists _; isplitr; swap; (· iexact HT); ipureintro; rfl
  isplitl [H1]; · iexists _; isplitr; swap; (· iexact H1); ipureintro; rw [hf1, htk]
  isplitl [H2]; · iexists _; isplitr; swap; (· iexact H2); ipureintro; rw [hf2, htk]
  isplitl [H3]; · iexists _; isplitr; swap; (· iexact H3); ipureintro; rw [hf3, htk]
  isplitl [H4]; · iexists _; isplitr; swap; (· iexact H4); ipureintro; exact hf4
  isplitl [HV]; · iexists _; isplitr; swap; (· iexact HV); ipureintro; sl_unfold_run_names; rw [put16]; subst htk; rfl
  isplitl [HN]; · iexists _; isplitr; swap; (· iexact HN); ipureintro; sl_unfold_run_names; rw [put16]; subst htk; rfl
  iexists _; iexists _; isplitr; swap; (· iexact HD); ipureintro; rfl

end Cert.Proof.Tc

end
-- ==== Proof.Tour.lean ====
/-
  The kernel's pass over one block of 2048 columns, read at the extended reals: of each residue modulo 128 the block's best
  column enters the tables of the two best (`step_apply`).
-/
module

public import proofs.«01_k».proof.Proof.Search
public import proofs.«01_k».proof.Proof.TcBody
public import Idealize.ShloMosaic.Lib.Pointwise

@[expose] public section

noncomputable section

namespace Cert.Proof.Tour

open Idealize.ShloMosaic Cert.KernelIdeal Cert.KernelIdeal.Gen Cert.Proof.Search

variable (X : FVec Ideal S64x2048 .bf16) (T : FVec Ideal S1024x64 .f32)

/-- The score of a column of the block. -/
def score (r : Fin 1024) (c : Fin 2048) : EReal :=
  (∑ k : Fin 64, (X (ix2 k c) : EReal) * X (ix2 k c)) - Ideal.ofBits .f32 0x40000000#32 * ∑ k : Fin 64, (T (ix2 r k) : EReal) * X (ix2 k c)

theorem pay79_apply (r : Fin 1024) (c : Fin 2048) : k1_pay79 (F := Ideal) X T (ix2 r c) = score X T r c := by
  unfold k1_pay79
  simp only [pointwise, Nat.reduceEqDiff, OfNat.ofNat_ne_one, ↓reduceDIte, zero_add, one_mul]
  rfl

/-- The same, of a column given by its number. -/
def vals (r : Fin 1024) (n : ℕ) : EReal := if h : n < 2048 then score X T r ⟨n, h⟩ else 0

/-- The picks after one, two, three and four halvings. -/
def pick1 (r : Fin 1024) : ℕ → ℕ := half 1024 (vals X T r) id
def pick2 (r : Fin 1024) : ℕ → ℕ := half 512 (vals X T r) (pick1 X T r)
def pick3 (r : Fin 1024) : ℕ → ℕ := half 256 (vals X T r) (pick2 X T r)
def pick4 (r : Fin 1024) : ℕ → ℕ := half 128 (vals X T r) (pick3 X T r)

theorem picks4 (r : Fin 1024) : Picks 2048 128 (vals X T r) (pick4 X T r) :=
  half_spec 2048 128 _ _ (half_spec 2048 256 _ _ (half_spec 2048 512 _ _ (half_spec 2048 1024 _ _ (picks_id 2048 _))))

/-- The number of a column among all. -/
def num (i : grid1.Coords) (n : ℕ) : BitVec 32 := BitVec.ofNat 32 (n + 2048 * (i 1).val)

theorem pay79_vals (r : Fin 1024) (c : Fin 2048) : k1_pay79 (F := Ideal) X T (ix2 r c) = vals X T r c.val := by
  rw [pay79_apply]; unfold vals; rw [dif_pos c.isLt]

theorem pay81_apply (r : Fin 1024) (c : Fin 1024) : k1_pay81 (F := Ideal) X T (ix2 r c) = vals X T r (pick1 X T r c.val) := by
  unfold k1_pay81 k1_pay80
  simp only [pointwise, Nat.reduceEqDiff, OfNat.ofNat_ne_one, ↓reduceDIte, pay79_vals, Matrix.cons_val_zero, Matrix.cons_val_one, Matrix.cons_val_fin_one, zero_add, Fin.eta]
  unfold pick1 half
  rw [Nat.add_comm 1024]
  simp only [id]
  split_ifs <;> rfl

theorem num_eq (i : grid1.Coords) (n : ℕ) : IntOp.addi (BitVec.ofNat 32 n) (Scalar.muli (BitVec.ofNat 32 (i 1).val) 2048#32) = num i n := by
  unfold num
  show BitVec.ofNat 32 n + BitVec.ofNat 32 (i 1).val * BitVec.ofNat 32 2048 = _
  rw [← BitVec.ofNat_mul, ← BitVec.ofNat_add, Nat.mul_comm]

theorem pay82_apply (i : grid1.Coords) (r : Fin 1024) (c : Fin 1024) :
    k1_pay82 (F := Ideal) i X T (ix2 r c) = num i (pick1 X T r c.val) := by
  unfold k1_pay82 k1_pay80
  simp only [pointwise, Nat.reduceEqDiff, OfNat.ofNat_ne_one, ↓reduceDIte, pay79_vals, Matrix.cons_val_zero, Matrix.cons_val_one, Matrix.cons_val_fin_one, zero_add, Fin.eta, num_eq, List.foldl_cons, List.foldl_nil, zero_mul]
  unfold pick1 half
  rw [Nat.add_comm 1024]
  simp only [id]
  split_ifs <;> rfl

theorem pay83_apply (r : Fin 1024) (c : Fin 512) : k1_pay83 (F := Ideal) X T (ix2 r c)
    = BitVec.ofBool (decide (vals X T r (pick1 X T r c.val) ≤ vals X T r (pick1 X T r (c.val + 512)))) := by
  unfold k1_pay83
  simp only [pointwise, pay81_apply, Matrix.cons_val_zero, Matrix.cons_val_one, Matrix.cons_val_fin_one, zero_add, Fin.eta]
  rw [Nat.add_comm 512]

theorem pay84_apply (r : Fin 1024) (c : Fin 512) : k1_pay84 (F := Ideal) X T (ix2 r c) = vals X T r (pick2 X T r c.val) := by
  unfold k1_pay84
  simp only [pointwise, pay83_apply, pay81_apply, Matrix.cons_val_zero, Matrix.cons_val_one, Matrix.cons_val_fin_one, zero_add, Fin.eta]
  unfold pick2 half
  rw [Nat.add_comm 512]
  split_ifs <;> rfl

theorem sel2_apply (i : grid1.Coords) (r : Fin 1024) (c : Fin 512) :
    select (k1_pay83 (F := Ideal) X T) (k1_pay85 (F := Ideal) i X T) (k1_pay86 (F := Ideal) i X T) (ix2 r c) = num i (pick2 X T r c.val) := by
  unfold k1_pay85 k1_pay86
  simp only [pointwise, pay83_apply, pay82_apply, Matrix.cons_val_zero, Matrix.cons_val_one, Matrix.cons_val_fin_one, zero_add, Fin.eta]
  unfold pick2 half
  rw [Nat.add_comm 512]
  split_ifs <;> rfl

theorem pay87_apply (r : Fin 1024) (c : Fin 256) : k1_pay87 (F := Ideal) (k1_pay84 X T) (ix2 r c)
    = BitVec.ofBool (decide (vals X T r (pick2 X T r c.val) ≤ vals X T r (pick2 X T r (c.val + 256)))) := by
  unfold k1_pay87
  simp only [pointwise, pay84_apply, Matrix.cons_val_zero, Matrix.cons_val_one, Matrix.cons_val_fin_one, zero_add, Fin.eta]
  rw [Nat.add_comm 256]

theorem pay88_apply (r : Fin 1024) (c : Fin 256) : k1_pay88 (F := Ideal) (k1_pay84 X T) (ix2 r c) = vals X T r (pick3 X T r c.val) := by
  unfold k1_pay88
  simp only [pointwise, pay87_apply, pay84_apply, Matrix.cons_val_zero, Matrix.cons_val_one, Matrix.cons_val_fin_one, zero_add, Fin.eta]
  unfold pick3 half
  rw [Nat.add_comm 256]
  split_ifs <;> rfl

theorem pay89_apply (r : Fin 1024) (c : Fin 128) : k1_pay89 (F := Ideal) (k1_pay84 X T) (ix2 r c)
    = BitVec.ofBool (decide (vals X T r (pick3 X T r c.val) ≤ vals X T r (pick3 X T r (c.val + 128)))) := by
  unfold k1_pay89
  simp only [pointwise, pay88_apply, Matrix.cons_val_zero, Matrix.cons_val_one, Matrix.cons_val_fin_one, zero_add, Fin.eta]
  rw [Nat.add_comm 128]

theorem pay90_apply (r : Fin 1024) (c : Fin 128) : k1_pay90 (F := Ideal) (k1_pay84 X T) (ix2 r c) = vals X T r (pick4 X T r c.val) := by
  unfold k1_pay90
  simp only [pointwise, pay89_apply, pay88_apply, Matrix.cons_val_zero, Matrix.cons_val_one, Matrix.cons_val_fin_one, zero_add, Fin.eta]
  unfold pick4 half
  rw [Nat.add_comm 128]
  split_ifs <;> rfl

theorem pay91_apply (i : grid1.Coords) (r : Fin 1024) (c : Fin 128) :
    k1_pay91 (F := Ideal) (k1_pay83 (F := Ideal) X T) (k1_pay84 (F := Ideal) X T) (k1_pay85 (F := Ideal) i X T) (k1_pay86 (F := Ideal) i X T) (ix2 r c) = num i (pick4 X T r c.val) := by
  have h3 : ∀ c : Fin 256, select (k1_pay87 (F := Ideal) (k1_pay84 X T))
      (extractStridedSlice S1024x256 ![0, 0] (select (k1_pay83 (F := Ideal) X T) (k1_pay85 (F := Ideal) i X T) (k1_pay86 (F := Ideal) i X T)) slices_S1024x512_o0_0_S1024x256)
      (extractStridedSlice S1024x256 ![0, 256] (select (k1_pay83 (F := Ideal) X T) (k1_pay85 (F := Ideal) i X T) (k1_pay86 (F := Ideal) i X T)) slices_S1024x512_o0_256_S1024x256)
      (ix2 r c) = num i (pick3 X T r c.val) := by
    intro c
    generalize hs : select (k1_pay83 (F := Ideal) X T) (k1_pay85 (F := Ideal) i X T) (k1_pay86 (F := Ideal) i X T) = s
    have hs' : ∀ c, s (ix2 r c) = num i (pick2 X T r c.val) := fun c => by rw [← hs]; exact sel2_apply X T i r c
    simp only [pointwise, pay87_apply, hs', Matrix.cons_val_zero, Matrix.cons_val_one, Matrix.cons_val_fin_one, zero_add, Fin.eta]
    unfold pick3 half
    rw [Nat.add_comm 256]
    split_ifs <;> rfl
  unfold k1_pay91
  generalize hs : select (k1_pay87 (F := Ideal) (k1_pay84 X T)) _ _ = s
  have hs' : ∀ c, s (ix2 r c) = num i (pick3 X T r c.val) := fun c => by rw [← hs]; exact h3 c
  simp only [pointwise, pay89_apply, hs', Matrix.cons_val_zero, Matrix.cons_val_one, Matrix.cons_val_fin_one, zero_add, Fin.eta]
  unfold pick4 half
  rw [Nat.add_comm 128]
  split_ifs <;> rfl

/-- What the tables hold of a query and a residue. -/
def cell (A1 A2 : FVec Ideal S1024x128 .f32) (I1 I2 : IVec S1024x128 32) (r : Fin 1024) (l : Fin 128) : Pair EReal (BitVec 32) :=
  ((A1 (ix2 r l), I1 (ix2 r l)), (A2 (ix2 r l), I2 (ix2 r l)))

/-- The block's best of the residue enters. -/
theorem step_apply (i : grid1.Coords) (A1 A2 : FVec Ideal S1024x128 .f32) (I1 I2 : IVec S1024x128 32) (r : Fin 1024) (l : Fin 128) :
    cell (Tc.stepA1 X T A1) (Tc.stepA2 X T A1 A2) (Tc.stepI1 i X T A1 I1) (Tc.stepI2 i X T A1 A2 I1 I2) r l
      = enter (vals X T r (pick4 X T r l.val), num i (pick4 X T r l.val)) (cell A1 A2 I1 I2 r l) := by
  unfold cell enter Tc.stepA1 Tc.stepA2 Tc.stepI1 Tc.stepI2 k1_pay96 k1_pay97 k1_pay98 k1_pay1 k1_pay95 k1_pay94 k1_pay93 k1_pay92
  simp only [pointwise, pay90_apply, pay91_apply]

end Cert.Proof.Tour

end
-- ==== Proof.Take.lean ====
/-
  One trip of the search's final loop, read at the extended reals: where a query's table has a single least score, the trip
  notes it with its number and puts the residue's second best in its place (`takeOne_apply`).
-/
module

public import proofs.«01_k».proof.Proof.Tour

@[expose] public section

noncomputable section

namespace Cert.Proof.Take

open Idealize.ShloMosaic Cert.KernelIdeal Cert.KernelIdeal.Gen Cert.Proof.Search Cert.Proof.Tour Cert.Proof.Tc

variable (A : FVec Ideal S1024x128 .f32) (r : Fin 1024) (l0 : Fin 128)

theorem fold_min_eq (f : Fin 128 → EReal) (h : ∀ l, l ≠ l0 → f l0 < f l) (top : EReal) (ht : top = ⊤) :
    (Finset.univ : Finset (Fin 128)).fold min top f = f l0 := by
  subst ht
  apply le_antisymm
  · rw [Finset.fold_min_le]
    exact Or.inr ⟨l0, Finset.mem_univ _, le_rfl⟩
  · rw [Finset.le_fold_min]
    refine ⟨le_top, fun l _ => ?_⟩
    by_cases e : l = l0
    · rw [e]
    · exact le_of_lt (h l e)

theorem minsi_facts : ∀ l : Fin 128, IntOp.minsi (BitVec.ofNat 32 l.val) 1073741824#32 = BitVec.ofNat 32 l.val
    ∧ IntOp.minsi (BitVec.ofNat 32 l.val) 2147483647#32 = BitVec.ofNat 32 l.val
    ∧ IntOp.minsi 1073741824#32 (BitVec.ofNat 32 l.val) = BitVec.ofNat 32 l.val := by decide

theorem fold_minsi_eq : (Finset.univ : Finset (Fin 128)).fold IntOp.minsi 2147483647#32
    (fun k => if k = l0 then BitVec.ofNat 32 k.val else 1073741824#32) = BitVec.ofNat 32 l0.val := by
  have key : ∀ S : Finset (Fin 128),
      (l0 ∈ S → S.fold IntOp.minsi 2147483647#32 (fun k => if k = l0 then BitVec.ofNat 32 k.val else 1073741824#32) = BitVec.ofNat 32 l0.val)
      ∧ (l0 ∉ S → S.fold IntOp.minsi 2147483647#32 (fun k => if k = l0 then BitVec.ofNat 32 k.val else 1073741824#32) = 2147483647#32
        ∨ S.fold IntOp.minsi 2147483647#32 (fun k => if k = l0 then BitVec.ofNat 32 k.val else 1073741824#32) = 1073741824#32) := by
    intro S
    obtain ⟨f1, f2, f3⟩ := minsi_facts l0
    induction S using Finset.induction_on with
    | empty => exact ⟨fun h => absurd h (Finset.notMem_empty _), fun _ => Or.inl rfl⟩
    | insert a S ha ih =>
      rw [Finset.fold_insert ha]
      by_cases e : a = l0
      · subst e
        refine ⟨fun _ => ?_, fun h => absurd (Finset.mem_insert_self _ _) h⟩
        rw [if_pos rfl]
        rcases ih.2 ha with h | h <;> rw [h] <;> assumption
      · rw [if_neg e]
        refine ⟨fun h => ?_, fun h => ?_⟩
        · rw [ih.1 ((Finset.mem_insert.mp h).resolve_left (Ne.symm e)), f3]
        · rcases ih.2 (fun h' => h (Finset.mem_insert_of_mem h')) with h | h <;> rw [h] <;> exact Or.inr (by decide)
  exact (key _).1 (Finset.mem_univ _)

theorem fold_addi_eq (f : Fin 128 → BitVec 32) : (Finset.univ : Finset (Fin 128)).fold IntOp.addi 0#32
    (fun k => if k = l0 then f k else 0#32) = f l0 := by
  have key : ∀ S : Finset (Fin 128), S.fold IntOp.addi 0#32 (fun k => if k = l0 then f k else 0#32) = if l0 ∈ S then f l0 else 0#32 := by
    intro S
    induction S using Finset.induction_on with
    | empty => simp
    | insert a S ha ih =>
      rw [Finset.fold_insert ha, ih]
      by_cases e : a = l0
      · subst e
        rw [if_pos rfl, if_neg ha, if_pos (Finset.mem_insert_self _ _)]
        exact BitVec.add_zero _
      · rw [if_neg e]
        have : l0 ∈ insert a S ↔ l0 ∈ S := by rw [Finset.mem_insert, or_iff_right (Ne.symm e)]
        rw [if_congr this rfl rfl]
        exact BitVec.zero_add _
  rw [key, if_pos (Finset.mem_univ _)]

/-- The table's row has its least score at `l0` alone. -/
def Least : Prop := ∀ l, l ≠ l0 → A (ix2 r l0) < A (ix2 r l)

variable {A r l0}

theorem pay3_apply (h : Least A r l0) (z : Fin 1) : k1_pay3 (F := Ideal) A (ix2 r z) = A (ix2 r l0) := by
  unfold k1_pay3
  simp only [pointwise, Nat.reduceEqDiff, OfNat.ofNat_ne_one, ↓reduceDIte, zero_add]
  exact fold_min_eq l0 (fun k => A (ix2 r k)) h _ (by simp [Ideal.ofBits, Ideal.ieee])

theorem pay4_apply (h : Least A r l0) (l : Fin 128) : k1_pay4 (F := Ideal) lanes128 A (ix2 r l) = if l = l0 then 1#1 else 0#1 := by
  have hA : ∀ k, A (ix2 r k) = A (ix2 r l0) ↔ k = l0 := fun k =>
    ⟨fun e => by_contra fun hne => absurd (h k hne) (by rw [e]; exact lt_irrefl _), fun e => by rw [e]⟩
  unfold k1_pay4
  simp only [pointwise, Nat.reduceEqDiff, OfNat.ofNat_ne_one, ↓reduceDIte, zero_add, pay3_apply h, hA, List.foldl_cons, List.foldl_nil, zero_mul]
  refine (congrArg₂ (IntOp.cmpi .eq) (show _ = BitVec.ofNat 32 l.val from rfl) (fold_minsi_eq l0)).trans ?_
  show BitVec.ofBool (BitVec.ofNat 32 l.val == BitVec.ofNat 32 l0.val) = _
  have e : BitVec.ofNat 32 l.val = BitVec.ofNat 32 l0.val ↔ l = l0 := by
    rw [← BitVec.toNat_inj, BitVec.toNat_ofNat, BitVec.toNat_ofNat, Nat.mod_eq_of_lt (by omega), Nat.mod_eq_of_lt (by omega), Fin.val_inj]
  by_cases hl : l = l0
  · rw [if_pos hl, hl]; simp
  · rw [if_neg hl, beq_eq_false_iff_ne.mpr (fun h => hl (e.mp h))]; rfl

theorem trips_eq : k1_t1_loop.trips = 16 := by decide

theorem pay5_apply (j : Fin 16) (k : Fin k1_t1_loop.trips) : k1_pay5 lanes16 0#32 1#32 k (ix2 r j) = if j.val = k.val then 1#1 else 0#1 := by
  have hk : k.val < 16 := lt_of_lt_of_eq k.isLt trips_eq
  unfold k1_pay5
  simp only [pointwise, List.foldl_cons, List.foldl_nil, zero_mul, zero_add]
  refine (congrArg₂ (IntOp.cmpi .eq) (show _ = BitVec.ofNat 32 j.val from rfl) (show _ = BitVec.ofNat 32 k.val from ?_)).trans ?_
  · unfold Scf.iv
    simp
  show BitVec.ofBool (BitVec.ofNat 32 j.val == BitVec.ofNat 32 k.val) = _
  have e : BitVec.ofNat 32 j.val = BitVec.ofNat 32 k.val ↔ j.val = k.val := by
    rw [← BitVec.toNat_inj, BitVec.toNat_ofNat, BitVec.toNat_ofNat, Nat.mod_eq_of_lt (by omega), Nat.mod_eq_of_lt (by omega)]
  by_cases hl : j.val = k.val
  · rw [if_pos hl, hl]; simp
  · rw [if_neg hl, beq_eq_false_iff_ne.mpr (fun h => hl (e.mp h))]; rfl

theorem sel (p : Prop) [Decidable p] {α : Type} (a b : α) : Scalar.select (if p then 1#1 else 0#1) a b = if p then a else b := by
  split_ifs <;> rfl

theorem pay6_apply (h : Least A r l0) (j : Fin 16) (k : Fin k1_t1_loop.trips) (t : FVec Ideal S1024x16 .f32) :
    k1_pay6 (F := Ideal) lanes16 0#32 1#32 k t A (ix2 r j) = if j.val = k.val then A (ix2 r l0) else t (ix2 r j) := by
  unfold k1_pay6
  simp only [pointwise, Nat.reduceEqDiff, OfNat.ofNat_ne_one, ↓reduceDIte, zero_add, pay3_apply h, pay5_apply, sel]

theorem pay7_apply (h : Least A r l0) (j : Fin 16) (k : Fin k1_t1_loop.trips) (I : IVec S1024x128 32) (t : IVec S1024x16 32) :
    k1_pay7 (F := Ideal) lanes128 lanes16 0#32 1#32 k t A I (ix2 r j) = if j.val = k.val then I (ix2 r l0) else t (ix2 r j) := by
  unfold k1_pay7
  simp only [pointwise, Nat.reduceEqDiff, OfNat.ofNat_ne_one, ↓reduceDIte, zero_add, pay5_apply, pay4_apply h, sel]
  rw [fold_addi_eq l0 (fun k => I (ix2 r k))]

/-- What stands for no score. -/
def inf : EReal := Ideal.ofBits .f32 0x7F61B1E6#32

/-- What one trip does to a query whose row has its least score at `l0` alone. -/
theorem takeOne_apply (I2 : IVec S1024x128 32) (k : Fin k1_t1_loop.trips) (s : Found Ideal) (h : Least s.2.1.1 r l0) :
    (∀ j, (takeOne I2 k s).1.1 (ix2 r j) = if j.val = k.val then s.2.1.1 (ix2 r l0) else s.1.1 (ix2 r j))
    ∧ (∀ j, (takeOne I2 k s).1.2 (ix2 r j) = if j.val = k.val then s.2.2 (ix2 r l0) else s.1.2 (ix2 r j))
    ∧ ∀ l, cell (takeOne I2 k s).2.1.1 (takeOne I2 k s).2.1.2 (takeOne I2 k s).2.2 I2 r l
      = if l = l0 then taken inf (cell s.2.1.1 s.2.1.2 s.2.2 I2 r l) else cell s.2.1.1 s.2.1.2 s.2.2 I2 r l := by
  refine ⟨fun j => pay6_apply h j k _, fun j => pay7_apply h j k _ _, fun l => ?_⟩
  unfold cell takeOne k1_pay8 k1_pay12 k1_pay9 taken
  simp only [pointwise, pay4_apply h, sel]
  split_ifs <;> rfl

end Cert.Proof.Take

end
-- ==== Proof.Region.lean ====
/-
  The TensorCore search as one pipelined call: what its staging buffers and tables hold between the forty-nine blocks of
  columns (`tabs`, `Inv`), each point's body run at them (`body_obligation`), and the call as a region of @main that
  leaves the two words of the result at `outFin` and every other buffer as it was (`reg`).
-/
module

public import proofs.«01_k».proof.Proof.TcBody
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionsLoop
public import Idealize.ShloMosaic.Lib.Pipeline.FrameBody
public import Idealize.ShloMosaic.Lib.Pipeline.ValueKit
public import Idealize.ShloMosaic.Lib.Pipeline.TableIdle

@[expose] public section

set_option maxRecDepth 16384

noncomputable section

namespace Cert.Proof.Tc

open Cert.KernelIdeal Cert.KernelIdeal.Gen Cert.Proof.Gather

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

section Pure

variable (V : Valuation τ sig (Elt F))

/-! ## What the windows bring -/

def blkQ (t : Fin cfg1.N) : FVec F S1024x64 .f32 := ((cfg1.win 0).blk t).view.read (Elt F) (V main_arg0)
def blkW (t : Fin cfg1.N) : FVec F S64x64 .f32 := ((cfg1.win 1).blk t).view.read (Elt F) (V main_arg2)
def blkB (t : Fin cfg1.N) : FVec F S1x64 .f32 := ((cfg1.win 2).blk t).view.read (Elt F) (V main_v1)
def blkX (t : Fin cfg1.N) : FVec F S64x2048 .bf16 := ((cfg1.win 3).blk t).view.read (Elt F) (V main_v4)
def blkI (t : Fin cfg1.N) : IVec S1024x16 32 := ((cfg1.win 4).blk t).view.read (Elt F) (V main_v0_0)
def blkP (t : Fin cfg1.N) : FVec F S1024x16 .f32 := ((cfg1.win 5).blk t).view.read (Elt F) (V main_v0_1)

/-- The first and the last point. -/
def p0 : Fin cfg1.N := ⟨0, by decide⟩
def p48 : Fin cfg1.N := ⟨48, by decide⟩

/-! ## The tables between the blocks -/

abbrev Tabs (F : FTy → Type) := (FVec F S1024x128 .f32 × FVec F S1024x128 .f32) × (IVec S1024x128 32 × IVec S1024x128 32)

/-- The mapped queries. -/
def tqv : FVec F S1024x64 .f32 := k1_pay74 (blkQ V p0) (blkW V p0) (blkB V p0)

/-- One block of columns taken into the tables. -/
def stepT (i : grid1.Coords) (X : FVec F S64x2048 .bf16) (TQ : FVec F S1024x64 .f32) (s : Tabs F) : Tabs F :=
  ((stepA1 X TQ s.1.1, stepA2 X TQ s.1.1 s.1.2), (stepI1 i X TQ s.1.1 s.2.1, stepI2 i X TQ s.1.1 s.1.2 s.2.1 s.2.2))

/-- The tables after the first `n` blocks of columns. -/
def tabs : ℕ → Tabs F
  | 0 => ((k1_pay75, k1_pay76), (k1_pay77, k1_pay78))
  | n + 1 => if h : n < cfg1.N then stepT (grid1.coords ⟨n, h⟩) (blkX V ⟨n, h⟩) (tqv V) (tabs n) else tabs n

theorem tabs_zero : tabs V 0 = ((k1_pay75, k1_pay76), (k1_pay77, k1_pay78)) := rfl
theorem tabs_succ (t : Fin cfg1.N) : tabs V (t.val + 1) = stepT (grid1.coords t) (blkX V t) (tqv V) (tabs V t.val) := by
  rw [tabs, dif_pos t.isLt]

/-- What the final loop finds. -/
def found : Found F := takeAt (tabs V 49).1.1 (tabs V 49).1.2 (tabs V 49).2.1 (tabs V 49).2.2 k1_t1_loop.trips

/-- The two words of the result after the first point, and after the last. -/
def outFirst : FVec F S1x2 .f32 := firstOut (blkW V p0) (blkB V p0)
def outFin : FVec F S1x2 .f32 :=
  lastOut (outFirst V) (endWord (outFirst V (Idealize.ShloMosaic.ValueIdx.ix2 0 0)) (tqv V) (k1_pay13 (found V).1.1) (k1_pay14 (found V).1.2) (blkI V p48) (blkP V p48))

end Pure

/-! ## The proof data -/

variable (V : Dev nD → Valuation τ sig (Elt F))

/-- What the search's own buffers hold before point `k`. -/
def Inv (c : Dev nD) (k : ℕ) : sProp 𝕄 :=
  iprop(∃ (TQ : FVec F S1024x64 .f32) (s : Tabs F) (TV : FVec F S1024x16 .f32) (TI : IVec S1024x16 32) (TD : FVec F S1024x16 .f32),
    ⌜0 < k → k < 49 → TQ = tqv (V c) ∧ s = tabs (V c) k⌝
    ∗ owns (c : Thread nD τ) (Memref.whole cc1_scratch0) fullShare TQ
    ∗ owns (c : Thread nD τ) (Memref.whole cc1_scratch1) fullShare s.1.1
    ∗ owns (c : Thread nD τ) (Memref.whole cc1_scratch2) fullShare s.1.2
    ∗ owns (c : Thread nD τ) (Memref.whole cc1_scratch3) fullShare s.2.1
    ∗ owns (c : Thread nD τ) (Memref.whole cc1_scratch4) fullShare s.2.2
    ∗ owns (c : Thread nD τ) (Memref.whole cc1_scratch5) fullShare TV
    ∗ owns (c : Thread nD τ) (Memref.whole cc1_scratch6) fullShare TI
    ∗ owns (c : Thread nD τ) (Memref.whole cc1_scratch7) fullShare TD)

/-- The pairs a TensorCore's waits may have recorded by the time the call is made. -/
def below (c : Dev nD) : Set (SemLoc sig × HIx 1) := {p | (K (F := F)).lev ((c : Thread nD τ), p.1) p.2 ≤ 8}

def dats (_ : Fin 1) (c : Dev nD) : Dat τ (Elt F) (HIx 1) ℕ UU ℕ cfg1 c where
  A w := V c (Pipeline.arrRef spec1 w)
  after w t := match w with
    | ⟨0, _⟩ => blkQ (V c) t
    | ⟨1, _⟩ => blkW (V c) t
    | ⟨2, _⟩ => blkB (V c) t
    | ⟨3, _⟩ => blkX (V c) t
    | ⟨4, _⟩ => blkI (V c) t
    | ⟨5, _⟩ => blkP (V c) t
    | ⟨6, _⟩ => if t.val = 48 then outFin (V c) else outFirst (V c)
  Φ t := Inv V c t.val
  q _ := fullShare
  owed _ := 0
  recorded _ := below (F := F) c

theorem A_eq (c : Dev nD) (w : Fin cfg1.W) : (dats V 0 c).A w = V c (Pipeline.arrRef spec1 w) := by
  dsimp only [dats]

/-! ## The points -/

theorem cond1_iff : ∀ t : Fin grid1.N, k1_cond1 (grid1.coords t) = 1#1 ↔ t.val = 0 := by decide
theorem cond2_iff : ∀ t : Fin grid1.N, Scalar.cmpi .ne (Scalar.extui (Scalar.cmpi .eq (BitVec.ofNat 32 ((grid1.coords t) 1).val) 0#32)) 0#32 = 1#1 ↔ t.val = 0 := by decide
theorem cond3_iff : ∀ t : Fin grid1.N, k1_cond3 (grid1.coords t) = 1#1 ↔ t.val = 48 := by decide
theorem coords_one : ∀ t : Fin grid1.N, ((grid1.coords t) 1).val = t.val := by decide
theorem idle6_iff : ∀ t : Fin cfg1.N, cfg1.idle 6 (cfg1.grid.coords t) = true ↔ (t.val ≠ 0 ∧ t.val ≠ 48) := by decide
theorem fresh6 : ∀ t : Fin cfg1.N, cfg1.fresh 6 t.val = decide (t.val = 0) := by decide

theorem before0 (c : Dev nD) (t : Fin cfg1.N) (d) : (dats V 0 c).before 0 t d = blkQ (V c) t :=
  (Dat.before_in_eq_fetched _ 0 rfl (fun _ => rfl) (fun _ _ _ => rfl) (fun _ => rfl) t d).trans rfl
theorem before1 (c : Dev nD) (t : Fin cfg1.N) (d) : (dats V 0 c).before 1 t d = blkW (V c) t :=
  (Dat.before_in_eq_fetched _ 1 rfl (fun _ => rfl) (fun _ _ _ => rfl) (fun _ => rfl) t d).trans rfl
theorem before2 (c : Dev nD) (t : Fin cfg1.N) (d) : (dats V 0 c).before 2 t d = blkB (V c) t :=
  (Dat.before_in_eq_fetched _ 2 rfl (fun _ => rfl) (fun _ _ _ => rfl) (fun _ => rfl) t d).trans rfl
theorem before3 (c : Dev nD) (t : Fin cfg1.N) (d) : (dats V 0 c).before 3 t d = blkX (V c) t :=
  (Dat.before_in_eq_fetched _ 3 rfl (fun _ => rfl) (fun _ _ _ => rfl) (fun _ => rfl) t d).trans rfl
theorem before4 (c : Dev nD) (t : Fin cfg1.N) (d) : (dats V 0 c).before 4 t d = blkI (V c) t :=
  (Dat.before_in_eq_fetched _ 4 rfl (fun _ => rfl) (fun _ _ _ => rfl) (fun _ => rfl) t d).trans rfl
theorem before5 (c : Dev nD) (t : Fin cfg1.N) (d) : (dats V 0 c).before 5 t d = blkP (V c) t :=
  (Dat.before_in_eq_fetched _ 5 rfl (fun _ => rfl) (fun _ _ _ => rfl) (fun _ => rfl) t d).trans rfl
theorem before6 (c : Dev nD) (t : Fin cfg1.N) (ht : t.val ≠ 0) (d) : (dats V 0 c).before 6 t d = outFirst (V c) := by
  have hN : t.val < 49 := lt_of_lt_of_eq t.isLt N_1
  refine ((dats V 0 c).before_out_traj 6 rfl (fun _ _ => rfl) (fun t' ht' hi _ => ?_) t.val t rfl d).trans ?_
  · have h48 : t'.val ≠ 48 := fun e => by
      rw [idle6_iff] at hi; exact hi.2 e
    dsimp only [dats]; rw [if_neg h48, if_neg (by have := lt_of_lt_of_eq t'.isLt N_1; omega)]
  · rw [fresh6, if_neg (by simpa using ht)]; dsimp only [dats]; rw [if_neg (by omega)]

/-- A buffer held whole, named by its contents. -/
theorem whole_owns {c : Dev nD} {b : Ref sig .tc} (f : Buf (Elt F) ((c : Thread nD τ).loc b)) :
    (((c : Thread nD τ).loc b) ↦{fullShare} f : sProp 𝕄) = owns (c : Thread nD τ) (Memref.whole b) fullShare f := by
  rw [owns_whole_eq]
  refine BI.equiv_iff.mp ⟨?_, ?_⟩
  · show (((c : Thread nD τ).loc b) ↦{fullShare} f) ⊢ iprop(∃ g : Buf (Elt F) ((c : Thread nD τ).loc b), ⌜g = f⌝ ∗ (((c : Thread nD τ).loc b) ↦{fullShare} g))
    iintro H; iexists f; isplitr; · ipureintro; rfl
    iexact H
  · show iprop(∃ g : Buf (Elt F) ((c : Thread nD τ).loc b), ⌜g = f⌝ ∗ (((c : Thread nD τ).loc b) ↦{fullShare} g)) ⊢ (((c : Thread nD τ).loc b) ↦{fullShare} f)
    iintro ⟨%g, %hg, H⟩; subst hg; iexact H

theorem first_tabs (V : Valuation τ sig (Elt F)) (t : Fin cfg1.N) (h0 : t.val = 0) :
    k1_pay74 (blkQ V t) (blkW V t) (blkB V t) = tqv V
      ∧ stepT (grid1.coords t) (blkX V t) (k1_pay74 (blkQ V t) (blkW V t) (blkB V t)) ((k1_pay75, k1_pay76), (k1_pay77, k1_pay78)) = tabs V (t.val + 1) := by
  obtain rfl : t = p0 := Fin.ext h0
  exact ⟨rfl, (tabs_succ V p0).symm⟩

theorem leaves6_first (c : Dev nD) (t : Fin cfg1.N) (h0 : t.val = 0) :
    (dats V 0 c).leavesExact 6 t = owns (c : Thread nD τ) (st1_6 t) fullShare (firstOut (blkW (V c) t) (blkB (V c) t)) := by
  have hi : cfg1.idle 6 (cfg1.grid.coords t) = false := by rw [← Bool.not_eq_true, idle6_iff]; omega
  unfold Dat.leavesExact; rw [hi]; dsimp only [dats]; rw [if_neg (by omega)]
  obtain rfl : t = p0 := Fin.ext h0
  rfl

theorem leaves6_last (c : Dev nD) (t : Fin cfg1.N) (h48 : t.val = 48) :
    (dats V 0 c).leavesExact 6 t = owns (c : Thread nD τ) (st1_6 t) fullShare (outFin (V c)) := by
  have hi : cfg1.idle 6 (cfg1.grid.coords t) = false := by rw [← Bool.not_eq_true, idle6_iff]; omega
  unfold Dat.leavesExact; rw [hi]; dsimp only [dats]; rw [if_pos h48]

theorem last_found (V : Valuation τ sig (Elt F)) (t : Fin cfg1.N) (h48 : t.val = 48) :
    takeAt (stepA1 (blkX V t) (tqv V) (tabs V t.val).1.1) (stepA2 (blkX V t) (tqv V) (tabs V t.val).1.1 (tabs V t.val).1.2)
      (stepI1 (grid1.coords t) (blkX V t) (tqv V) (tabs V t.val).1.1 (tabs V t.val).2.1)
      (stepI2 (grid1.coords t) (blkX V t) (tqv V) (tabs V t.val).1.1 (tabs V t.val).1.2 (tabs V t.val).2.1 (tabs V t.val).2.2) k1_t1_loop.trips = found V := by
  obtain rfl : t = p48 := Fin.ext h48
  unfold found; rw [show (49 : ℕ) = p48.val + 1 from rfl, tabs_succ V p48]; rfl

theorem last_out (V : Valuation τ sig (Elt F)) (t : Fin cfg1.N) (h48 : t.val = 48) :
    lastOut (outFirst V) (endWord (outFirst V (Idealize.ShloMosaic.ValueIdx.ix2 0 0)) (tqv V) (k1_pay13 (found V).1.1) (k1_pay14 (found V).1.2)
      (blkI V t) (blkP V t)) = outFin V := by
  obtain rfl : t = p48 := Fin.ext h48
  rfl

set_option backward.isDefEq.respectTransparency.types false in
theorem leaves_all (c : Dev nD) (t : Fin cfg1.N) :
    iprop(owns (c : Thread nD τ) (st1_0 t) fullShare (blkQ (V c) t) ∗ owns (c : Thread nD τ) (st1_1 t) fullShare (blkW (V c) t)
        ∗ owns (c : Thread nD τ) (st1_2 t) fullShare (blkB (V c) t) ∗ owns (c : Thread nD τ) (st1_3 t) fullShare (blkX (V c) t)
        ∗ owns (c : Thread nD τ) (st1_4 t) fullShare (blkI (V c) t) ∗ owns (c : Thread nD τ) (st1_5 t) fullShare (blkP (V c) t)
        ∗ (dats V 0 c).leavesExact 6 t)
      ⊢ (bigSep Finset.univ fun w : Fin 7 => (dats V 0 c).leavesExact w t : sProp 𝕄) := by
  rw [bigSep_W1]
  exact .rfl

set_option backward.isDefEq.respectTransparency.types false in
theorem body_obligation (c : Dev nD) : BodyObligation (dats V 0 c) (defs₀ (F := F)) 𝒱₀ none Set.univ := fun t => by
  have hN : t.val < 49 := lt_of_lt_of_eq t.isLt N_1
  rw [bigSep_W1]
  rw [show (dats V 0 c).Φ t.castSucc = Inv V c t.val from rfl, show (dats V 0 c).Φ t.succ = Inv V c (t.val + 1) from rfl]
  unfold Inv
  iintro ⟨⟨%TQ, %s, %TV, %TI, %TD, %hs, T0, T1, T2, T3, T4, T5, T6, T7⟩, HO, ⟨%d0, H0⟩, ⟨%d1, H1⟩, ⟨%d2, H2⟩, ⟨%d3, H3⟩, ⟨%d4, H4⟩, ⟨%d5, H5⟩, ⟨%d6, H6⟩⟩
  rw [before0, before1, before2, before3, before4, before5]
  by_cases h0 : t.val = 0
  · iapply (wp_wand_r Idealize.ShloMosaic.frame (wpE (defs₀ (F := F)) 𝒱₀ (c : Thread nD τ) none) Set.univ)
    isplitl [H0 H1 H2 H3 H6 T0 T1 T2 T3 T4]
    · iapply (first_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
        ((cond1_iff t).2 h0) ((cond2_iff t).2 h0) (mt (cond3_iff t).1 (by omega)) _ _ _ _ _ _ _ _ _ _)
      isplitl [H0]; · iexact H0
      isplitl [H1]; · iexact H1
      isplitl [H2]; · iexact H2
      isplitl [H3]; · iexact H3
      isplitl [H6]; · iexact H6
      isplitl [T0]; · iexact T0
      isplitl [T1]; · iexact T1
      isplitl [T2]; · iexact T2
      isplitl [T3]; · iexact T3
      iexact T4
    iintro %_ H'
    icases H' with ⟨H0, H1, H2, H3, H6, T0, T1, T2, T3, T4⟩
    isplitl [T0 T1 T2 T3 T4 T5 T6 T7]
    · iexists (k1_pay74 (blkQ (V c) t) (blkW (V c) t) (blkB (V c) t)), (stepT (grid1.coords t) (blkX (V c) t) (k1_pay74 (blkQ (V c) t) (blkW (V c) t) (blkB (V c) t)) ((k1_pay75, k1_pay76), (k1_pay77, k1_pay78))), _, _, _
      isplitr; · ipureintro; exact fun _ _ => first_tabs (V c) t h0
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    isplitl [HO]; · iexact HO
    iapply (leaves_all V c t)
    isplitl [H0]; · iexact H0
    isplitl [H1]; · iexact H1
    isplitl [H2]; · iexact H2
    isplitl [H3]; · iexact H3
    isplitl [H4]; · iexact H4
    isplitl [H5]; · iexact H5
    rw [show (dats V 0 c).leavesExact 6 t = owns (c : Thread nD τ) (st1_6 t) fullShare (firstOut (blkW (V c) t) (blkB (V c) t)) from leaves6_first V c t h0]
    iexact H6
  · obtain ⟨rfl, rfl⟩ := hs (by omega) hN
    by_cases h48 : t.val = 48
    · rw [before6 V c t h0]
      iapply (wp_wand_r Idealize.ShloMosaic.frame (wpE (defs₀ (F := F)) 𝒱₀ (c : Thread nD τ) none) Set.univ)
      isplitl [H3 H4 H5 H6 T0 T1 T2 T3 T4 T5 T6 T7]
      · iapply (last_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
          (mt (cond1_iff t).1 h0) (mt (cond2_iff t).1 h0) ((cond3_iff t).2 h48) _ _ _ _ _ _ _ _ _ _ _ _)
        isplitl [H3]; · iexact H3
        isplitl [H4]; · iexact H4
        isplitl [H5]; · iexact H5
        isplitl [H6]; · iexact H6
        isplitl [T0]; · iexact T0
        isplitl [T1]; · iexact T1
        isplitl [T2]; · iexact T2
        isplitl [T3]; · iexact T3
        isplitl [T4]; · iexact T4
        isplitl [T5]; · iexact T5
        isplitl [T6]; · iexact T6
        iexact T7
      iintro %_ H'
      rw [last_found (V c) t h48]
      icases H' with ⟨H3, H4, H5, H6, T0, T1, T2, T3, T4, T5, T6, %TE, T7⟩
      isplitl [T0 T1 T2 T3 T4 T5 T6 T7]
      · iexists (tqv (V c)), (((found (V c)).2.1.1, (found (V c)).2.1.2), ((found (V c)).2.2, stepI2 (grid1.coords t) (blkX (V c) t) (tqv (V c)) (tabs (V c) t.val).1.1 (tabs (V c) t.val).1.2 (tabs (V c) t.val).2.1 (tabs (V c) t.val).2.2)), (k1_pay13 (found (V c)).1.1), (k1_pay14 (found (V c)).1.2), TE
        isplitr; · ipureintro; exact fun _ h => absurd h (by omega)
        isplitl [T0]; · iexact T0
        isplitl [T1]; · iexact T1
        isplitl [T2]; · iexact T2
        isplitl [T3]; · iexact T3
        isplitl [T4]; · iexact T4
        isplitl [T5]; · iexact T5
        isplitl [T6]; · iexact T6
        iexact T7
      isplitl [HO]; · iexact HO
      iapply (leaves_all V c t)
      isplitl [H0]; · iexact H0
      isplitl [H1]; · iexact H1
      isplitl [H2]; · iexact H2
      isplitl [H3]; · iexact H3
      isplitl [H4]; · iexact H4
      isplitl [H5]; · iexact H5
      rw [show (dats V 0 c).leavesExact 6 t = owns (c : Thread nD τ) (st1_6 t) fullShare (outFin (V c)) from leaves6_last V c t h48]
      iapply (Entails.of_eq (congrArg (owns (c : Thread nD τ) (st1_6 t) fullShare) (last_out (V c) t h48)))
      iexact H6
    · iapply (wp_wand_r Idealize.ShloMosaic.frame (wpE (defs₀ (F := F)) 𝒱₀ (c : Thread nD τ) none) Set.univ)
      isplitl [H3 T0 T1 T2 T3 T4]
      · iapply (mid_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
          (mt (cond1_iff t).1 h0) (mt (cond2_iff t).1 h0) (mt (cond3_iff t).1 h48) _ _ _ _ _ _)
        isplitl [H3]; · iexact H3
        isplitl [T0]; · iexact T0
        isplitl [T1]; · iexact T1
        isplitl [T2]; · iexact T2
        isplitl [T3]; · iexact T3
        iexact T4
      iintro %_ H'
      icases H' with ⟨H3, T0, T1, T2, T3, T4⟩
      isplitl [T0 T1 T2 T3 T4 T5 T6 T7]
      · iexists (tqv (V c)), (stepT (grid1.coords t) (blkX (V c) t) (tqv (V c)) (tabs (V c) t.val)), _, _, _
        isplitr; · ipureintro; exact fun _ _ => ⟨rfl, (tabs_succ (V c) t).symm⟩
        isplitl [T0]; · iexact T0
        isplitl [T1]; · iexact T1
        isplitl [T2]; · iexact T2
        isplitl [T3]; · iexact T3
        isplitl [T4]; · iexact T4
        isplitl [T5]; · iexact T5
        isplitl [T6]; · iexact T6
        iexact T7
      isplitl [HO]; · iexact HO
      iapply (leaves_all V c t)
      isplitl [H0]; · iexact H0
      isplitl [H1]; · iexact H1
      isplitl [H2]; · iexact H2
      isplitl [H3]; · iexact H3
      isplitl [H4]; · iexact H4
      isplitl [H5]; · iexact H5
      rw [(dats V 0 c).leavesExact_idle 6 t ((idle6_iff t).2 ⟨h0, h48⟩) (by rw [← Bool.not_eq_true, flush1_6]; omega)]
      iexists d6; iexact H6

/-! ## The region -/

/-- The result's array after the last point. -/
theorem out_final (c : Dev nD) : (dats V 0 c).arrAt 6 cfg1.N = outFin (V c) := by
  refine Dat.arrAt_eq_of_after_last _ 6 p48 (by decide +kernel) _ (fun j => ?_)
  dsimp only [dats]
  rw [if_pos (show p48.val = 48 from rfl)]
  rfl

/-- The contents when the region is left: the result's array at the two words, the rest as they were. -/
def outV (c : Dev nD) : Valuation τ sig (Elt F) := Function.update (V c) (main_v5 : DevRef τ sig) (outFin (V c))

theorem outV_ne (c : Dev nD) (b : Ref sig .tc) (h : b ≠ main_v5) : outV V c b = V c b :=
  Function.update_of_ne (StableHlo.devRef_ne_of_ne h) _ _
theorem outV_out (c : Dev nD) : outV V c main_v5 = outFin (V c) := Function.update_self _ _ _

/-- The arrays after the last point. -/
theorem arr_final (c : Dev nD) : ∀ w : Fin cfg1.W, (dats V 0 c).arrAt w cfg1.N = outV V c (Pipeline.arrRef spec1 w)
  | 0 => ((dats V 0 c).arrAt_in 0 rfl _).trans (outV_ne V c _ (by decide)).symm
  | 1 => ((dats V 0 c).arrAt_in 1 rfl _).trans (outV_ne V c _ (by decide)).symm
  | 2 => ((dats V 0 c).arrAt_in 2 rfl _).trans (outV_ne V c _ (by decide)).symm
  | 3 => ((dats V 0 c).arrAt_in 3 rfl _).trans (outV_ne V c _ (by decide)).symm
  | 4 => ((dats V 0 c).arrAt_in 4 rfl _).trans (outV_ne V c _ (by decide)).symm
  | 5 => ((dats V 0 c).arrAt_in 5 rfl _).trans (outV_ne V c _ (by decide)).symm
  | 6 => (out_final V c).trans (outV_out V c).symm

/-- What a TensorCore has waited on so far, and that it owes nothing. -/
abbrev idleSt (c : Dev nD) : sProp 𝕄 :=
  iprop(∃ W, ⌜(K (F := F)).WBelow (c : Thread nD τ) W 8⌝ ∗ owes (c : Thread nD τ) (0 : CellTallies nD τ sig (HIx 1)) W)

abbrev adm : (p : Fin 1) → (pcfgs (F := F) p).Adm := fun p => (cfgs p).toPCfg_adm

/-- The kernel takes no semaphore of its own. -/
abbrev noSem : Fin 0 → SemLoc sig := fun k => k.elim0
theorem noSemFacts : Pipeline.OwnSemFacts spec1 noSem := by decide

omit [FloatOps F] in
theorem noSems (c : Dev nD) :
    (Pipeline.ownSems0 (Ix := HIx 1) (Name := ℕ) (U := UU) (Lvl := ℕ) (Val := Elt F) (τ := τ) noSem c : sProp 𝕄) = iprop(emp) := by
  unfold Pipeline.ownSems0; rw [show (Finset.univ : Finset (Fin 0)) = ∅ from rfl, BI.bigSep_empty]; rfl

set_option backward.isDefEq.respectTransparency.types false in
def reg : Pipeline.RegionSeg (pcfgs (F := F)) adm (dats V) none defs₀ 𝒱₀ (K (F := F)).L (K (F := F)).lev 0 where
  win := launch1.win.to₀
  block_pos := launch1.block_pos
  stage_whole := launch1.stage_whole
  K := Fin 0
  osem := noSem
  ho := noSemFacts
  hbody c := (body_obligation V c).loose
  hwaits := Pipeline.hwaits_of_owed_zero _ _ _ _ _ _ 0 fun _ _ => rfl
  pre c := iprop(StableHlo.held (c : Thread nD τ) (Pipeline.ucRefs τ sig) (V c) ∗ idleSt c)
  post c := iprop(StableHlo.held (c : Thread nD τ) (Pipeline.ucRefs τ sig) (outV V c) ∗ idleSt c)
  X c := iprop(emp)
  Y c := iprop(emp)
  Z c := Pipeline.unscopedRest spec1 c (fun b => V c b)
  hentry c := by
    rw [← Pipeline.unscopedBufs_held, noSems]
    have hsplit := Pipeline.arrays_of_unscopedBufs (pcfgs (F := F)) adm (dats V) launch1.win launch1.arr_whole c
      ((dats V 0 c).share_full fun _ => rfl) (fun b => V c b) (A_eq V c)
    iintro ⟨⟨Hub, %W, %hW, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hz
  hin c := by
    rw [show (dats V 0 c).Φ 0 = Inv V c 0 from rfl]; unfold Inv; rw [scopedRest1_eq]
    simp only [whole_owns]
    iintro ⟨-, -, ⟨%f0, T0⟩, ⟨%f1, T1⟩, ⟨%f2, T2⟩, ⟨%f3, T3⟩, ⟨%f4, T4⟩, ⟨%f5, T5⟩, ⟨%f6, T6⟩, ⟨%f7, T7⟩⟩
    iexists f0, ((f1, f2), (f3, f4)), f5, f6, f7
    isplitr; · ipureintro; exact fun h => absurd h (by omega)
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  hout c := by
    rw [noSems, show (dats V 0 c).Φ (Fin.last cfg1.N) = Inv V c cfg1.N from rfl]; unfold Inv; rw [scopedRest1_eq]
    simp only [whole_owns]
    iintro ⟨%f0, %s, %f5, %f6, %f7, -, T0, T1, T2, T3, T4, T5, T6, T7⟩
    isplitr; · iempintro
    isplitr; · iempintro
    isplitl [T0]; · iexists _; iexact T0
    isplitl [T1]; · iexists _; iexact T1
    isplitl [T2]; · iexists _; iexact T2
    isplitl [T3]; · iexists _; iexact T3
    isplitl [T4]; · iexists _; iexact T4
    isplitl [T5]; · iexists _; iexact T5
    isplitl [T6]; · iexists _; iexact T6
    iexists _; iexact T7
  hexit c := by
    rw [← Pipeline.unscopedBufs_held]
    have hjoin := Pipeline.unscopedBufs_of_arrays (pcfgs (F := F)) adm launch1.win launch1.arr_whole c (dats V)
      ((dats V 0 c).share_full fun _ => rfl) (fun b => V c b) (fun b => outV V c b) ((dats V 0 c).arrAt · cfg1.N) (arr_final V c)
      (fun b hb => outV_ne V c b fun e => hb (e ▸ Finset.mem_image.mpr ⟨(6 : Fin 7), Finset.mem_univ _, rfl⟩))
    iintro ⟨Ha, HO, -, Hz⟩
    imodintro
    isplitl [Ha Hz]
    · iapply hjoin; isplitl [Ha]; · iexact Ha
      iexact Hz
    · unfold Pipeline.Dat.owesAt Pipeline.owesWithin
      icases HO with ⟨%W, %hW, HO⟩; iexists W; isplitr
      · ipureintro
        intro p hp
        rcases hW hp with h | ⟨w, s, rfl⟩
        · exact h
        · exact Nat.zero_le _
      iexact HO

end Cert.Proof.Tc

end
-- ==== Proof.Nearest.lean ====
/-
  The search as a whole, of one query: over the blocks the tables keep the sixteen nearest keys (`keeps_tabs`), and the final
  loop takes them out in order (`taken_all`).
-/
module

public import proofs.«01_k».proof.Proof.Take
public import proofs.«01_k».proof.Proof.Region

@[expose] public section

noncomputable section

namespace Cert.Proof.Nearest

open Idealize.ShloMosaic Cert.KernelIdeal Cert.KernelIdeal.Gen Cert.Proof.Search Cert.Proof.Tour Cert.Proof.Take Cert.Proof.Tc

/-- The sixteen nearest keys `e` of a query whose scores are `v`, in order: all other scores are greater, and the tables have
    room for them. -/
structure Near (v : ℕ → EReal) (e : Fin 16 → ℕ) : Prop where
  lt : ∀ j, e j < 100352
  mono : ∀ j k, j < k → v (e j) < v (e k)
  out : ∀ n < 100352, (∀ j, n ≠ e j) → v (e 15) < v n
  far : v (e 15) < inf
  lane : ∀ j, (Finset.univ.filter fun k : Fin 16 => e j % 128 = e k % 128).card ≤ 2
  tile : ∀ j k, e j % 128 = e k % 128 → e j / 2048 = e k / 2048 → j = k

namespace Near
variable {v : ℕ → EReal} {e : Fin 16 → ℕ} (N : Near v e)
include N

theorem le (j : Fin 16) : v (e j) ≤ v (e 15) := by
  rcases eq_or_ne j 15 with h | h
  · rw [h]
  · exact le_of_lt (N.mono j 15 (lt_of_le_of_ne (Fin.le_last j) h))

theorem inj (j k : Fin 16) (h : e j = e k) : j = k := by
  rcases lt_trichotomy j k with hl | hl | hl
  · exact absurd (N.mono j k hl) (by rw [h]; exact lt_irrefl _)
  · exact hl
  · exact absurd (N.mono k j hl) (by rw [h]; exact lt_irrefl _)

theorem val_inj (j k : Fin 16) (h : v (e j) = v (e k)) : j = k := by
  rcases lt_trichotomy j k with hl | hl | hl
  · exact absurd (N.mono j k hl) (by rw [h]; exact lt_irrefl _)
  · exact hl
  · exact absurd (N.mono k j hl) (by rw [h]; exact lt_irrefl _)
end Near

/-- Those of the nearest keys that are of residue `l` and satisfy `p`. -/
def some (e : Fin 16 → ℕ) (l : ℕ) (p : Fin 16 → Prop) [DecidablePred p] : Finset ℕ :=
  (Finset.univ.filter fun j : Fin 16 => e j % 128 = l ∧ p j).image e

theorem mem_some {e : Fin 16 → ℕ} {l : ℕ} {p : Fin 16 → Prop} [DecidablePred p] {x : ℕ} :
    x ∈ some e l p ↔ ∃ j, (e j % 128 = l ∧ p j) ∧ e j = x := by
  unfold some
  simp only [Finset.mem_image, Finset.mem_filter, Finset.mem_univ, true_and]

variable {v : ℕ → EReal} {e : Fin 16 → ℕ}

/-- One block taken into a residue's pair. -/
theorem keeps_tile (N : Near v e) (l t p : ℕ) (ht : t < 49) (hp : p < 2048) (hpl : p % 128 = l)
    (hmin : ∀ c < 2048, c % 128 = l → v (p + 2048 * t) ≤ v (c + 2048 * t)) (s : Pair EReal (BitVec 32))
    (h : Keeps v (BitVec.ofNat 32) (v (e 15)) (some e l fun j => e j < 2048 * t) s) :
    Keeps v (BitVec.ofNat 32) (v (e 15)) (some e l fun j => e j < 2048 * (t + 1))
      (enter (v (p + 2048 * t), BitVec.ofNat 32 (p + 2048 * t)) s) := by
  by_cases hj : ∃ j, e j = p + 2048 * t
  · obtain ⟨j, hj⟩ := hj
    have hS : some e l (fun j => e j < 2048 * (t + 1)) = insert (p + 2048 * t) (some e l fun j => e j < 2048 * t) := by
      ext x
      rw [Finset.mem_insert, mem_some, mem_some]
      constructor
      · rintro ⟨k, ⟨hk1, hk2⟩, rfl⟩
        by_cases hk : e k < 2048 * t
        · exact Or.inr ⟨k, ⟨hk1, hk⟩, rfl⟩
        · left
          rw [← hj, N.tile k j (by rw [hk1, hj]; omega) (by rw [hj]; omega)]
      · rintro (rfl | ⟨k, ⟨hk1, hk2⟩, rfl⟩)
        · exact ⟨j, ⟨by rw [hj]; omega, by rw [hj]; omega⟩, hj⟩
        · exact ⟨k, ⟨hk1, by omega⟩, rfl⟩
    rw [hS]
    refine keeps_near h _ ?_ ?_ ?_ ?_
    · rw [← hS]
      intro x hx
      obtain ⟨k, _, rfl⟩ := mem_some.mp hx
      exact N.le k
    · intro x hx
      obtain ⟨k, ⟨_, hk⟩, rfl⟩ := mem_some.mp hx
      rw [← hj]
      intro hv
      rw [N.val_inj k j hv] at hk
      omega
    · rw [← hS]
      refine le_trans Finset.card_image_le (le_trans (Finset.card_le_card ?_) (N.lane j))
      intro k hk
      rw [Finset.mem_filter] at hk ⊢
      exact ⟨hk.1, by rw [hj, hk.2.1]; omega⟩
    · intro hx
      obtain ⟨k, ⟨_, hk⟩, hk'⟩ := mem_some.mp hx
      omega
  · have hlt : v (e 15) < v (p + 2048 * t) := N.out _ (by omega) fun j h => hj ⟨j, h.symm⟩
    have hS : some e l (fun j => e j < 2048 * (t + 1)) = some e l fun j => e j < 2048 * t := by
      ext x
      rw [mem_some, mem_some]
      constructor
      · rintro ⟨k, ⟨hk1, hk2⟩, rfl⟩
        refine ⟨k, ⟨hk1, ?_⟩, rfl⟩
        by_contra hk
        have hm := hmin (e k - 2048 * t) (by omega) (by omega)
        rw [Nat.sub_add_cancel (by omega)] at hm
        exact absurd (lt_of_lt_of_le hlt hm) (not_lt.mpr (N.le k))
      · rintro ⟨k, ⟨hk1, hk2⟩, rfl⟩
        exact ⟨k, ⟨hk1, by omega⟩, rfl⟩
    rw [hS]
    refine keeps_far h ?_ _ hlt
    intro x hx
    obtain ⟨k, _, rfl⟩ := mem_some.mp hx
    exact N.le k

variable (V : Valuation τ sig (Elt Ideal)) (r : Fin 1024)

/-- What the tables hold of a query and a residue after `n` blocks. -/
def tcell (n : ℕ) (l : Fin 128) : Pair EReal (BitVec 32) := cell (tabs V n).1.1 (tabs V n).1.2 (tabs V n).2.1 (tabs V n).2.2 r l

theorem keeps_tabs (N : Near v e) (hv : ∀ (t : Fin cfg1.N) (c : ℕ), c < 2048 → vals (blkX V t) (tqv V) r c = v (c + 2048 * t.val))
    (l : Fin 128) : ∀ n ≤ 49, Keeps v (BitVec.ofNat 32) (v (e 15)) (some e l.val fun j => e j < 2048 * n) (tcell V r n l) := by
  intro n
  induction n with
  | zero =>
    intro _
    refine Or.inl ⟨?_, ?_, ?_⟩
    · ext x
      rw [mem_some]
      simp
    · unfold tcell cell
      rw [tabs_zero]
      unfold k1_pay75
      simp only [pointwise]
      exact N.far
    · unfold tcell cell
      rw [tabs_zero]
      unfold k1_pay76
      simp only [pointwise]
      exact N.far
  | succ n ih =>
    intro hn
    have h := ih (by omega)
    have hN : n < cfg1.N := by rw [show cfg1.N = 49 from N_1]; omega
    have e1 : tcell V r (n + 1) l = enter (v (pick4 (blkX V ⟨n, hN⟩) (tqv V) r l.val + 2048 * n),
        BitVec.ofNat 32 (pick4 (blkX V ⟨n, hN⟩) (tqv V) r l.val + 2048 * n)) (tcell V r n l) := by
      unfold tcell
      rw [tabs_succ V ⟨n, hN⟩]
      unfold stepT
      refine (step_apply _ _ _ _ _ _ _ r l).trans ?_
      rw [hv _ _ (picks4 _ _ r l.val l.isLt).1]
      unfold num
      rw [coords_one ⟨n, hN⟩]
    obtain ⟨p1, p2, p3⟩ := picks4 (blkX V ⟨n, hN⟩) (tqv V) r l.val l.isLt
    rw [e1]
    refine keeps_tile N l.val n _ (by omega) p1 p2 ?_ _ h
    intro c hc hcl
    have := p3 c hc hcl
    rw [hv _ _ p1, hv _ _ hc] at this
    exact this

/-- What the final loop has after `k` trips. -/
def fd (s : Tabs Ideal) (k : ℕ) : Found Ideal := takeAt s.1.1 s.1.2 s.2.1 s.2.2 k

theorem taken_all (N : Near v e) (s : Tabs Ideal)
    (h0 : ∀ l : Fin 128, Keeps v (BitVec.ofNat 32) (v (e 15)) (some e l.val fun j => e j < 2048 * 49) (cell s.1.1 s.1.2 s.2.1 s.2.2 r l)) :
    ∀ k ≤ 16, (∀ j : Fin 16, j.val < k → (fd s k).1.1 (ix2 r j) = v (e j) ∧ (fd s k).1.2 (ix2 r j) = BitVec.ofNat 32 (e j))
      ∧ ∀ l : Fin 128, Keeps v (BitVec.ofNat 32) (v (e 15)) (some e l.val fun j => k ≤ j.val)
        (cell (fd s k).2.1.1 (fd s k).2.1.2 (fd s k).2.2 s.2.2 r l) := by
  intro k
  induction k with
  | zero =>
    intro _
    refine ⟨fun j h => absurd h (Nat.not_lt_zero _), fun l => ?_⟩
    have h := h0 l
    have hS : some e l.val (fun j => e j < 2048 * 49) = some e l.val fun j => 0 ≤ j.val := by
      ext x
      rw [mem_some, mem_some]
      exact exists_congr fun j => by simp [N.lt j]
    rw [hS] at h
    exact h
  | succ k ih =>
    intro hk
    obtain ⟨ih1, ih2⟩ := ih (by omega)
    have hkt : k < k1_t1_loop.trips := by rw [trips_eq]; omega
    have hs : fd s (k + 1) = takeOne s.2.2 ⟨k, hkt⟩ (fd s k) := by
      unfold fd
      rw [takeAt, dif_pos hkt]
    obtain ⟨j, hj⟩ : ∃ j : Fin 16, j.val = k := ⟨⟨k, by omega⟩, rfl⟩
    have hl0 : e j % 128 < 128 := Nat.mod_lt _ (by omega)
    have hmem : e j ∈ some e (e j % 128) fun i => k ≤ i.val := mem_some.mpr ⟨j, ⟨rfl, by omega⟩, rfl⟩
    have hleast : ∀ f ∈ some e (e j % 128) (fun i => k ≤ i.val), v (e j) ≤ v f := by
      intro f hf
      obtain ⟨i, ⟨_, hi⟩, rfl⟩ := mem_some.mp hf
      rcases eq_or_ne j i with h | h
      · rw [h]
      · exact le_of_lt (N.mono j i (lt_of_le_of_ne (by rw [Fin.le_def]; omega) h))
    have hfirst := keeps_first (ih2 ⟨e j % 128, hl0⟩) (e j) hmem hleast
    have h1 : (fd s k).2.1.1 (ix2 r ⟨e j % 128, hl0⟩) = v (e j) := congrArg Prod.fst hfirst
    have h2 : (fd s k).2.2 (ix2 r ⟨e j % 128, hl0⟩) = BitVec.ofNat 32 (e j) := congrArg Prod.snd hfirst
    have hL : Least (fd s k).2.1.1 r ⟨e j % 128, hl0⟩ := by
      intro l hl
      rw [h1]
      refine keeps_other (ih2 l) _ (N.le j) ?_
      intro f hf
      obtain ⟨i, ⟨hi, hi'⟩, rfl⟩ := mem_some.mp hf
      refine N.mono j i (lt_of_le_of_ne (by rw [Fin.le_def]; omega) ?_)
      rintro rfl
      exact hl (Fin.ext hi.symm)
    obtain ⟨t1, t2, t3⟩ := takeOne_apply s.2.2 ⟨k, hkt⟩ (fd s k) hL
    rw [hs]
    refine ⟨fun i hi => ?_, fun l => ?_⟩
    · rw [t1, t2, h1, h2]
      by_cases hik : i.val = k
      · rw [if_pos hik, if_pos hik, show i = j from Fin.ext (by omega)]
        exact ⟨rfl, rfl⟩
      · rw [if_neg hik, if_neg hik]
        exact ih1 i (by omega)
    · rw [t3]
      by_cases hl : l = ⟨e j % 128, hl0⟩
      · rw [if_pos hl, hl]
        have h := keeps_taken (ih2 ⟨e j % 128, hl0⟩) (e j) hmem hleast inf N.far
        have hS : some e (e j % 128) (fun i => k + 1 ≤ i.val) = (some e (e j % 128) fun i => k ≤ i.val).erase (e j) := by
          ext x
          rw [Finset.mem_erase, mem_some, mem_some]
          constructor
          · rintro ⟨i, ⟨hi, hi'⟩, rfl⟩
            refine ⟨fun h => ?_, i, ⟨hi, by omega⟩, rfl⟩
            have := N.inj i j h
            rw [this] at hi'
            omega
          · rintro ⟨hne, i, ⟨hi, hi'⟩, rfl⟩
            refine ⟨i, ⟨hi, ?_⟩, rfl⟩
            rcases Nat.lt_or_ge k i.val with h | h
            · exact h
            · exact absurd (congrArg e (show i = j from Fin.ext (by omega))) hne
        rw [hS]
        exact h
      · rw [if_neg hl]
        have hS : some e l.val (fun i => k + 1 ≤ i.val) = some e l.val fun i => k ≤ i.val := by
          ext x
          rw [mem_some, mem_some]
          constructor
          · rintro ⟨i, ⟨hi, hi'⟩, rfl⟩
            exact ⟨i, ⟨hi, by omega⟩, rfl⟩
          · rintro ⟨i, ⟨hi, hi'⟩, rfl⟩
            refine ⟨i, ⟨hi, ?_⟩, rfl⟩
            rcases Nat.lt_or_ge k i.val with h | h
            · exact h
            · have : i = j := Fin.ext (by omega)
              rw [this] at hi
              exact absurd (Fin.ext hi.symm) hl
        rw [hS]
        exact ih2 l

/-- What the search finds. -/
theorem found_apply (N : Near v e) (hv : ∀ (t : Fin cfg1.N) (c : ℕ), c < 2048 → vals (blkX V t) (tqv V) r c = v (c + 2048 * t.val)) (j : Fin 16) :
    (found V).1.1 (ix2 r j) = v (e j) ∧ (found V).1.2 (ix2 r j) = BitVec.ofNat 32 (e j) := by
  have h := (taken_all r N (tabs V 49) (fun l => keeps_tabs V r N hv l 49 le_rfl) 16 le_rfl).1 j j.isLt
  have e1 : found V = fd (tabs V 49) 16 := by unfold found fd; rw [trips_eq]
  rw [e1]
  exact h

end Cert.Proof.Nearest

end
-- ==== Proof.Launch.lean ====
/-
  The SparseCore call as the launch theorem sees it: what is handed to each core and to each task (`P`), each task's
  obligation (from `tile_body`), and the split of the five arrays into the thirty-two tasks' blocks and shares and back
  (`blocks_eq`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Tile
public import proofs.«01_k».proof.Proof.Gen.KernelIdeal.Launch

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

local notation "qV" => (Memref.whole Cert.KernelIdeal.main_arg1_scv : Memref Cert.KernelIdeal.sig Kind.scVector Space.hbm Cert.KernelIdeal.S1024 EltTy.i32)
local notation "iV" => (Memref.whole Cert.KernelIdeal.main_arg5_scv : Memref Cert.KernelIdeal.sig Kind.scVector Space.hbm Cert.KernelIdeal.S16384x16 EltTy.i32)
local notation "wV" => (Memref.whole Cert.KernelIdeal.main_arg6_scv : Memref Cert.KernelIdeal.sig Kind.scVector Space.hbm Cert.KernelIdeal.S16384x16 EltTy.f32)
local notation "oV" => (Memref.whole Cert.KernelIdeal.main_v0_0_scv : Memref Cert.KernelIdeal.sig Kind.scVector Space.hbm Cert.KernelIdeal.S1024x16 EltTy.i32)
local notation "pV" => (Memref.whole Cert.KernelIdeal.main_v0_1_scv : Memref Cert.KernelIdeal.sig Kind.scVector Space.hbm Cert.KernelIdeal.S1024x16 EltTy.f32)
local notation "lV" => (Memref.whole Cert.KernelIdeal.cc0_scratch0 : Memref Cert.KernelIdeal.sig Kind.scVector Space.vmem Cert.KernelIdeal.S32 EltTy.i32)
local notation "aV" => (Memref.whole Cert.KernelIdeal.cc0_scratch1 : Memref Cert.KernelIdeal.sig Kind.scVector Space.vmem Cert.KernelIdeal.S32x16 EltTy.i32)
local notation "bV" => (Memref.whole Cert.KernelIdeal.cc0_scratch2 : Memref Cert.KernelIdeal.sig Kind.scVector Space.vmem Cert.KernelIdeal.S32x16 EltTy.f32)

variable (m : (ℓ : Loc nD τ sig) → Buf (Elt F) ℓ) (ρ : Dev nD → PrngReg)
variable [FloatOps F]

/-! ## What the handshakes carry -/

/-- A core is handed its sixteen tasks' blocks and shares; each task its own. -/
def P : (K (F := F)).Pay (nD := nD) (Val := Elt F) (Name := ℕ) (U := UU) where
  st := fun q d => match q with | 0 => fun c => bigSep Finset.univ fun s : Fin 16 => before m d (wid c s)
  dn := fun q d => match q with | 0 => fun c => bigSep Finset.univ fun s : Fin 16 => after m d (wid c s)
  go := fun q d => match q with | 0 => fun c s => before m d (wid c s)
  td := fun q d => match q with | 0 => fun c s => after m d (wid c s)
  x := fun _ _ => iprop(emp)

instance P_storable : (P (F := F) m).IsStorable where
  st q d c := match q, c with
    | 0, c => (inferInstance : BI.Storable (upEmb : UEmb _ 𝕄) (bigSep Finset.univ fun s : Fin 16 => before m d (wid c s)))
  dn q d c := match q, c with
    | 0, c => (inferInstance : BI.Storable (upEmb : UEmb _ 𝕄) (bigSep Finset.univ fun s : Fin 16 => after m d (wid c s)))
  go q d c s := match q, c, s with
    | 0, c, s => (inferInstance : BI.Storable (upEmb : UEmb _ 𝕄) (before m d (wid c s)))
  td q d c s := match q, c, s with
    | 0, c, s => (inferInstance : BI.Storable (upEmb : UEmb _ 𝕄) (after m d (wid c s)))

theorem vecSplit : (K (F := F)).VecSplit' (P m) 0 := by
  intro d c
  show (bigSep Finset.univ fun s : Fin 16 => before m d (wid c s)) ⊢ |={Set.univ}=> iprop(
      (bigSep Finset.univ fun s : Fin 16 => before m d (wid c s))
      ∗ ((bigSep Finset.univ fun s : Fin 16 => after m d (wid c s)) -∗ bigSep Finset.univ fun s : Fin 16 => after m d (wid c s)))
  iintro H; imodintro
  isplitl [H]; · iexact H
  iintro H; iexact H

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) wV (Memref.isWhole_whole _) qV (Memref.isWhole_whole _)
          oV (Memref.isWhole_whole _) pV (Memref.isWhole_whole _)
          lV (Memref.isWhole_whole _) aV (Memref.isWhole_whole _) bV (Memref.isWhole_whole _)
          cc0_scratch3 cc0_scratch4 cc0_scoped0 cc0_scoped1 cc0_scoped2) ⟨⟩ c s := rfl

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body m d (coordsV ⟨_, hci.1⟩ ⟨_, hci.2⟩) facts hpre O W hO).trans (wp_mono frame _ _ fun _ => ?_)
  iintro ⟨HA, HB, HC, %W', %hW', HO⟩
  isplitl [HA]; · iapply (Entails.of_eq (show after m d (wL (coordsV ⟨_, hci.1⟩ ⟨_, hci.2⟩)) = (P m).td 0 d c i from rfl)); iexact HA
  isplitl [HB]; · iexact HB
  isplitl [HC]; · iexact HC
  iexists W'; isplitr
  · ipureintro; exact fun p hp => (hW' p hp).imp_right Or.inl
  · iexact HO

/-! ## The five arrays, block by block -/

omit [FloatOps F] in
theorem qSet_eq (w : Fin 32) : qSet w = (qRect w).set := by
  show ((View.whole (main_arg1_scv : Ref sig .scVector)).slice (qRect w)).set = _
  rw [View.set_slice]; exact Finset.map_refl
omit [FloatOps F] in
theorem oSet_eq (w : Fin 32) : oSet w = (oRect w).set := by
  show ((View.whole (main_v0_0_scv : Ref sig .scVector)).slice (oRect w)).set = _
  rw [View.set_slice]; exact Finset.map_refl
omit [FloatOps F] in
theorem pSet_eq (w : Fin 32) : pSet w = (oRect w).set := by
  show ((View.whole (main_v0_1_scv : Ref sig .scVector)).slice (oRect w)).set = _
  rw [View.set_slice]; exact Finset.map_refl

omit [FloatOps F] in
theorem q_blocks (d : Dev nD) (f : Buf (Elt F) (qLoc d)) :
    (qLoc d ↦{fullShare} f : sProp 𝕄) = bigSep Finset.univ fun w : Fin 32 => qLoc d ↦[qSet w]{fullShare} f := by
  rw [← pointsTo_biUnion Finset.univ (ℓ := qLoc d) qSet fun a _ b _ h => by rw [qSet_eq, qSet_eq]; exact Rect.part_disjoint qdiv h,
    (Finset.biUnion_congr rfl fun i _ => qSet_eq i).trans (Rect.biUnion_part qdiv)]
omit [FloatOps F] in
theorem o_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun a _ b _ h => by rw [oSet_eq, oSet_eq]; exact Rect.part_disjoint odiv h,
    (Finset.biUnion_congr rfl fun i _ => oSet_eq i).trans (Rect.biUnion_part odiv)]
omit [FloatOps F] in
theorem p_blocks (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet fun a _ b _ h => by rw [pSet_eq, pSet_eq]; exact Rect.part_disjoint odiv h,
    (Finset.biUnion_congr rfl fun i _ => pSet_eq i).trans (Rect.biUnion_part odiv)]

/-- Cores and subcores, as block numbers. -/
def widEquiv : Fin 2 × Fin 16 ≃ Fin 32 where
  toFun p := wid p.1 p.2
  invFun w := (⟨w.val % 2, by omega⟩, ⟨w.val / 2, by omega⟩)
  left_inv := fun ⟨c, s⟩ => by
    ext <;> simp only [wid] <;> omega
  right_inv := fun w => by
    ext; simp only [wid]; omega

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-- The five arrays whole are the thirty-two tasks' blocks and shares. -/
theorem blocks_eq (d : Dev nD) (fo : Buf (Elt F) (oLoc d)) (fp : Buf (Elt F) (pLoc d)) :
    (iprop((qLoc d ↦{fullShare} m (qLoc d)) ∗ (iLoc d ↦{fullShare} m (iLoc d)) ∗ (wLoc d ↦{fullShare} m (wLoc d))
        ∗ (oLoc d ↦{fullShare} fo) ∗ pLoc d ↦{fullShare} fp) : sProp 𝕄)
      = bigSep Finset.univ fun c : Fin 2 => bigSep Finset.univ fun s : Fin 16 =>
          iprop(qRowPts m d (wid c s) ∗ iShPts m d (wid c s) ∗ wShPts m d (wid c s) ∗ oRowPts d (wid c s) fo ∗ pRowPts d (wid c s) fp) := by
  rw [← bigSep_wid (fun w => iprop(qRowPts m d w ∗ iShPts m d w ∗ wShPts m d w ∗ oRowPts d w fo ∗ pRowPts d w fp)),
    bigSep_sep', bigSep_sep', bigSep_sep', bigSep_sep', q_blocks, o_blocks, p_blocks,
    pointsTo_piecesOf (ℓ := iLoc d) Finset.univ (m (iLoc d)) (by norm_num : 0 < 32) fullShare,
    pointsTo_piecesOf (ℓ := wLoc d) Finset.univ (m (wLoc d)) (by norm_num : 0 < 32) fullShare]

/-! ## The launch element of the ghost state -/

omit [FloatOps F] in
theorem bigSep_none {I : Type} (s : Finset I) : (bigSep s fun _ => iprop(emp)) = (iprop(emp) : sProp 𝕄) := bigSep_emp_const s

/-- The rounds of the TensorCore call's staging buffers, within the ghost state. -/
def EP : Emb UP 𝕄 :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The ghost state at the launch: the handshakes' rounds and the staging buffers'. -/
def u₀ : UU := (initOf (K (F := F)).hsCells (K (F := F)).hsToks,
  (initOf (Pipeline.cells cfgs cellOf_inj) (Pipeline.launchToks cfgs cellOf_inj), (1 : Counters)))

/-- What device `d`'s @main is handed of it: its TensorCore call's staging buffers, no round begun. -/
def G (d : Dev nD) : sProp 𝕄 :=
  iprop(Pipeline.cellsGhost cfgs EP 0 d ∗ Pipeline.toksInit cfgs EP 0 d)

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hsplit : (bigSep Finset.univ fun d : Dev nD => (G d : sProp 𝕄))
      = iprop((bigSep Finset.univ fun c : Dev nD => bigSep Finset.univ fun p => Pipeline.cellsGhost cfgs EP p c)
          ∗ (bigSep Finset.univ fun c : Dev nD => bigSep Finset.univ fun p => (Pipeline.toksInit cfgs EP p c : sProp 𝕄))) := by
    rw [← bigSep_sep']
    refine bigSep_congr fun d _ => ?_
    rw [bigSep_univ_of_subsingleton (0 : Fin 1), bigSep_univ_of_subsingleton (0 : Fin 1)]
    rfl
  unfold u₀
  iintro Hu
  ihave H := (ownU_pair (initOf (K (F := F)).hsCells (K (F := F)).hsToks) _) $$ Hu
  icases H with ⟨HH, HP⟩
  ihave HP' := (show (BI.own (embR (initOf (Pipeline.cells cfgs cellOf_inj) (Pipeline.launchToks cfgs cellOf_inj), (1 : Counters))) : sProp 𝕄)
      ⊢ BI.own (EP (initOf (Pipeline.cells cfgs cellOf_inj) (Pipeline.launchToks cfgs cellOf_inj))) from BIBase.Entails.of_eq rfl) $$ HP
  ihave HG := (Pipeline.fund_ghost cfgs EP cellOf_inj) $$ HP'
  imod HG
  imodintro
  isplitl [HH]; · iexact HH
  isplitl [HG]; · rw [hsplit]; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

end Cert.Proof.Gather

end
-- ==== Proof.Main.lean ====
/-
  The program's run: @main hands the five arrays to the SparseCore call and has them back, the two results at the
  gathered rows; host operations lay out the keys; the TensorCore call writes its two words; host operations make the
  three results of them. `run_main`: every buffer of the TensorCore ends at `endV`, and every counter at zero.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Launch
public import proofs.«01_k».proof.Proof.Region
public import Idealize.ShloMosaic.Lib.Pipeline.RegionsOwned

@[expose] public section

set_option maxRecDepth 16384

noncomputable section

namespace Cert.Proof.Gather

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's operations -/

/-- Between the two calls: the bias as a row, the keys rounded, padded and transposed. -/
abbrev opsA : List (HloOp τ sig (Elt F)) :=
  [ StableHlo.reshape main_arg3 main_v1 (rfl : (.f32 : EltTy) = .f32) shapeCasts_S64_S1x64,
    StableHlo.unary main_arg4 main_v2 (truncf .bf16 · bitsLt_bf16_f32),
    StableHlo.nullary main_cst (constant S_ .f32 0x447A0000#32),
    StableHlo.unary main_cst main_call0_v0 (truncf .bf16 · bitsLt_bf16_f32),
    StableHlo.binary main_v2 main_call0_v0 main_v3 (fun x v => pad S100352x64 ![0, 0] ![352, 0] ![0, 0] x v pads_S100000x64_S100352x64_03520_000 h_S_),
    StableHlo.unary main_v3 main_v4 (transpose S64x100352 [1, 0] · transposes_S100352x64_S64x100352_1_0) ]

/-- After the TensorCore call: the mean divergence, and the total. -/
abbrev opsB : List (HloOp τ sig (Elt F)) :=
  [ StableHlo.unary main_v5 main_v6 (extractStridedSlice S1x1 ![0, 0] · slices_S1x2_S1x1_0_0),
    StableHlo.reshape main_v6 main_v7 (rfl : (.f32 : EltTy) = .f32) shapeCasts_S1x1_S_,
    StableHlo.nullary main_cst_0 (constant S_ .f32 0x44800000#32),
    StableHlo.binary main_v7 main_cst_0 main_v8 Host.divf,
    StableHlo.unary main_v5 main_v9 (extractStridedSlice S1x1 ![0, 1] · slices_S1x2_S1x1_0_1),
    StableHlo.reshape main_v9 main_v10 (rfl : (.f32 : EltTy) = .f32) shapeCasts_S1x1_S_,
    StableHlo.nullary main_cst_1 (constant S_ .f32 0x3F800000#32),
    StableHlo.binary main_cst_1 main_v8 main_v11 mulf,
    StableHlo.nullary main_cst_2 (constant S_ .f32 0x38D1B717#32),
    StableHlo.binary main_cst_2 main_v10 main_v12 mulf,
    StableHlo.binary main_v11 main_v12 main_v13 addf,
    StableHlo.nullary main_cst_3 (constant S_ .f32 0x00000000#32) ]

/-- The TensorCore call, alone. -/
def tcCall : Prog (TpuEff nD τ sig (Elt F) (ΛP (F := F)) .tc) PUnit :=
  .op (.customCall (Pipeline.entry 0) ()) .ret

theorem main_eq (d : Dev nD) : main (F := F) d = (do
    (K (F := F)).run d 0
    StableHlo.seq opsA
    SparseCore.liftProg (tcCall (F := F))
    StableHlo.seq opsB
    pure ⟨⟩) := rfl

/-! ## What the buffers hold -/

/-- After the SparseCore call. -/
def scV (d : Dev nD) : Valuation τ sig (Elt F) :=
  Function.update (Function.update (StableHlo.launchContents m d) (main_v0_0 : DevRef τ sig) (oFin m d)) (main_v0_1 : DevRef τ sig) (pFin m d)

/-- When the TensorCore call is entered. -/
def tcV (d : Dev nD) : Valuation τ sig (Elt F) := StableHlo.after opsA (scV m d)

/-- At the end. -/
def endV (d : Dev nD) : Valuation τ sig (Elt F) := StableHlo.after opsB (Tc.outV (tcV m) d)

/-- The buffers the SparseCore call is handed. -/
def scRefs : Finset (Ref sig .tc) := {main_arg1, main_arg5, main_arg6, main_v0_0, main_v0_1}

omit m ρ [FloatOps F] in
theorem unscopedBufs_five (d : Dev nD) (W : (b : Ref sig .tc) → Buf (Elt F) ((d.tc : Thread nD τ).loc b)) :
    (unscopedBufs d W : sProp 𝕄)
      = iprop(((qLoc d ↦{fullShare} W main_arg1) ∗ (iLoc d ↦{fullShare} W main_arg5) ∗ (wLoc d ↦{fullShare} W main_arg6)
          ∗ (oLoc d ↦{fullShare} W main_v0_0) ∗ pLoc d ↦{fullShare} W main_v0_1) ∗ Pipeline.unscopedBufsBut scRefs d W) := by
  rw [Pipeline.unscopedBufs_sdiff scRefs (by decide) d W]
  unfold scRefs
  rw [SparseCore.bigSep_insert' (by decide), SparseCore.bigSep_insert' (by decide), SparseCore.bigSep_insert' (by decide), SparseCore.bigSep_insert' (by decide), bigSep_singleton]

theorem scV_ne (d : Dev nD) (b : Ref sig .tc) (h : b ∉ scRefs) : scV m d b = m ((d.tc : Thread nD τ).loc b) := by
  unfold scV
  have h0 : b ≠ main_v0_0 := fun e => h (e ▸ by decide)
  have h1 : b ≠ main_v0_1 := fun e => h (e ▸ by decide)
  rw [Function.update_of_ne (StableHlo.devRef_ne_of_ne h1), Function.update_of_ne (StableHlo.devRef_ne_of_ne h0)]
theorem scV_o (d : Dev nD) : scV m d (main_v0_0 : DevRef τ sig) = oFin m d := by
  unfold scV
  rw [Function.update_of_ne (StableHlo.devRef_ne_of_ne (by decide)), Function.update_self]
theorem scV_p (d : Dev nD) : scV m d (main_v0_1 : DevRef τ sig) = pFin m d := by
  unfold scV
  rw [Function.update_self]
theorem scV_args (d : Dev nD) : scV m d (main_arg1 : DevRef τ sig) = m (qLoc d) ∧ scV m d (main_arg5 : DevRef τ sig) = m (iLoc d)
    ∧ scV m d (main_arg6 : DevRef τ sig) = m (wLoc d) := by
  unfold scV
  refine ⟨?_, ?_, ?_⟩ <;>
    rw [Function.update_of_ne (StableHlo.devRef_ne_of_ne (by decide)), Function.update_of_ne (StableHlo.devRef_ne_of_ne (by decide))] <;> rfl

/-- The SparseCore call's buffers put back among the others. -/
theorem scV_held (d : Dev nD) :
    (StableHlo.held (d.tc : Thread nD τ) (Pipeline.ucRefs τ sig) (scV m d) : sProp 𝕄)
      = iprop(((qLoc d ↦{fullShare} m (qLoc d)) ∗ (iLoc d ↦{fullShare} m (iLoc d)) ∗ (wLoc d ↦{fullShare} m (wLoc d))
          ∗ (oLoc d ↦{fullShare} oFin m d) ∗ pLoc d ↦{fullShare} pFin m d)
          ∗ Pipeline.unscopedBufsBut scRefs d fun b => m ((d.tc : Thread nD τ).loc b)) := by
  obtain ⟨h1, h5, h6⟩ := scV_args m d
  rw [← Pipeline.unscopedBufs_held, unscopedBufs_five]
  rw [h1, h5, h6, scV_o, scV_p]
  unfold Pipeline.unscopedBufsBut
  refine congrArg _ (bigSep_congr fun b hb => ?_)
  show (((d.tc : Thread nD τ).loc b) ↦{fullShare} scV m d b : sProp 𝕄) = _
  rw [scV_ne m d b (Finset.mem_sdiff.mp hb).2]

/-- What @main holds at its end: every unscoped buffer, at `endV`. -/
abbrev FIN (d : Dev nD) : sProp 𝕄 := StableHlo.held (d.tc : Thread nD τ) (Pipeline.ucRefs τ sig) (endV m d)

theorem st_eq (d : Dev nD) : (bigSep Finset.univ fun c : Fin ((K (F := F)).nCore 0) => (P m).st 0 d c)
    = iprop((qLoc d ↦{fullShare} m (qLoc d)) ∗ (iLoc d ↦{fullShare} m (iLoc d)) ∗ (wLoc d ↦{fullShare} m (wLoc d))
        ∗ (oLoc d ↦{fullShare} m (oLoc d)) ∗ pLoc d ↦{fullShare} m (pLoc d)) :=
  (blocks_eq m d (m (oLoc d)) (m (pLoc d))).symm
theorem dn_eq (d : Dev nD) : (bigSep Finset.univ fun c : Fin ((K (F := F)).nCore 0) => (P m).dn 0 d c)
    = iprop((qLoc d ↦{fullShare} m (qLoc d)) ∗ (iLoc d ↦{fullShare} m (iLoc d)) ∗ (wLoc d ↦{fullShare} m (wLoc d))
        ∗ (oLoc d ↦{fullShare} oFin m d) ∗ pLoc d ↦{fullShare} pFin m d) :=
  (blocks_eq m d (oFin m d) (pFin m d)).symm

omit m ρ in
theorem opsA_sub : ∀ op ∈ (opsA : List (HloOp τ sig (Elt F))), op.bufs ⊆ Pipeline.ucRefs τ sig ∧ op.fresh = ∅ := by
  intro op h
  simp only [List.mem_cons, List.not_mem_nil, or_false] at h
  rcases h with rfl | rfl | rfl | rfl | rfl | rfl <;>
    refine ⟨Pipeline.sub_ucRefs _ ?_, rfl⟩ <;>
    first
      | exact StableHlo.reshape_bufs_sub .. | exact StableHlo.unary_bufs_sub .. | exact StableHlo.nullary_bufs_sub .. | exact StableHlo.binary_bufs_sub ..
omit m ρ in
theorem opsB_sub : ∀ op ∈ (opsB : List (HloOp τ sig (Elt F))), op.bufs ⊆ Pipeline.ucRefs τ sig ∧ op.fresh = ∅ := by
  intro op h
  simp only [List.mem_cons, List.not_mem_nil, or_false] at h
  rcases h with rfl | rfl | rfl | rfl | rfl | rfl | rfl | rfl | rfl | rfl | rfl | rfl <;>
    refine ⟨Pipeline.sub_ucRefs _ ?_, rfl⟩ <;>
    first
      | exact StableHlo.reshape_bufs_sub .. | exact StableHlo.unary_bufs_sub .. | exact StableHlo.nullary_bufs_sub .. | exact StableHlo.binary_bufs_sub ..

set_option backward.isDefEq.respectTransparency.types false in
/-- The TensorCore call, run from the boundary. -/
theorem tcCall_run [∀ e, Nonempty (Elt F e)] (d : Dev nD) :
    iprop(boundary (d.tc : Thread nD τ) ∗ (StableHlo.held (d.tc : Thread nD τ) (Pipeline.ucRefs τ sig) (tcV m d) ∗ Tc.idleSt d)
        ∗ levAts (K (F := F)).L (K (F := F)).lev ∗ G d)
      ⊢ wp frame (wpE (D (F := F)) 𝒱 (d.tc : Thread nD τ) none) Set.univ (tcCall (F := F))
          fun _ => iprop(boundary (d.tc : Thread nD τ) ∗ StableHlo.held (d.tc : Thread nD τ) (Pipeline.ucRefs τ sig) (Tc.outV (tcV m) d) ∗ Tc.idleSt d) := by
  unfold G tcCall
  iintro ⟨Hb, Hpre, #Hl, Hc, Ht⟩
  iapply (Pipeline.RegionSeg.wp (pcfgs (F := F)) Tc.adm (Tc.dats (tcV m)) none cellOf_inj EP defs₀ 𝒱₀ (K (F := F)).L (K (F := F)).lev
    (Tc.reg (tcV m)) d none (fun u hu => absurd hu (by simp)) .ret _) $$ [Hb Hpre Hc Ht]
  isplitr
  · iintro H
    rw [wp_ret]; imodintro
    iexact H
  isplitl [Hb]; · iexact Hb
  isplitl [Hpre]
  · rw [show (Tc.reg (tcV m)).pre d
      = iprop(StableHlo.held (d.tc : Thread nD τ) (Pipeline.ucRefs τ sig) (tcV m d) ∗ Tc.idleSt d) from rfl]
    iexact Hpre
  isplitr; · iexact Hl
  isplitl [Hc]; · iexact Hc
  iexact Ht

set_option backward.isDefEq.respectTransparency.types false in
/-- @main on the TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_five, main_eq]
  rw [wp_bind]
  iintro ⟨#Hctx, Hst, ⟨Hb, ⟨H5, Hrest⟩, Hts, -⟩, HG⟩
  iapply ((K (F := F)).wp_run (D (F := F)) 𝒱 (EH := EH) (P := P m) κ d 0) $$ [Hst Hrest H5 Hb Hts HG]
  isplitr; · iexact Hctx
  isplitl [Hst]; · iexact Hst
  isplitl [H5]
  · rw [st_eq]; iexact H5
  iintro ⟨Hst, Hdn⟩
  ihave Hdn' := (Entails.of_eq (dn_eq m d)) $$ Hdn
  ihave Hh := (Entails.of_eq (scV_held m d).symm) $$ [Hdn' Hrest]
  · isplitl [Hdn']; · iexact Hdn'
    iexact Hrest
  unfold SparseCore.Cfg.tcSt
  icases Hst with ⟨⟨%W, %hW, HO⟩, Hst⟩
  ihave HO := (Entails.of_eq (show (owes (SparseCore.T d) ((K (F := F)).Otc d ((0 : Fin 1).val + 1)) W : sProp 𝕄) = owes (SparseCore.T d) 0 W by
    rw [(K (F := F)).Otc_end d (show 1 ≤ (0 : Fin 1).val + 1 from le_refl 1)])) $$ HO
  iapply (StableHlo.wp_seq (defs := (K (F := F)).defs (D (F := F))) (𝒱 := 𝒱) (bd := none) (E := Set.univ) d (Pipeline.ucRefs τ sig) _ opsA (fun op h => (opsA_sub op h).1) (fun op h => (opsA_sub op h).2) (scV m d)) $$ [Hb Hh]
  · isplitl [Hb]; · iexact Hb
    iexact Hh
  iintro ⟨Hb, Hh⟩
  rw [wp_bind]
  iapply (wp_wand_r Idealize.ShloMosaic.frame (wpE ((K (F := F)).defs (D (F := F))) 𝒱 (SparseCore.T d) none) Set.univ)
  isplitl [Hb Hh HO HG]
  · iapply ((K (F := F)).wp_liftProg (D (F := F)) 𝒱 (SparseCore.T d) Set.univ none (tcCall (F := F)) _)
    iapply (tcCall_run m d) $$ [Hb Hh HO HG]
    isplitl [Hb]; · iexact Hb
    isplitl [Hh HO]
    · isplitl [Hh]; · iexact Hh
      iexists W
      isplitr; · ipureintro; exact hW
      iexact HO
    isplitr
    · iapply ((K (F := F)).ctx_levAts κ); iexact Hctx
    iexact HG
  iintro %_ ⟨Hb, Hh, %W', %hW', HO⟩
  iapply (StableHlo.wp_seq (defs := (K (F := F)).defs (D (F := F))) (𝒱 := 𝒱) (bd := none) (E := Set.univ) d (Pipeline.ucRefs τ sig) _ opsB (fun op h => (opsB_sub op h).1) (fun op h => (opsB_sub op h).2) (Tc.outV (tcV m) d)) $$ [Hb Hh]
  · isplitl [Hb]; · iexact Hb
    iexact Hh
  iintro ⟨Hb, Hh⟩
  rw [wp_pure]
  imodintro
  isplitl [HO Hst]
  · isplitl [HO]
    · iexists W'
      isplitr; · ipureintro; exact hW'
      rw [(K (F := F)).Otc_end d (le_refl 1)]
      iexact HO
    iexact Hst
  isplitl [Hh]; · iexact Hh
  isplitl [Hb] <;> iassumption

/-- What the run claims of device `d`'s final memory. -/
def fq (d : Dev nD) (s' : Phys nD τ sig (Elt F)) : Prop :=
  ∀ b ∈ Pipeline.ucRefs τ sig, s'.mem.mem (d, b) = endV m d b

theorem hfin (d : Dev nD) (s' : Phys nD τ sig (Elt F)) : iprop(FIN m d ∗ SI s') ⊢ (⌜fq m d s'⌝ : sProp 𝕄) := by
  unfold FIN StableHlo.held
  iintro H
  ihave H := (pointsTo_read_all (Pipeline.ucRefs τ sig) (fun b => (d, b)) (fun b => endV m d b) s') $$ H
  icases H with ⟨%h, -⟩
  ipureintro; exact h

def QC : PUnit × MemSt nD τ sig (Elt F) → Prop := fun r =>
  (∀ d : Dev nD, ∀ b ∈ Pipeline.ucRefs τ sig, r.2.mem (d, b) = endV m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-! ## The precondition -/

omit [FloatOps F] m ρ in
/-- A word that is non-negative and below 16384, signed, is below 16384. -/
theorem word_lt (v : BitVec 32) (e : IntOp.andi (IntOp.cmpi .sge v 0#32) (IntOp.cmpi .slt v 16384#32) = 1#1) : v.toNat < 16384 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

end Cert.Proof.Gather

end
-- ==== Proof.Blocks.lean ====
/-
  What the TensorCore call is handed, read at the extended reals in the arguments: the queries, weights and gathered rows
  whole, and the block of columns with the keys past the last one padded (`blkX_apply`).
-/
module

public import proofs.«01_k».proof.Proof.Main
public import proofs.«01_k».proof.Proof.RefVal
public import Idealize.ShloMosaic.Lib.Pointwise
public import Idealize.ShloMosaic.Lib.Pipeline.ValueKit

@[expose] public section

noncomputable section

namespace Cert.Proof.Blocks

open Idealize.ShloMosaic Idealize.ShloMosaic.TcCoe Cert.KernelIdeal Cert.KernelIdeal.Gen Cert.Proof.Tc Cert.Proof.Gather

section Whole
variable {F : FTy → Type} [FloatOps F] (V : Valuation τ sig (Elt F))

theorem blkQ_eq : blkQ V p0 = V main_arg0 :=
  Memref.read_access_unit_zero (Elt F) main_arg0
    (show (fun a => (win1_0.index p0) a * main_arg0.ty.shape.size a) = fun _ => 0 from
      funext fun a => by fin_cases a <;> decide) (fun a => by fin_cases a <;> decide) _
theorem blkW_eq : blkW V p0 = V main_arg2 :=
  Memref.read_access_unit_zero (Elt F) main_arg2
    (show (fun a => (win1_1.index p0) a * main_arg2.ty.shape.size a) = fun _ => 0 from
      funext fun a => by fin_cases a <;> decide) (fun a => by fin_cases a <;> decide) _
theorem blkB_eq : blkB V p0 = V main_v1 :=
  Memref.read_access_unit_zero (Elt F) main_v1
    (show (fun a => (win1_2.index p0) a * main_v1.ty.shape.size a) = fun _ => 0 from
      funext fun a => by fin_cases a <;> decide) (fun a => by fin_cases a <;> decide) _
theorem blkI_eq : blkI V p48 = V main_v0_0 :=
  Memref.read_access_unit_zero (Elt F) main_v0_0
    (show (fun a => (win1_4.index p48) a * main_v0_0.ty.shape.size a) = fun _ => 0 from
      funext fun a => by fin_cases a <;> decide) (fun a => by fin_cases a <;> decide) _
theorem blkP_eq : blkP V p48 = V main_v0_1 :=
  Memref.read_access_unit_zero (Elt F) main_v0_1
    (show (fun a => (win1_5.index p48) a * main_v0_1.ty.shape.size a) = fun _ => 0 from
      funext fun a => by fin_cases a <;> decide) (fun a => by fin_cases a <;> decide) _

theorem index3 : ∀ t : Fin cfg1.N, win1_3.index t = ![0, t.val] := by decide

theorem blkX_read (t : Fin cfg1.N) (k : Fin 64) (c : Fin 2048) (h : c.val + 2048 * t.val < 100352) :
    blkX V t (ix2 k c) = (V main_v4 : S64x100352.Idx → F .bf16) (ix2 k ⟨c.val + 2048 * t.val, h⟩) := by
  unfold blkX
  blk_simp
  refine congrArg (V main_v4 : S64x100352.Idx → F .bf16) ?_
  funext a
  refine Fin.ext ?_
  have e := index3 t
  match a with
  | 0 => blk_simp [index3]
  | 1 => blk_simp [index3]; show t.val * 2048 + c.val = _; simp; omega
end Whole

section Args
variable {F : FTy → Type} [FloatOps F] (m : (ℓ : Loc nD τ sig) → Buf (Elt F) ℓ) (d : Dev nD)

theorem tcV_arg0 : tcV m d main_arg0 = m ((d.tc : Thread nD τ).loc main_arg0) := by
  refine Eq.trans ?_ (scV_ne m d main_arg0 (by decide))
  unfold tcV opsA; after_results
theorem tcV_arg2 : tcV m d main_arg2 = m ((d.tc : Thread nD τ).loc main_arg2) := by
  refine Eq.trans ?_ (scV_ne m d main_arg2 (by decide))
  unfold tcV opsA; after_results
theorem tcV_idx : tcV m d main_v0_0 = oFin m d := by
  refine Eq.trans ?_ (scV_o m d)
  unfold tcV opsA; after_results
theorem tcV_pw : tcV m d main_v0_1 = pFin m d := by
  refine Eq.trans ?_ (scV_p m d)
  unfold tcV opsA; after_results
theorem tcV_bias : tcV m d main_v1 = shapeCast S1x64 (m ((d.tc : Thread nD τ).loc main_arg3) : FVec F S64 .f32) shapeCasts_S64_S1x64 := by
  rw [← scV_ne m d main_arg3 (by decide)]
  unfold tcV opsA; after_results
  rfl
theorem tcV_keys : tcV m d main_v4 = transpose S64x100352 [1, 0]
      (pad S100352x64 ![0, 0] ![352, 0] ![0, 0] (truncf .bf16 (m ((d.tc : Thread nD τ).loc main_arg4) : FVec F S100000x64 .f32) bitsLt_bf16_f32)
        (truncf .bf16 (constant S_ .f32 0x447A0000#32) bitsLt_bf16_f32) pads_S100000x64_S100352x64_03520_000 h_S_)
      transposes_S100352x64_S64x100352_1_0 := by
  rw [← scV_ne m d main_arg4 (by decide)]
  unfold tcV opsA; after_results
end Args

/-- A block's column is a key, or past the last one every coordinate is one thousand. -/
theorem blkX_apply (m : (ℓ : Loc nD τ sig) → Buf (Elt Ideal) ℓ) (d : Dev nD) (t : Fin cfg1.N) (k : Fin 64) (c : Fin 2048) :
    blkX (tcV m d) t (ix2 k c) = if h : c.val + 2048 * t.val < 100000
      then (m ((d.tc : Thread nD τ).loc main_arg4) : FVec Ideal S100000x64 .f32) (ix2 ⟨c.val + 2048 * t.val, h⟩ k)
      else Ideal.ofBits .f32 0x447A0000#32 := by
  have hN : t.val < 49 := lt_of_lt_of_eq t.isLt N_1
  rw [blkX_read _ _ _ _ (by omega), tcV_keys]
  simp only [pointwise]
  by_cases h : c.val + 2048 * t.val < 100000
  · rw [dif_pos h]
    refine (dif_pos ?_).trans ?_
    · refine Fin.forall_fin_two.mpr ⟨⟨Nat.zero_le _, Nat.mod_one _, ?_⟩, ⟨Nat.zero_le _, Nat.mod_one _, ?_⟩⟩
      · show (c.val + 2048 * t.val - 0) / (0 + 1) < 100000
        omega
      · show (k.val - 0) / (0 + 1) < 64
        omega
    · refine congrArg (m ((d.tc : Thread nD τ).loc main_arg4) : FVec Ideal S100000x64 .f32) (congrArg₂ ix2 (Fin.ext ?_) (Fin.ext ?_))
      · show (c.val + 2048 * t.val - 0) / (0 + 1) = c.val + 2048 * t.val
        omega
      · show (k.val - 0) / (0 + 1) = k.val
        omega
  · rw [dif_neg h]
    refine dif_neg fun hin => h ?_
    have h0 := ((Fin.forall_fin_two.mp hin).1).2.2
    have h0' : (c.val + 2048 * t.val - 0) / (0 + 1) < 100000 := h0
    omega

/-- The mapped queries are the reference's. -/
theorem tqv_apply (m : (ℓ : Loc nD τ sig) → Buf (Elt Ideal) ℓ) (d : Dev nD) (r : Fin 1024) (k : Fin 64) :
    tqv (tcV m d) (ix2 r k)
      = Ref.mapped (m ((d.tc : Thread nD τ).loc main_arg0)) (m ((d.tc : Thread nD τ).loc main_arg2)) (m ((d.tc : Thread nD τ).loc main_arg3)) (ix2 r k) := by
  refine Eq.trans ?_ (Ref.mapped_apply _ _ _ r k).symm
  unfold tqv
  rw [blkQ_eq, blkW_eq, blkB_eq, tcV_arg0, tcV_arg2, tcV_bias]
  unfold k1_pay74
  simp only [pointwise, Nat.reduceEqDiff, OfNat.ofNat_ne_one, ↓reduceDIte, zero_add]
  done

end Cert.Proof.Blocks

end
-- ==== Proof.Scores.lean ====
/-
  The kernel's scores and the reference's distances: of finite data they differ by the query's own square, so the sixteen
  nearest keys of the one are those of the other (`near`), and a score with the square added is the squared distance (`dist_eq`).
-/
module

public import proofs.«01_k».proof.Proof.PreRead
public import proofs.«01_k».proof.Proof.Nearest
public import proofs.«01_k».proof.Proof.Blocks
public import proofs.«01_k».proof.Proof.RefGather

@[expose] public section

noncomputable section

namespace Cert.Proof.Scores

open Idealize.ShloMosaic Cert.KernelIdeal Cert.Proof Cert.Proof.Nearest

/-- The score of a key at coordinates `x`. -/
def sc (T x : Fin 64 → EReal) : EReal := ∑ k, x k * x k - Ideal.ofBits .f32 0x40000000#32 * ∑ k, T k * x k
/-- The same of real coordinates, the square of a vector, and the squared distance. -/
def scR (t x : Fin 64 → ℝ) : ℝ := ∑ k, x k * x k - 2 * ∑ k, t k * x k
def sqR (t : Fin 64 → ℝ) : ℝ := ∑ k, t k * t k
def dR (t x : Fin 64 → ℝ) : ℝ := ∑ k, (t k - x k) * (t k - x k)

theorem two_eq : Ideal.ofBits .f32 0x40000000#32 = ((2 : ℝ) : EReal) := by
  simp [Ideal.ofBits, Ideal.ieee, -EReal.coe_mul]
  norm_num
theorem thousand : ∃ v : ℝ, Ideal.ofBits .f32 0x447A0000#32 = v := by
  refine ⟨1000, ?_⟩
  simp [Ideal.ofBits, Ideal.ieee, -EReal.coe_mul]
  norm_num

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem dR_eq (t x : Fin 64 → ℝ) : dR t x = sqR t + scR t x := by
  unfold dR sqR scR
  rw [Finset.mul_sum, ← Finset.sum_sub_distrib, ← Finset.sum_add_distrib]
  exact Finset.sum_congr rfl fun k _ => by ring

theorem sqR_nonneg (t : Fin 64 → ℝ) : 0 ≤ sqR t := Finset.sum_nonneg fun k _ => mul_self_nonneg _

/-- The square of a vector with an infinite coordinate is infinite. -/
theorem sq_top {T : Fin 64 → EReal} {k : Fin 64} (h : T k = ⊤ ∨ T k = ⊥) : ∑ k, T k * T k = ⊤ := by
  have h0 : ∀ x : EReal, 0 ≤ x * x := by
    intro x
    induction x using EReal.rec with
    | bot => simp
    | coe v => rw [← EReal.coe_mul]; exact EReal.coe_nonneg.2 (mul_self_nonneg v)
    | top => simp
  have h1 : T k * T k ≤ ∑ k, T k * T k := Finset.single_le_sum (f := fun k => T k * T k) (fun c _ => h0 _) (Finset.mem_univ k)
  have h2 : T k * T k = ⊤ := by
    rcases h with e | e <;> rw [e] <;> simp
  rw [h2] at h1
  exact top_le_iff.1 h1

/-- Anything taken from and added to infinity is infinite. -/
theorem ends (s x : EReal) : ⊤ - s + x = ⊤ ∨ ⊤ - s + x = ⊥ := by
  have h : (⊤ : EReal) - s = ⊤ ∨ (⊤ : EReal) - s = ⊥ := by
    induction s using EReal.rec with
    | bot => exact Or.inl rfl
    | coe v => exact Or.inl (EReal.top_sub_coe v)
    | top => exact Or.inr rfl
  rcases h with e | e
  · rw [e]
    induction x using EReal.rec with
    | bot => exact Or.inr rfl
    | coe v => exact Or.inl (EReal.top_add_coe v)
    | top => exact Or.inl rfl
  · rw [e]
    exact Or.inr (EReal.bot_add x)

variable {T x : Fin 64 → EReal} {t y : Fin 64 → ℝ} (hT : ∀ k, T k = t k) (hx : ∀ k, x k = y k)
include hx in
include hT in
theorem sc_coe : sc T x = scR t y := by
  unfold sc scR
  simp only [hT, hx, two_eq, ← EReal.coe_mul, coe_sum, ← EReal.coe_sub]
include hT in
theorem sq_coe : ∑ k, T k * T k = (sqR t : EReal) := by
  unfold sqR
  simp only [hT, ← EReal.coe_mul, coe_sum]
include hx in
include hT in
theorem d_coe : ∑ k, (T k - x k) * (T k - x k) = (dR t y : EReal) := by
  unfold dR
  simp only [hT, hx, ← EReal.coe_mul, ← EReal.coe_sub, coe_sum]
include hx in
include hT in
/-- A score with the query's square added is the squared distance. -/
theorem dist_eq : sc T x + ∑ k, T k * T k = ∑ k, (T k - x k) * (T k - x k) := by
  rw [sc_coe hT hx, sq_coe hT, d_coe hT hx, dR_eq, ← EReal.coe_add, add_comm]
include hx in
include hT in
theorem neg_coe : -(∑ k, T k * T k - ∑ k, Ideal.ofBits .f32 0x40000000#32 * T k * x k + ∑ k, x k * x k) = ((-dR t y : ℝ) : EReal) := by
  simp only [hT, hx, two_eq, ← EReal.coe_mul, coe_sum, ← EReal.coe_sub, ← EReal.coe_add, ← EReal.coe_neg]
  congr 2
  unfold dR
  rw [← Finset.sum_sub_distrib, ← Finset.sum_add_distrib]
  exact Finset.sum_congr rfl fun k _ => by ring

section Row
variable (q : FVec Ideal S1024x64 .f32) (qi : IVec S1024 32) (W : FVec Ideal S64x64 .f32) (b : FVec Ideal S64 .f32) (X : FVec Ideal S100000x64 .f32)
variable (r : Fin 1024)

/-- The coordinates of a padded key. -/
def crd (n : ℕ) (k : Fin 64) : EReal := if h : n < 100000 then X (ix2 ⟨n, h⟩ k) else Ideal.ofBits .f32 0x447A0000#32
/-- The score of a padded key. -/
def v (n : ℕ) : EReal := sc (fun k => Ref.mapped q W b (ix2 r k)) (crd X n)
/-- The nearest keys' numbers, the keys being `ky` in their order. -/
def e (ky : Fin 100000 → Fin 100000) (j : Fin 16) : ℕ := (ky (Fin.castLE (by omega) j)).val

theorem e_of (ky : Fin 100000 → Fin 100000) (j : Fin 16) (c : Fin 100000) (h : c.val = j.val) : e ky j = (ky c).val := by
  unfold e
  rw [show c = Fin.castLE (by omega) j from Fin.ext h]

theorem crd_key (n : Fin 100000) (k : Fin 64) : crd X n.val k = X (ix2 n k) := by
  unfold crd
  rw [dif_pos n.isLt]

variable {q qi W b X r} (R : Pre.Row q qi W b X r) {ky : Fin 100000 → Fin 100000} (hky : Pre.key q W b X r = ky)
include R

/-- A mapped query is finite: with an infinite coordinate every distance is infinite, and no three are apart. -/
theorem finT : ∃ t : Fin 64 → ℝ, ∀ k, Ref.mapped q W b (ix2 r k) = t k := by
  have hT : ∀ k, ∃ v : ℝ, Ref.mapped q W b (ix2 r k) = v := by
    intro k
    by_contra hn
    have hk : Ref.mapped q W b (ix2 r k) = ⊤ ∨ Ref.mapped q W b (ix2 r k) = ⊥ := by
      revert hn
      generalize Ref.mapped q W b (ix2 r k) = z
      intro hn
      induction z using EReal.rec with
      | bot => exact Or.inr rfl
      | coe v => exact absurd ⟨v, rfl⟩ hn
      | top => exact Or.inl rfl
    have hq := sq_top (T := fun k => Ref.mapped q W b (ix2 r k)) hk
    have h1 := R.apart 0 1 (by decide) (by decide)
    have h2 := R.apart 1 2 (by decide) (by decide)
    generalize Pre.key q W b X r 0 = n0 at h1
    generalize Pre.key q W b X r 1 = n1 at h1 h2
    generalize Pre.key q W b X r 2 = n2 at h2
    rw [Ref.negDist_apply (Ref.mapped q W b) X r n1, hq] at h1 h2
    rcases ends (∑ k, Ideal.ofBits .f32 0x40000000#32 * Ref.mapped q W b (ix2 r k) * X (ix2 n1 k)) (∑ k, X (ix2 n1 k) * X (ix2 n1 k)) with e | e
    · rw [e, EReal.neg_top] at h2
      exact not_lt_bot h2
    · rw [e, EReal.neg_bot] at h1
      exact not_top_lt h1
  choose t ht using hT
  exact ⟨t, ht⟩

theorem finC (n : ℕ) : ∃ y : Fin 64 → ℝ, ∀ k, crd X n k = y k := by
  by_cases h : n < 100000
  · choose y hy using R.finX ⟨n, h⟩
    exact ⟨y, fun k => by unfold crd; rw [dif_pos h, hy]⟩
  · obtain ⟨w, hw⟩ := thousand
    exact ⟨fun _ => w, fun k => by unfold crd; rw [dif_neg h, hw]⟩

include hky in
theorem near : Near (v q W b X r) (e ky) := by
  obtain ⟨-, -, Rapart, Rnear, Rfar, Rlanes, Rtiles⟩ := id R
  have Rmono : ∀ a b' : Fin 100000, a < b' → Ref.negDist (Ref.mapped q W b) X (ix2 r (Pre.key q W b X r b')) ≤ Ref.negDist (Ref.mapped q W b) X (ix2 r (Pre.key q W b X r a)) :=
    Topk.order_mono (Ref.negDist (Ref.mapped q W b) X) r
  have Rsurj : Function.Surjective (Pre.key q W b X r) := Topk.order_surjective (Ref.negDist (Ref.mapped q W b) X) r
  rw [hky] at Rapart Rnear Rfar Rlanes Rtiles Rmono Rsurj
  obtain ⟨t, ht⟩ := finT R
  choose y hy using finC R
  have hv : ∀ n, v q W b X r n = scR t (y n) := fun n => sc_coe ht (hy n)
  have hd : ∀ n : Fin 100000, Ref.negDist (Ref.mapped q W b) X (ix2 r n) = ((-dR t (y n.val) : ℝ) : EReal) := by
    intro n
    rw [Ref.negDist_apply]
    refine neg_coe ht (x := fun k => X (ix2 n k)) fun k => ?_
    rw [← hy n.val k, crd_key]
  have hlt : ∀ n n', dR t (y n) < dR t (y n') → v q W b X r n < v q W b X r n' := by
    intro n n' h
    rw [hv, hv, EReal.coe_lt_coe_iff]
    rw [dR_eq, dR_eq] at h
    linarith
  -- the order of the keys, in reals
  have hm : ∀ a b' : Fin 100000, a < b' → dR t (y (ky a).val) ≤ dR t (y (ky b').val) := by
    intro a b' h
    have h2 := Rmono a b' h
    rw [hd, hd, EReal.coe_le_coe_iff] at h2
    linarith
  have hs : ∀ a b' : Fin 100000, a.val < 16 → a < b' → dR t (y (ky a).val) < dR t (y (ky b').val) := by
    intro a b' h16 h
    obtain ⟨c, hc⟩ : ∃ c : Fin 100000, c.val = a.val + 1 := ⟨⟨a.val + 1, by omega⟩, rfl⟩
    have h1 := Rapart a c h16 hc
    rw [hd, hd, EReal.coe_lt_coe_iff] at h1
    have h2 : dR t (y (ky c).val) ≤ dR t (y (ky b').val) := by
      rcases eq_or_ne c b' with e | e
      · rw [e]
      · exact hm c b' (lt_of_le_of_ne (by rw [Fin.le_def]; rw [Fin.lt_def] at h; omega) e)
    linarith
  have e15 : e ky 15 = (ky 15).val := e_of ky 15 15 (by decide)
  refine ⟨fun j => ?_, fun j k h => ?_, fun n hn hne => ?_, ?_, ?_, ?_⟩
  · unfold e
    exact lt_trans (Fin.isLt _) (by omega)
  · refine hlt _ _ (hs _ _ ?_ ?_)
    · exact j.isLt
    · exact h
  · rw [e15]
    by_cases h : n < 100000
    · obtain ⟨c, hc⟩ := Rsurj ⟨n, h⟩
      have hcv : n = (ky c).val := by rw [hc]
      have h16 : 16 ≤ c.val := by
        by_contra hlt'
        exact hne ⟨c.val, by omega⟩ (hcv.trans (e_of ky ⟨c.val, by omega⟩ c rfl).symm)
      rw [hcv]
      exact hlt _ _ (hs 15 c (by decide) (by rw [Fin.lt_def]; exact h16))
    · have hn := Rnear
      rw [hd] at hn
      have hp : ∀ k, crd X n k = Ideal.ofBits .f32 0x447A0000#32 := fun k => by unfold crd; rw [dif_neg h]
      have e1 : ∑ k, (Ref.mapped q W b (ix2 r k) - Ideal.ofBits .f32 0x447A0000#32) * (Ref.mapped q W b (ix2 r k) - Ideal.ofBits .f32 0x447A0000#32)
          = (dR t (y n) : EReal) := by
        rw [← d_coe ht (hy n)]
        exact Finset.sum_congr rfl fun k _ => by rw [hp]
      rw [e1, ← EReal.coe_neg, EReal.coe_lt_coe_iff, neg_neg] at hn
      exact hlt _ _ hn
  · have hf := Rfar
    rw [hd, ← EReal.coe_neg, neg_neg] at hf
    refine lt_of_le_of_lt ?_ hf
    rw [hv, EReal.coe_le_coe_iff, e15, dR_eq]
    linarith [sqR_nonneg t]
  · intro j
    exact Rlanes j
  · intro j k h1 h2
    have h := Finset.card_le_one.mp (Rtiles j)
    exact h j (by simp) k (by simpa [e] using ⟨h1, h2⟩)

/-- The kernel's score of a nearest key, its square added, is the reference's squared distance. -/
theorem l2_eq (j : Fin 16) : v q W b X r (e ky j) + ∑ k, Ref.mapped q W b (ix2 r k) * Ref.mapped q W b (ix2 r k)
    = ∑ k, (Ref.mapped q W b (ix2 r k) - X (ix2 (ky (Fin.castLE (by omega) j)) k))
      * (Ref.mapped q W b (ix2 r k) - X (ix2 (ky (Fin.castLE (by omega) j)) k)) := by
  obtain ⟨t, ht⟩ := finT R
  choose y hy using finC R
  refine (dist_eq ht (hy _)).trans (Finset.sum_congr rfl fun k _ => ?_)
  unfold e
  rw [crd_key]

end Row

open Idealize.ShloMosaic.TcCoe Cert.KernelIdeal.Gen Cert.Proof.Tc Cert.Proof.Gather Cert.Proof.Blocks

/-- A block's scores are the padded keys' scores. -/
theorem vals_eq (m : (ℓ : Loc nD τ sig) → Buf (Elt Ideal) ℓ) (d : Dev nD) (r : Fin 1024) (t : Fin cfg1.N) (c : ℕ) (hc : c < 2048) :
    Tour.vals (blkX (tcV m d) t) (tqv (tcV m d)) r c
      = v (m ((d.tc : Thread nD τ).loc main_arg0)) (m ((d.tc : Thread nD τ).loc main_arg2)) (m ((d.tc : Thread nD τ).loc main_arg3))
        (m ((d.tc : Thread nD τ).loc main_arg4)) r (c + 2048 * t.val) := by
  unfold Tour.vals
  rw [dif_pos hc]
  unfold Tour.score v sc
  have hx : ∀ k : Fin 64, blkX (tcV m d) t (ix2 k ⟨c, hc⟩) = crd (m ((d.tc : Thread nD τ).loc main_arg4)) (c + 2048 * t.val) k := fun k => blkX_apply m d t k ⟨c, hc⟩
  simp only [hx, tqv_apply]

end Cert.Proof.Scores

end
-- ==== Proof.KerEnd.lean ====
/-
  The kernel's last point, read at the extended reals: the word it adds is the sum over the queries of `Spec.kl`
  (`endWord_apply`).
-/
module

public import proofs.«01_k».proof.Proof.Spec
public import proofs.«01_k».proof.Proof.TcBody

@[expose] public section

noncomputable section

namespace Cert.Proof.KerEnd

open Idealize.ShloMosaic Cert.KernelIdeal Cert.KernelIdeal.Gen Cert.Proof.Tc

/-- A written column, and beside it what there was. -/
theorem put_col {α : Type} (X : S1024x16.Idx → α) (J : ℕ) (w : S1024x1.Idx → α) (r : Fin 1024) (j : Fin 16) :
    VecWindow.put X ![0, J] S1024x1.size w (ix2 r j) = if j.val = J then w (ix2 r 0) else X (ix2 r j) := by
  unfold VecWindow.put
  by_cases h : j.val = J
  · rw [if_pos h, dif_pos]
    · congr 1
      funext a
      fin_cases a
      · exact Fin.ext (Nat.sub_zero _)
      · exact Fin.ext (by show j.val - J = 0; omega)
    · intro a
      fin_cases a
      · exact ⟨Nat.zero_le _, by show r.val < 0 + 1024; omega⟩
      · exact ⟨by show J ≤ j.val; omega, by show j.val < J + 1; omega⟩
  · rw [if_neg h, dif_neg]
    intro hh
    have h1 : J ≤ j.val ∧ j.val < J + 1 := hh 1
    omega

theorem sel_eq {α : Type} {n : ℕ} (x y : BitVec n) (a b : α) : Scalar.select (IntOp.cmpi .eq x y) a b = if x = y then a else b := by
  by_cases h : x = y
  · rw [if_pos h]; subst h; simp [IntOp.cmpi, Scalar.select]
  · have hb : (x == y) = false := by simp [h]
    rw [if_neg h]; simp [IntOp.cmpi, Scalar.select, hb]

/-- Whether a row of ones and zeros has a one, through its maximum. -/
theorem mark (p : Fin 16 → Prop) [DecidablePred p] :
    (if (0 : EReal) < (Finset.univ : Finset (Fin 16)).fold max (Ideal.ofBits .f32 0xFF800000#32) (fun k => if p k then (1 : EReal) else 0) then (1 : EReal) else 0)
      = if ∃ k, p k then 1 else 0 := by
  congr 1
  rw [show Ideal.ofBits .f32 0xFF800000#32 = (⊥ : EReal) from Spec.low_eq, Finset.lt_fold_max]
  apply propext
  constructor
  · rintro (h | ⟨k, _, h⟩)
    · exact absurd h (by simp)
    · by_contra hn
      rw [if_neg (fun hp => hn ⟨k, hp⟩)] at h
      exact lt_irrefl _ h
  · rintro ⟨k, h⟩
    exact Or.inr ⟨k, Finset.mem_univ _, by rw [if_pos h]; exact zero_lt_one⟩

variable (V : FVec Ideal S1024x16 .f32) (PI TI : IVec S1024x16 32) (r : Fin 1024) (j : Fin 16)

/-- The table of marks: a found neighbour is marked when it is an earlier one. -/
theorem td_apply : tdOf (F := Ideal) PI TI (ix2 r j) = if ∃ k, PI (ix2 r k) = TI (ix2 r j) then 1 else 0 := by
  unfold tdOf
  repeat rw [put_col]
  fin_cases j <;> simp only [Fin.zero_eta, Fin.mk_one, Fin.reduceFinMk, Fin.isValue, Fin.coe_ofNat_eq_mod, Nat.reduceMod, Nat.zero_mod, Nat.one_mod, Nat.reduceEqDiff, OfNat.ofNat_ne_zero, OfNat.zero_ne_ofNat, OfNat.ofNat_ne_one, OfNat.one_ne_ofNat, zero_ne_one, one_ne_zero, ↓reduceIte]
  all_goals simp only [
    k1_pay20, k1_pay19, k1_pay25, k1_pay21, k1_pay23, k1_pay24, k1_pay27, k1_pay26, k1_pay30, k1_pay28, k1_pay33, k1_pay31, k1_pay36, k1_pay34, k1_pay39, k1_pay37,
    k1_pay43, k1_pay42, k1_pay40, k1_pay47, k1_pay46, k1_pay44, k1_pay49, k1_pay48, k1_pay53, k1_pay52, k1_pay50, k1_pay55, k1_pay54, k1_pay59, k1_pay58, k1_pay56, k1_pay61, k1_pay60,
    k1_pay65, k1_pay64, k1_pay62, k1_pay67, k1_pay66,
    pointwise, Nat.reduceEqDiff, OfNat.ofNat_ne_one, ↓reduceDIte, zero_add, Matrix.cons_val_zero, Matrix.cons_val_one, Matrix.cons_val_fin_one, Fin.eta, sel_eq, mark]

/-- What each earlier neighbour has of the new probabilities. -/
theorem qon_apply : k1_pay70 (F := Ideal) V PI TI (qonOf (F := Ideal) V PI TI) (ix2 r j) = max (∑ k, if PI (ix2 r j) = TI (ix2 r k) then V (ix2 r k) else 0) Spec.eps := by
  unfold k1_pay70 qonOf
  simp only [k1_pay22, k1_pay29, k1_pay32, k1_pay38, k1_pay45, k1_pay51, k1_pay57, k1_pay63, k1_pay35, k1_pay41,
    k1_pay20, k1_pay19, k1_pay25, k1_pay21, k1_pay23, k1_pay24, k1_pay27, k1_pay26, k1_pay30, k1_pay28, k1_pay33, k1_pay31, k1_pay36, k1_pay34, k1_pay39, k1_pay37,
    k1_pay43, k1_pay42, k1_pay40, k1_pay47, k1_pay46, k1_pay44, k1_pay49, k1_pay48, k1_pay53, k1_pay52, k1_pay50, k1_pay55, k1_pay54, k1_pay59, k1_pay58, k1_pay56, k1_pay61, k1_pay60,
    k1_pay65, k1_pay64, k1_pay62, k1_pay67, k1_pay66,
    pointwise, Nat.reduceEqDiff, OfNat.ofNat_ne_one, ↓reduceDIte, zero_add, Matrix.cons_val_zero, Matrix.cons_val_one, Matrix.cons_val_fin_one, Fin.eta, sel_eq]
  simp only [Fin.sum_univ_castSucc, Finset.univ_eq_empty, Finset.sum_empty, zero_add]
  rfl

/-- The softmax over the found distances. -/
theorem pay15_apply TQ TV : k1_pay15 (F := Ideal) TQ TV (ix2 r j) = Spec.post (fun j => TV (ix2 r j) + ∑ k, TQ (ix2 r k) * TQ (ix2 r k)) j := by
  unfold k1_pay15
  simp only [pointwise, Nat.reduceEqDiff, OfNat.ofNat_ne_one, ↓reduceDIte, zero_add]
  simp only [zero_sub]
  rfl

/-- The regularisation: a half of the sum of squares. -/
theorem pay73_apply W b : k1_pay73 (F := Ideal) W b = Ideal.div (∑ c, ∑ k, W (ix2 c k) * W (ix2 c k) + ∑ k, b (ix2 0 k) * b (ix2 0 k)) (Ideal.ofBits .f32 0x40000000#32) := by
  unfold k1_pay73
  simp only [pointwise, Nat.reduceEqDiff, OfNat.ofNat_ne_one, ↓reduceDIte, zero_add, Fintype.sum_unique, Finset.univ_unique, Finset.sum_singleton]
  rw [show Ideal.ofBits .f32 0x40000000#32 = ((2 : ℝ) : EReal) from by simp [Ideal.ofBits, Ideal.ieee, -EReal.coe_mul]; norm_num]
  rw [show Ideal.ofBits .f32 0x3F000000#32 = ((2⁻¹ : ℝ) : EReal) from by simp [Ideal.ofBits, Ideal.ieee, -EReal.coe_mul]; norm_num]
  unfold Ideal.div
  rw [if_neg (by norm_num), EReal.coe_inv]

/-- The word the last point adds to `o`. -/
theorem endWord_apply (o : Ideal .f32) (TQ : FVec Ideal S1024x64 .f32) (TV PW : FVec Ideal S1024x16 .f32) :
    endWord (F := Ideal) o TQ TV TI PI PW
      = o + ∑ r : Fin 1024, Spec.kl (fun j => TV (ix2 r j) + ∑ k, TQ (ix2 r k) * TQ (ix2 r k)) (fun j => TI (ix2 r j)) (fun j => PI (ix2 r j)) (fun j => PW (ix2 r j)) := by
  have e69 : ∀ (X : FVec Ideal S1024x16 .f32) (r : Fin 1024) (j : Fin 16), k1_pay69 (F := Ideal) X (ix2 r j) = max (X (ix2 r j)) Spec.eps := by
    intro X r j; unfold k1_pay69; simp only [pointwise]; rfl
  have e71 : ∀ (r : Fin 1024) (j : Fin 16), k1_pay71 (F := Ideal) (ix2 r j) = Spec.eps := by
    intro r j; unfold k1_pay71; simp only [pointwise]; rfl
  have e68 : ∀ (r : Fin 1024) (j : Fin 16), k1_pay68 (F := Ideal) (tdOf (F := Ideal) PI TI) (ix2 r j) = if Spec.Dup (fun j => TI (ix2 r j)) (fun j => PI (ix2 r j)) j then 0 else 1 := by
    intro r j
    unfold k1_pay68
    simp only [pointwise, td_apply]
    by_cases h : ∃ k, PI (ix2 r k) = TI (ix2 r j)
    · rw [if_pos h, if_pos (show Spec.Dup (fun j => TI (ix2 r j)) (fun j => PI (ix2 r j)) j from h)]
      exact EReal.sub_self (EReal.coe_ne_top 1) (EReal.coe_ne_bot 1)
    · rw [if_neg h, if_neg (show ¬ Spec.Dup (fun j => TI (ix2 r j)) (fun j => PI (ix2 r j)) j from h)]
      exact sub_zero _
  unfold endWord k1_pay16 k1_pay17 k1_pay72 k1_pay2
  simp only [pointwise, Nat.reduceEqDiff, OfNat.ofNat_ne_one, ↓reduceDIte, zero_add, Fintype.sum_unique, Finset.univ_unique, Finset.sum_singleton]
  simp only [e68, e69, e71, qon_apply, pay15_apply]
  congr 1
  refine Finset.sum_congr rfl fun r _ => ?_
  unfold Spec.kl Spec.term Spec.sp Spec.sq Spec.p1 Spec.p2 Spec.q1 Spec.q2 Spec.qon
  have z1 : (0 : EReal) < 1 := zero_lt_one
  simp only [mul_ite, mul_zero, mul_one]
  congr 1
  refine Finset.sum_congr rfl fun j _ => ?_
  by_cases h : Spec.Dup (fun j => TI (ix2 r j)) (fun j => PI (ix2 r j)) j
  · simp only [if_pos h, lt_irrefl, if_false]
  · simp only [if_neg h, z1, if_true]
    rfl

end Cert.Proof.KerEnd

end
-- ==== Proof.End.lean ====
/-
  What the kernel's run leaves in each argument and each result (`endV`).
-/
module

public import proofs.«01_k».proof.Proof.Main

@[expose] public section

noncomputable section

namespace Cert.Proof.Gather

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ)

theorem scV_keep (d : Dev nD) (b : Ref sig .tc) (h0 : b ≠ main_v0_0) (h1 : b ≠ main_v0_1) : scV m d b = m ((d.tc : Thread nD τ).loc b) := by
  unfold scV
  rw [Function.update_of_ne (devRef_ne_of_ne h1), Function.update_of_ne (devRef_ne_of_ne h0)]

/-- What the host's operations leave alone. -/
theorem end_arg0 (d : Dev nD) : endV m d main_arg0 = m ((d.tc : Thread nD τ).loc main_arg0) := by
  refine Eq.trans ?_ ((Tc.outV_ne (tcV m) d main_arg0 (by decide)).trans (Eq.trans ?_ (scV_keep m d main_arg0 (by decide) (by decide))))
  · unfold endV opsB; after_results
  · unfold tcV opsA; after_results
theorem end_arg1 (d : Dev nD) : endV m d main_arg1 = m ((d.tc : Thread nD τ).loc main_arg1) := by
  refine Eq.trans ?_ ((Tc.outV_ne (tcV m) d main_arg1 (by decide)).trans (Eq.trans ?_ (scV_keep m d main_arg1 (by decide) (by decide))))
  · unfold endV opsB; after_results
  · unfold tcV opsA; after_results
theorem end_arg2 (d : Dev nD) : endV m d main_arg2 = m ((d.tc : Thread nD τ).loc main_arg2) := by
  refine Eq.trans ?_ ((Tc.outV_ne (tcV m) d main_arg2 (by decide)).trans (Eq.trans ?_ (scV_keep m d main_arg2 (by decide) (by decide))))
  · unfold endV opsB; after_results
  · unfold tcV opsA; after_results
theorem end_arg3 (d : Dev nD) : endV m d main_arg3 = m ((d.tc : Thread nD τ).loc main_arg3) := by
  refine Eq.trans ?_ ((Tc.outV_ne (tcV m) d main_arg3 (by decide)).trans (Eq.trans ?_ (scV_keep m d main_arg3 (by decide) (by decide))))
  · unfold endV opsB; after_results
  · unfold tcV opsA; after_results
theorem end_arg4 (d : Dev nD) : endV m d main_arg4 = m ((d.tc : Thread nD τ).loc main_arg4) := by
  refine Eq.trans ?_ ((Tc.outV_ne (tcV m) d main_arg4 (by decide)).trans (Eq.trans ?_ (scV_keep m d main_arg4 (by decide) (by decide))))
  · unfold endV opsB; after_results
  · unfold tcV opsA; after_results
theorem end_arg5 (d : Dev nD) : endV m d main_arg5 = m ((d.tc : Thread nD τ).loc main_arg5) := by
  refine Eq.trans ?_ ((Tc.outV_ne (tcV m) d main_arg5 (by decide)).trans (Eq.trans ?_ (scV_keep m d main_arg5 (by decide) (by decide))))
  · unfold endV opsB; after_results
  · unfold tcV opsA; after_results
theorem end_arg6 (d : Dev nD) : endV m d main_arg6 = m ((d.tc : Thread nD τ).loc main_arg6) := by
  refine Eq.trans ?_ ((Tc.outV_ne (tcV m) d main_arg6 (by decide)).trans (Eq.trans ?_ (scV_keep m d main_arg6 (by decide) (by decide))))
  · unfold endV opsB; after_results
  · unfold tcV opsA; after_results

/-- The mean divergence of the call's result. -/
def meanOf (O : FVec F S1x2 .f32) : FVec F S_ .f32 :=
  Host.divf (shapeCast S_ (extractStridedSlice S1x1 ![0, 0] O slices_S1x2_S1x1_0_0) shapeCasts_S1x1_S_) (constant S_ .f32 0x44800000#32)
/-- The total of the call's result. -/
def totalOf (O : FVec F S1x2 .f32) : FVec F S_ .f32 :=
  addf (mulf (constant S_ .f32 0x3F800000#32) (meanOf O))
    (mulf (constant S_ .f32 0x38D1B717#32) (shapeCast S_ (extractStridedSlice S1x1 ![0, 1] O slices_S1x2_S1x1_0_1) shapeCasts_S1x1_S_))

theorem end_mean (d : Dev nD) : endV m d main_v8 = meanOf (Tc.outFin (tcV m d)) := by
  rw [← Tc.outV_out (tcV m) d]
  unfold endV opsB meanOf; after_results
  rfl
theorem end_total (d : Dev nD) : endV m d main_v13 = totalOf (Tc.outFin (tcV m d)) := by
  rw [← Tc.outV_out (tcV m) d]
  unfold endV opsB totalOf meanOf; after_results
  rfl
theorem end_zero (d : Dev nD) : endV m d main_cst_3 = constant S_ .f32 0x00000000#32 := by
  unfold endV opsB; after_results

/-- A buffer of the TensorCore that no call scopes, at the end. -/
theorem QC.at {m : (ℓ : Loc nD τ sig) → Buf (Elt F) ℓ} {r} (h : QC m r) (d : Dev nD) (b : Ref sig .tc) (hb : (b : DevRef τ sig) ∈ Pipeline.ucRefs τ sig) :
    r.2.mem ((d.tc : Thread nD τ).loc b) = endV m d b := h.1 d b hb

/-- The arguments end unchanged. -/
theorem QC.args {m : (ℓ : Loc nD τ sig) → Buf (Elt F) ℓ} {r} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6) :=
  ⟨(h.at d main_arg0 (by decide)).trans (end_arg0 m d), (h.at d main_arg1 (by decide)).trans (end_arg1 m d),
    (h.at d main_arg2 (by decide)).trans (end_arg2 m d), (h.at d main_arg3 (by decide)).trans (end_arg3 m d),
    (h.at d main_arg4 (by decide)).trans (end_arg4 m d), (h.at d main_arg5 (by decide)).trans (end_arg5 m d),
    (h.at d main_arg6 (by decide)).trans (end_arg6 m d)⟩

/-- The frame: the arguments unchanged, every semaphore zero again. -/
theorem frame [∀ e, Nonempty (Elt F e)] (ρ : Dev nD → PrngReg) (hpre : PreOK m) :
    θ_run (Cert.KernelIdeal.defs (F := F)) (Cert.KernelIdeal.threads (F := F)) ⟨m, fun _ => 0, ρ⟩ fun r =>
      (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6))
      ∧ r.2.sem = fun _ => 0 :=
  (run_main m ρ hpre).mono fun _ h => ⟨fun d => h.args d, h.2⟩

end Cert.Proof.Gather

end
-- ==== Proof.Equal.lean ====
/-
  The kernel's mean divergence and regularisation are the reference's, wherever the precondition holds of every query
  (`out_knn`, `out_reg`), and its results are what the reference makes of them (`end_knn`, `end_total`, `end_zero`).
-/
module

public import proofs.«01_k».proof.Proof.Scores
public import proofs.«01_k».proof.Proof.KerEnd
public import proofs.«01_k».proof.Proof.End

@[expose] public section

noncomputable section

namespace Cert.Proof.Equal

open Idealize.ShloMosaic Idealize.ShloMosaic.TcCoe Cert.KernelIdeal Cert.KernelIdeal.Gen
open Cert.Proof Cert.Proof.Tc Cert.Proof.Gather Cert.Proof.Blocks

variable (m : (ℓ : Loc nD τ sig) → Buf (Elt Ideal) ℓ) (d : Dev nD)

abbrev aq : FVec Ideal S1024x64 .f32 := m ((d.tc : Thread nD τ).loc main_arg0)
abbrev aqi : IVec S1024 32 := m ((d.tc : Thread nD τ).loc main_arg1)
abbrev aW : FVec Ideal S64x64 .f32 := m ((d.tc : Thread nD τ).loc main_arg2)
abbrev ab : FVec Ideal S64 .f32 := m ((d.tc : Thread nD τ).loc main_arg3)
abbrev aX : FVec Ideal S100000x64 .f32 := m ((d.tc : Thread nD τ).loc main_arg4)
abbrev api : IVec S16384x16 32 := m ((d.tc : Thread nD τ).loc main_arg5)
abbrev apw : FVec Ideal S16384x16 .f32 := m ((d.tc : Thread nD τ).loc main_arg6)

theorem nearest_apply (q : FVec Ideal S1024x64 .f32) (W : FVec Ideal S64x64 .f32) (b : FVec Ideal S64 .f32) (X : FVec Ideal S100000x64 .f32) (r : Fin 1024) (j : Fin 16) :
    Ref.nearest (Ref.negDist (Ref.mapped q W b) X) (ix2 r j) = BitVec.ofNat 32 (Pre.key q W b X r (Fin.castLE (by omega) j)).val := by
  unfold Pre.key Ref.nearest
  exact (Topk.topK_row _ _ (by omega) r j).2

theorem kl_congr {l l' : Fin 16 → EReal} {t t' : Fin 16 → BitVec 32} {p : Fin 16 → BitVec 32} {w : Fin 16 → EReal} (h : ∀ j, l j = l' j) (h' : ∀ j, t j = t' j) :
    Spec.kl l t p w = Spec.kl l' t' p w := by
  rw [funext h, funext h']

variable {m d}

/-- A query's found keys are the reference's, and so are their squared distances. -/
theorem row_eq {r : Fin 1024} (R : Pre.Row (aq m d) (aqi m d) (aW m d) (ab m d) (aX m d) r) (j : Fin 16) :
    k1_pay13 (F := Ideal) (found (tcV m d)).1.1 (ix2 r j) + ∑ k, tqv (tcV m d) (ix2 r k) * tqv (tcV m d) (ix2 r k)
        = Ref.rowDist (Ref.mapped (aq m d) (aW m d) (ab m d)) (aX m d)
            (Ref.nearest (Ref.negDist (Ref.mapped (aq m d) (aW m d) (ab m d)) (aX m d))) (ix2 r j)
    ∧ k1_pay14 (found (tcV m d)).1.2 (ix2 r j)
        = Ref.nearest (Ref.negDist (Ref.mapped (aq m d) (aW m d) (ab m d)) (aX m d)) (ix2 r j) := by
  obtain ⟨ky, hky⟩ : ∃ ky, Pre.key (aq m d) (aW m d) (ab m d) (aX m d) r = ky := ⟨_, rfl⟩
  have hn := nearest_apply (aq m d) (aW m d) (ab m d) (aX m d) r j
  rw [hky] at hn
  obtain ⟨f1, f2⟩ := Nearest.found_apply (tcV m d) r (Scores.near R hky) (fun t c hc => Scores.vals_eq m d r t c hc) j
  have e13 : k1_pay13 (F := Ideal) (found (tcV m d)).1.1 = (found (tcV m d)).1.1 := by
    funext i; unfold k1_pay13; simp only [pointwise]
  have e14 : k1_pay14 (found (tcV m d)).1.2 = (found (tcV m d)).1.2 := by
    funext i; unfold k1_pay14; simp only [pointwise]
  rw [e13, e14, f1, f2, Ref.rowDist_apply _ _ _ r j _ hn, hn]
  simp only [tqv_apply]
  exact ⟨Scores.l2_eq R j, rfl⟩

variable (H : ∀ r : Fin 1024, Pre.Row (aq m d) (aqi m d) (aW m d) (ab m d) (aX m d) r)
include H

theorem named (j : S1024.Idx) : (aqi m d j).toNat < 16384 := by
  rw [show j = ix1 (j 0) from funext fun a => by fin_cases a; rfl]
  exact (H (j 0)).named

/-- The word of the sums. -/
theorem out_knn : Ideal.div (outFin (tcV m d) (ix2 0 0)) (Ideal.ofBits .f32 0x44800000#32)
    = Ref.knn (aq m d) (aqi m d) (aW m d) (ab m d) (aX m d) (api m d) (apw m d) ix0 := by
  unfold Ref.knn
  rw [Ref.meanLoss_apply]
  congr 1
  unfold outFin lastOut
  rw [if_pos (show ((ix2 0 0 : S1x2.Idx) 1).val = 0 from rfl), KerEnd.endWord_apply]
  have e0 : outFirst (tcV m d) (ValueIdx.ix2 0 0) = (0 : EReal) := by
    unfold outFirst firstOut
    rw [if_neg (by decide)]
    simp [Scalar.ofBits]
  rw [e0, zero_add]
  refine Finset.sum_congr rfl fun r _ => ?_
  rw [Ref.rowLoss_apply, Ref.gather_rows _ _ (aqi m d) (named H) (Ref.wrapped_apply _ (named H)), Ref.gather_rows _ _ (aqi m d) (named H) (Ref.wrapped_apply _ (named H)),
    blkI_eq, blkP_eq, tcV_idx, tcV_pw]
  exact kl_congr (fun j => (row_eq (H r) j).1) fun j => (row_eq (H r) j).2

omit H in
/-- The word of the regularisation. -/
theorem out_reg : outFin (tcV m d) (ix2 0 1) = Ref.regLoss (aW m d) (ab m d) ix0 := by
  rw [Ref.regLoss_apply]
  unfold outFin lastOut
  rw [if_neg (by decide)]
  unfold outFirst firstOut
  rw [if_pos (show ((ix2 0 1 : S1x2.Idx) 1).val = 1 from rfl), KerEnd.pay73_apply, blkW_eq, blkB_eq, tcV_arg2, tcV_bias]
  congr 2
  refine Finset.sum_congr rfl fun k _ => ?_
  simp only [pointwise]

omit H in
theorem at_nil (x : FVec Ideal S_ .f32) (i : S_.Idx) : x i = x ix0 := congrArg x (funext fun a => a.elim0)

/-- The first result's summand, and the third result: the mean divergence. -/
theorem end_knn : meanOf (F := Ideal) (outFin (tcV m d))
    = Ref.knn (aq m d) (aqi m d) (aW m d) (ab m d) (aX m d) (api m d) (apw m d) := by
  funext i
  refine (at_nil _ i).trans (Eq.trans ?_ (at_nil _ i).symm)
  refine Eq.trans ?_ (out_knn H)
  unfold meanOf
  simp only [pointwise, Matrix.cons_val_zero, Matrix.cons_val_one, Matrix.cons_val_fin_one, zero_add, Fin.eta]
  done

/-- The first result: the total. -/
theorem end_total : totalOf (F := Ideal) (outFin (tcV m d))
    = Ref.total (Ref.knn (aq m d) (aqi m d) (aW m d) (ab m d) (aX m d) (api m d) (apw m d)) (Ref.regLoss (aW m d) (ab m d)) := by
  unfold totalOf Ref.total
  rw [end_knn H]
  funext i
  refine congrArg (fun y : EReal => Ideal.ofBits .f32 0x3F800000#32 * Ref.knn (aq m d) (aqi m d) (aW m d) (ab m d) (aX m d) (api m d) (apw m d) i + Ideal.ofBits .f32 0x38D1B717#32 * y) ?_
  refine Eq.trans ?_ ((out_reg (m := m) (d := d)).trans (at_nil _ i).symm)
  refine (at_nil _ i).trans ?_
  simp only [pointwise, Matrix.cons_val_zero, Matrix.cons_val_one, Matrix.cons_val_fin_one, zero_add, Fin.eta]
  done

end Cert.Proof.Equal

end
-- ==== Proof.Same.lean ====
/-
  The kernel and its ideal form are one program text under two names: the definitions, `@main` and the threads of the
  one are those of the other, so that a run proved of the ideal form at any float model is a run of the kernel.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem
open Cert.Kernel.Gen Cert.KernelIdeal.Gen

variable {F : FTy → Type} [FloatOps F]

set_option maxHeartbeats 4000000

/-- Every label's body is the same on every processor. -/
theorem defs₀_eq : Cert.Kernel.defs₀ (F := F) = Cert.KernelIdeal.defs₀ (F := F) := by
  funext p l a
  rcases p with _ | c | ⟨c, s⟩ <;> rcases l with ⟨_ | _ | n, h⟩ <;>
    first
    | exact absurd h (by omega)
    | rfl

/-- The two calls are wrapped the same. -/
theorem defs_eq : Cert.Kernel.defs (F := F) = Cert.KernelIdeal.defs (F := F) :=
  congrArg (fun D => Cert.KernelIdeal.sc (F := F).defs (Pipeline.defs Cert.KernelIdeal.pcfgs D)) defs₀_eq

/-- `@main` is the same on every device. -/
theorem main_eq : Cert.Kernel.main (F := F) = Cert.KernelIdeal.main (F := F) := (rfl)

/-- Every thread runs the same. -/
theorem threads_eq : Cert.Kernel.threads (F := F) = Cert.KernelIdeal.threads (F := F) :=
  congrArg (fun M => Cert.KernelIdeal.sc (F := F).threads M) main_eq

end Cert.Proof.Same

end
-- ==== Proof.lean ====
/-
  The proof of `Cert.Claim` (proofs.«01_k».proof.Defs): the frames of the kernel, of its ideal form and of the
  reference, and the equality of the kernel's three results with the reference's wherever `search_exact` holds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_named
public import proofs.«01_k».proof.Proof.PreFacts
public import proofs.«01_k».proof.Proof.Equal
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem

/-- The precondition, read off: the row numbers are below 16384. -/
theorem pre_ok {F : FTy → Type} [FloatOps F] [Cert.Pre_rows_named.Facts] (a0 a1 a2 a3 a4 a5 a6)
    (h : Cert.Pre_rows_named.fn (F := F) a0 a1 a2 a3 a4 a5 a6 = fun _ => 1#1) (j) : (a1 j : BitVec 32).toNat < 16384 := by
  have e := congrFun h j
  simp only [Cert.Pre_rows_named.fn, andi, cmpi, broadcastInDim, constantI] at e
  exact Gather.word_lt _ e

open Cert.Kernel.Gen Cert.KernelIdeal.Gen Cert.ReferenceIdeal.Gen Cert.Pre_rows_named.Gen Cert.Proof.PreFacts

theorem frame_kernel : Cert.quiescent_Kernel := by
  intro m g hm
  rw [Same.defs_eq, Same.threads_eq]
  exact Gather.frame (F := Bits) m g fun d j => pre_ok _ _ _ _ _ _ _ (hm d) j

theorem frame_ideal : Cert.quiescent_KernelIdeal := fun m g hm =>
  Gather.frame (F := Ideal) m g fun d j => pre_ok _ _ _ _ _ _ _ (hm d) j

/-- What `search_exact` says of each query of each device. -/
theorem rows {m} (hm : Cert.Pre_KernelIdeal_search_exact m) (d : Dev Cert.KernelIdeal.nD) (r : Fin 1024) :
    Pre.Row (Equal.aq m d) (Equal.aqi m d) (Equal.aW m d) (Equal.ab m d) (Equal.aX m d) r :=
  Pre.row _ _ _ _ _ (Equal.api m d) (Equal.apw m d) r (congrFun (hm d) (ix1 r))

theorem rows_ok {m} (hm : Cert.Pre_KernelIdeal_search_exact m) : Gather.PreOK m := fun d j => Equal.named (rows hm d) j

theorem frame_ideal_pre : Cert.quiescent_KernelIdeal_pre_search_exact := fun m g hm =>
  Gather.frame (F := Ideal) m g (rows_ok hm)

theorem ref_args {m : (ℓ : Loc Cert.ReferenceIdeal.nD Cert.ReferenceIdeal.τ Cert.ReferenceIdeal.sig) → Buf (Elt Ideal) ℓ} {r : PUnit × MemSt Cert.ReferenceIdeal.nD Cert.ReferenceIdeal.τ Cert.ReferenceIdeal.sig (Elt Ideal)}
    (c : Dev Cert.ReferenceIdeal.nD)
    (h : ∀ b : Ref Cert.ReferenceIdeal.sig .tc, r.2.mem ((c.tc : Thread Cert.ReferenceIdeal.nD Cert.ReferenceIdeal.τ).loc b)
      = StableHlo.after Ref.ops (fun b => m (c, b)) (Proc.tc.devRef b)) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) := by
  obtain ⟨e0, e1, e2, e3, e4, e5, e6⟩ := Ref.keep (F := Ideal) (fun b => m (c, b))
  exact ⟨(h _).trans e0, (h _).trans e1, (h _).trans e2, (h _).trans e3, (h _).trans e4, (h _).trans e5, (h _).trans e6⟩

theorem frame_reference : Cert.quiescent_ReferenceIdeal := fun m g _ =>
  θ_run_mono (Ref.run_main (F := Ideal) m g) fun r h => ⟨fun c => ref_args c (h c), Idealize.ShloMosaic.sem_eq_zero_of_no_sems (by decide) r.2⟩

theorem frame_reference_pre : Cert.quiescent_ReferenceIdeal_pre_search_exact := fun m g _ => frame_reference m g trivial

open Cert.ReferenceIdeal in
theorem knn_congr {q q' : FVec Ideal S1024x64 .f32} {qi qi' : IVec S1024 32} {W W' : FVec Ideal S64x64 .f32} {b b' : FVec Ideal S64 .f32}
    {X X' : FVec Ideal S100000x64 .f32} {pi pi' : IVec S16384x16 32} {pw pw' : FVec Ideal S16384x16 .f32}
    (e0 : q = q') (e1 : qi = qi') (e2 : W = W') (e3 : b = b') (e4 : X = X') (e5 : pi = pi') (e6 : pw = pw') :
    Ref.knn q qi W b X pi pw = Ref.knn q' qi' W' b' X' pi' pw' := by
  rw [e0, e1, e2, e3, e4, e5, e6]

/-- The kernel's three results are the reference's. -/
theorem equal : Cert.algebraic_KernelIdeal_ReferenceIdeal_pre_search_exact := by
  intro m g m' g' hm hagree
  refine ⟨fun c => Ref.total (Ref.knn (Equal.aq m c) (Equal.aqi m c) (Equal.aW m c) (Equal.ab m c) (Equal.aX m c) (Equal.api m c) (Equal.apw m c))
      (Ref.regLoss (Equal.aW m c) (Equal.ab m c)),
    fun c => constant (F := Ideal) Cert.KernelIdeal.S_ .f32 0x00000000#32,
    fun c => Ref.knn (Equal.aq m c) (Equal.aqi m c) (Equal.aW m c) (Equal.ab m c) (Equal.aX m c) (Equal.api m c) (Equal.apw m c),
    θ_run_mono (Gather.run_main (F := Ideal) m g (rows_ok hm)) fun r h c => ⟨?_, ?_, ?_, h.args c⟩,
    θ_run_mono (Ref.run_main (F := Ideal) m' g') fun r h c => ⟨?_, ?_, ?_, ref_args c (h c)⟩⟩
  · exact (h.at c Cert.KernelIdeal.main_v13 (by decide)).trans ((Gather.end_total m c).trans (Equal.end_total (rows hm c)))
  · exact (h.at c Cert.KernelIdeal.main_cst_3 (by decide)).trans (Gather.end_zero m c)
  · exact (h.at c Cert.KernelIdeal.main_v8 (by decide)).trans ((Gather.end_mean m c).trans (Equal.end_knn (rows hm c)))
  · obtain ⟨e0, e1, e2, e3, e4, e5, e6⟩ := hagree c
    exact ((h c _).trans (Ref.res_total _)).trans (congrArg₂ Ref.total (knn_congr e0 e1 e2 e3 e4 e5 e6) (congrArg₂ Ref.regLoss e2 e3))
  · exact (h c _).trans (Ref.res_zero _)
  · obtain ⟨e0, e1, e2, e3, e4, e5, e6⟩ := hagree c
    exact ((h c _).trans (Ref.res_knn _)).trans (knn_congr e0 e1 e2 e3 e4 e5 e6)

theorem claim : Cert.Claim := ⟨Cert.Kernel.Gen.facts, Cert.KernelIdeal.Gen.facts, Cert.ReferenceIdeal.Gen.facts, Cert.Pre_rows_named.Gen.facts,
  Cert.Proof.PreFacts.facts, frame_kernel, frame_ideal, frame_ideal_pre, frame_reference, frame_reference_pre, trivial, equal⟩

end Cert.Proof

end
